-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates [hPre_gates : Cert.Pre_gates.Facts] (m : (ℓ : Loc Cert.MoeIdeal.nD Cert.MoeIdeal.τ Cert.MoeIdeal.sig) → Buf (Elt Ideal) ℓ) : Prop :=
  ∀ c : Dev Cert.MoeIdeal.nD,
    (Cert.Pre_gates.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates [hPre_gates : Cert.Pre_gates.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_RgIn (m : (ℓ : Loc Cert.RgIn.nD Cert.RgIn.τ Cert.RgIn.sig) → Buf (Elt Bits) ℓ) : Prop :=
  True

def Pre_RgInIdeal (m : (ℓ : Loc Cert.RgInIdeal.nD Cert.RgInIdeal.τ Cert.RgInIdeal.sig) → Buf (Elt Ideal) ℓ) : Prop :=
  True

def Pre_RgInRefIdeal (m : (ℓ : Loc Cert.RgInRefIdeal.nD Cert.RgInRefIdeal.τ Cert.RgInRefIdeal.sig) → Buf (Elt Ideal) ℓ) : Prop :=
  True

def Pre_RgOut (m : (ℓ : Loc Cert.RgOut.nD Cert.RgOut.τ Cert.RgOut.sig) → Buf (Elt Bits) ℓ) : Prop :=
  True

def Pre_RgOutIdeal (m : (ℓ : Loc Cert.RgOutIdeal.nD Cert.RgOutIdeal.τ Cert.RgOutIdeal.sig) → Buf (Elt Ideal) ℓ) : Prop :=
  True

def Pre_RgOutRefIdeal (m : (ℓ : Loc Cert.RgOutRefIdeal.nD Cert.RgOutRefIdeal.τ Cert.RgOutRefIdeal.sig) → Buf (Elt Ideal) ℓ) : Prop :=
  True

def Pre_MoeCtx (m : (ℓ : Loc Cert.MoeCtx.nD Cert.MoeCtx.τ Cert.MoeCtx.sig) → Buf (Elt Bits) ℓ) : Prop :=
  True

def Pre_MoeCtxIdeal (m : (ℓ : Loc Cert.MoeCtxIdeal.nD Cert.MoeCtxIdeal.τ Cert.MoeCtxIdeal.sig) → Buf (Elt Ideal) ℓ) : Prop :=
  True

def Pre_MoeCtxIdeal_gates_ctx [hPre_gates_ctx : Cert.Pre_gates_ctx.Facts] (m : (ℓ : Loc Cert.MoeCtxIdeal.nD Cert.MoeCtxIdeal.τ Cert.MoeCtxIdeal.sig) → Buf (Elt Ideal) ℓ) : Prop :=
  ∀ c : Dev Cert.MoeCtxIdeal.nD,
    (Cert.Pre_gates_ctx.fn (F := Ideal) (m ((c.tc : Thread Cert.MoeCtxIdeal.nD Cert.MoeCtxIdeal.τ).loc Cert.MoeCtxIdeal.main_arg0)) (m ((c.tc : Thread Cert.MoeCtxIdeal.nD Cert.MoeCtxIdeal.τ).loc Cert.MoeCtxIdeal.main_arg1)) (m ((c.tc : Thread Cert.MoeCtxIdeal.nD Cert.MoeCtxIdeal.τ).loc Cert.MoeCtxIdeal.main_arg2)) (m ((c.tc : Thread Cert.MoeCtxIdeal.nD Cert.MoeCtxIdeal.τ).loc Cert.MoeCtxIdeal.main_arg3)) (m ((c.tc : Thread Cert.MoeCtxIdeal.nD Cert.MoeCtxIdeal.τ).loc Cert.MoeCtxIdeal.main_arg4)) (m ((c.tc : Thread Cert.MoeCtxIdeal.nD Cert.MoeCtxIdeal.τ).loc Cert.MoeCtxIdeal.main_arg5)) (m ((c.tc : Thread Cert.MoeCtxIdeal.nD Cert.MoeCtxIdeal.τ).loc Cert.MoeCtxIdeal.main_arg6))) = (fun _ => 1#1)

def Pre_MoeCtxRefIdeal (m : (ℓ : Loc Cert.MoeCtxRefIdeal.nD Cert.MoeCtxRefIdeal.τ Cert.MoeCtxRefIdeal.sig) → Buf (Elt Ideal) ℓ) : Prop :=
  True

def Pre_MoeCtxRefIdeal_gates_ctx [hPre_gates_ctx : Cert.Pre_gates_ctx.Facts] (m : (ℓ : Loc Cert.MoeCtxRefIdeal.nD Cert.MoeCtxRefIdeal.τ Cert.MoeCtxRefIdeal.sig) → Buf (Elt Ideal) ℓ) : Prop :=
  ∀ c : Dev Cert.MoeCtxRefIdeal.nD,
    (Cert.Pre_gates_ctx.fn (F := Ideal) (m ((c.tc : Thread Cert.MoeCtxRefIdeal.nD Cert.MoeCtxRefIdeal.τ).loc Cert.MoeCtxRefIdeal.main_arg0)) (m ((c.tc : Thread Cert.MoeCtxRefIdeal.nD Cert.MoeCtxRefIdeal.τ).loc Cert.MoeCtxRefIdeal.main_arg1)) (m ((c.tc : Thread Cert.MoeCtxRefIdeal.nD Cert.MoeCtxRefIdeal.τ).loc Cert.MoeCtxRefIdeal.main_arg2)) (m ((c.tc : Thread Cert.MoeCtxRefIdeal.nD Cert.MoeCtxRefIdeal.τ).loc Cert.MoeCtxRefIdeal.main_arg3)) (m ((c.tc : Thread Cert.MoeCtxRefIdeal.nD Cert.MoeCtxRefIdeal.τ).loc Cert.MoeCtxRefIdeal.main_arg4)) (m ((c.tc : Thread Cert.MoeCtxRefIdeal.nD Cert.MoeCtxRefIdeal.τ).loc Cert.MoeCtxRefIdeal.main_arg5)) (m ((c.tc : Thread Cert.MoeCtxRefIdeal.nD Cert.MoeCtxRefIdeal.τ).loc Cert.MoeCtxRefIdeal.main_arg6))) = (fun _ => 1#1)

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_RgOutCtx (m : (ℓ : Loc Cert.RgOutCtx.nD Cert.RgOutCtx.τ Cert.RgOutCtx.sig) → Buf (Elt Bits) ℓ) : Prop :=
  True

def Pre_RgOutCtxIdeal (m : (ℓ : Loc Cert.RgOutCtxIdeal.nD Cert.RgOutCtxIdeal.τ Cert.RgOutCtxIdeal.sig) → Buf (Elt Ideal) ℓ) : Prop :=
  True

def Pre_RgOutCtxRefIdeal (m : (ℓ : Loc Cert.RgOutCtxRefIdeal.nD Cert.RgOutCtxRefIdeal.τ Cert.RgOutCtxRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_gates [hMoeIdeal : Cert.MoeIdeal.Facts] [hPre_gates : Cert.Pre_gates.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_gates [hMoeRefIdeal : Cert.MoeRefIdeal.Facts] [hPre_gates : Cert.Pre_gates.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_RgIn [hRgIn : Cert.RgIn.Facts] : Prop :=
  ∀ (m : (ℓ : Loc Cert.RgIn.nD Cert.RgIn.τ Cert.RgIn.sig) → Buf (Elt Bits) ℓ) (g : Dev Cert.RgIn.nD → PrngReg), Pre_RgIn m →
    θ_run (Cert.RgIn.defs (F := Bits)) (onTc (τ := Cert.RgIn.τ) (Cert.RgIn.main (F := Bits))) ⟨m, fun _ => 0, g⟩ (fun r => (∀ c : Dev Cert.RgIn.nD,
      r.2.mem ((c.tc : Thread Cert.RgIn.nD Cert.RgIn.τ).loc Cert.RgIn.main_arg0) = m ((c.tc : Thread Cert.RgIn.nD Cert.RgIn.τ).loc Cert.RgIn.main_arg0)
      ∧ r.2.mem ((c.tc : Thread Cert.RgIn.nD Cert.RgIn.τ).loc Cert.RgIn.main_arg1) = m ((c.tc : Thread Cert.RgIn.nD Cert.RgIn.τ).loc Cert.RgIn.main_arg1)
      ∧ r.2.mem ((c.tc : Thread Cert.RgIn.nD Cert.RgIn.τ).loc Cert.RgIn.main_arg2) = m ((c.tc : Thread Cert.RgIn.nD Cert.RgIn.τ).loc Cert.RgIn.main_arg2)
      ∧ r.2.mem ((c.tc : Thread Cert.RgIn.nD Cert.RgIn.τ).loc Cert.RgIn.main_arg3) = m ((c.tc : Thread Cert.RgIn.nD Cert.RgIn.τ).loc Cert.RgIn.main_arg3)
      ∧ r.2.mem ((c.tc : Thread Cert.RgIn.nD Cert.RgIn.τ).loc Cert.RgIn.main_arg4) = m ((c.tc : Thread Cert.RgIn.nD Cert.RgIn.τ).loc Cert.RgIn.main_arg4)
      ∧ r.2.mem ((c.tc : Thread Cert.RgIn.nD Cert.RgIn.τ).loc Cert.RgIn.main_arg5) = m ((c.tc : Thread Cert.RgIn.nD Cert.RgIn.τ).loc Cert.RgIn.main_arg5)
      ∧ r.2.mem ((c.tc : Thread Cert.RgIn.nD Cert.RgIn.τ).loc Cert.RgIn.main_arg6) = m ((c.tc : Thread Cert.RgIn.nD Cert.RgIn.τ).loc Cert.RgIn.main_arg6)
      ∧ r.2.mem ((c.tc : Thread Cert.RgIn.nD Cert.RgIn.τ).loc Cert.RgIn.main_arg7) = m ((c.tc : Thread Cert.RgIn.nD Cert.RgIn.τ).loc Cert.RgIn.main_arg7))
      ∧ r.2.sem = fun _ => 0)

def quiescent_RgInIdeal [hRgInIdeal : Cert.RgInIdeal.Facts] : Prop :=
  ∀ (m : (ℓ : Loc Cert.RgInIdeal.nD Cert.RgInIdeal.τ Cert.RgInIdeal.sig) → Buf (Elt Ideal) ℓ) (g : Dev Cert.RgInIdeal.nD → PrngReg), Pre_RgInIdeal m →
    θ_run (Cert.RgInIdeal.defs (F := Ideal)) (onTc (τ := Cert.RgInIdeal.τ) (Cert.RgInIdeal.main (F := Ideal))) ⟨m, fun _ => 0, g⟩ (fun r => (∀ c : Dev Cert.RgInIdeal.nD,
      r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
      ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1)
      ∧ r.2.mem ((c.tc : Thread Cert.RgInIdeal.nD Cert.RgInIdeal.τ).loc Cert.RgInIdeal.main_arg2) = m ((c.tc : Thread Cert.RgInIdeal.nD Cert.RgInIdeal.τ).loc Cert.RgInIdeal.main_arg2)
      ∧ r.2.mem ((c.tc : Thread Cert.RgInIdeal.nD Cert.RgInIdeal.τ).loc Cert.RgInIdeal.main_arg3) = m ((c.tc : Thread Cert.RgInIdeal.nD Cert.RgInIdeal.τ).loc Cert.RgInIdeal.main_arg3)
      ∧ r.2.mem ((c.tc : Thread Cert.RgInIdeal.nD Cert.RgInIdeal.τ).loc Cert.RgInIdeal.main_arg4) = m ((c.tc : Thread Cert.RgInIdeal.nD Cert.RgInIdeal.τ).loc Cert.RgInIdeal.main_arg4)
      ∧ r.2.mem ((c.tc : Thread Cert.RgInIdeal.nD Cert.RgInIdeal.τ).loc Cert.RgInIdeal.main_arg5) = m ((c.tc : Thread Cert.RgInIdeal.nD Cert.RgInIdeal.τ).loc Cert.RgInIdeal.main_arg5)
      ∧ r.2.mem ((c.tc : Thread Cert.RgInIdeal.nD Cert.RgInIdeal.τ).loc Cert.RgInIdeal.main_arg6) = m ((c.tc : Thread Cert.RgInIdeal.nD Cert.RgInIdeal.τ).loc Cert.RgInIdeal.main_arg6)
      ∧ r.2.mem ((c.tc : Thread Cert.RgInIdeal.nD Cert.RgInIdeal.τ).loc Cert.RgInIdeal.main_arg7) = m ((c.tc : Thread Cert.RgInIdeal.nD Cert.RgInIdeal.τ).loc Cert.RgInIdeal.main_arg7))
      ∧ r.2.sem = fun _ => 0)

def quiescent_RgInRefIdeal [hRgInRefIdeal : Cert.RgInRefIdeal.Facts] : Prop :=
  ∀ (m : (ℓ : Loc Cert.RgInRefIdeal.nD Cert.RgInRefIdeal.τ Cert.RgInRefIdeal.sig) → Buf (Elt Ideal) ℓ) (g : Dev Cert.RgInRefIdeal.nD → PrngReg), Pre_RgInRefIdeal m →
    θ_run (Cert.RgInRefIdeal.defs (F := Ideal)) (onTc (τ := Cert.RgInRefIdeal.τ) (Cert.RgInRefIdeal.main (F := Ideal))) ⟨m, fun _ => 0, g⟩ (fun r => (∀ c : Dev Cert.RgInRefIdeal.nD,
      r.2.mem ((c.tc : Thread Cert.RgInRefIdeal.nD Cert.RgInRefIdeal.τ).loc Cert.RgInRefIdeal.main_arg0) = m ((c.tc : Thread Cert.RgInRefIdeal.nD Cert.RgInRefIdeal.τ).loc Cert.RgInRefIdeal.main_arg0)
      ∧ r.2.mem ((c.tc : Thread Cert.RgInRefIdeal.nD Cert.RgInRefIdeal.τ).loc Cert.RgInRefIdeal.main_arg1) = m ((c.tc : Thread Cert.RgInRefIdeal.nD Cert.RgInRefIdeal.τ).loc Cert.RgInRefIdeal.main_arg1)
      ∧ r.2.mem ((c.tc : Thread Cert.RgInRefIdeal.nD Cert.RgInRefIdeal.τ).loc Cert.RgInRefIdeal.main_arg2) = m ((c.tc : Thread Cert.RgInRefIdeal.nD Cert.RgInRefIdeal.τ).loc Cert.RgInRefIdeal.main_arg2)
      ∧ r.2.mem ((c.tc : Thread Cert.RgInRefIdeal.nD Cert.RgInRefIdeal.τ).loc Cert.RgInRefIdeal.main_arg3) = m ((c.tc : Thread Cert.RgInRefIdeal.nD Cert.RgInRefIdeal.τ).loc Cert.RgInRefIdeal.main_arg3)
      ∧ r.2.mem ((c.tc : Thread Cert.RgInRefIdeal.nD Cert.RgInRefIdeal.τ).loc Cert.RgInRefIdeal.main_arg4) = m ((c.tc : Thread Cert.RgInRefIdeal.nD Cert.RgInRefIdeal.τ).loc Cert.RgInRefIdeal.main_arg4)
      ∧ r.2.mem ((c.tc : Thread Cert.RgInRefIdeal.nD Cert.RgInRefIdeal.τ).loc Cert.RgInRefIdeal.main_arg5) = m ((c.tc : Thread Cert.RgInRefIdeal.nD Cert.RgInRefIdeal.τ).loc Cert.RgInRefIdeal.main_arg5)
      ∧ r.2.mem ((c.tc : Thread Cert.RgInRefIdeal.nD Cert.RgInRefIdeal.τ).loc Cert.RgInRefIdeal.main_arg6) = m ((c.tc : Thread Cert.RgInRefIdeal.nD Cert.RgInRefIdeal.τ).loc Cert.RgInRefIdeal.main_arg6)
      ∧ r.2.mem ((c.tc : Thread Cert.RgInRefIdeal.nD Cert.RgInRefIdeal.τ).loc Cert.RgInRefIdeal.main_arg7) = m ((c.tc : Thread Cert.RgInRefIdeal.nD Cert.RgInRefIdeal.τ).loc Cert.RgInRefIdeal.main_arg7))
      ∧ r.2.sem = fun _ => 0)

def quiescent_RgOut [hRgOut : Cert.RgOut.Facts] : Prop :=
  ∀ (m : (ℓ : Loc Cert.RgOut.nD Cert.RgOut.τ Cert.RgOut.sig) → Buf (Elt Bits) ℓ) (g : Dev Cert.RgOut.nD → PrngReg), Pre_RgOut m →
    θ_run (Cert.RgOut.defs (F := Bits)) (onTc (τ := Cert.RgOut.τ) (Cert.RgOut.main (F := Bits))) ⟨m, fun _ => 0, g⟩ (fun r => (∀ c : Dev Cert.RgOut.nD,
      r.2.mem ((c.tc : Thread Cert.RgOut.nD Cert.RgOut.τ).loc Cert.RgOut.main_arg0) = m ((c.tc : Thread Cert.RgOut.nD Cert.RgOut.τ).loc Cert.RgOut.main_arg0)
      ∧ r.2.mem ((c.tc : Thread Cert.RgOut.nD Cert.RgOut.τ).loc Cert.RgOut.main_arg1) = m ((c.tc : Thread Cert.RgOut.nD Cert.RgOut.τ).loc Cert.RgOut.main_arg1)
      ∧ r.2.mem ((c.tc : Thread Cert.RgOut.nD Cert.RgOut.τ).loc Cert.RgOut.main_arg2) = m ((c.tc : Thread Cert.RgOut.nD Cert.RgOut.τ).loc Cert.RgOut.main_arg2)
      ∧ r.2.mem ((c.tc : Thread Cert.RgOut.nD Cert.RgOut.τ).loc Cert.RgOut.main_arg3) = m ((c.tc : Thread Cert.RgOut.nD Cert.RgOut.τ).loc Cert.RgOut.main_arg3)
      ∧ r.2.mem ((c.tc : Thread Cert.RgOut.nD Cert.RgOut.τ).loc Cert.RgOut.main_arg4) = m ((c.tc : Thread Cert.RgOut.nD Cert.RgOut.τ).loc Cert.RgOut.main_arg4)
      ∧ r.2.mem ((c.tc : Thread Cert.RgOut.nD Cert.RgOut.τ).loc Cert.RgOut.main_arg5) = m ((c.tc : Thread Cert.RgOut.nD Cert.RgOut.τ).loc Cert.RgOut.main_arg5)
      ∧ r.2.mem ((c.tc : Thread Cert.RgOut.nD Cert.RgOut.τ).loc Cert.RgOut.main_arg6) = m ((c.tc : Thread Cert.RgOut.nD Cert.RgOut.τ).loc Cert.RgOut.main_arg6)
      ∧ r.2.mem ((c.tc : Thread Cert.RgOut.nD Cert.RgOut.τ).loc Cert.RgOut.main_arg7) = m ((c.tc : Thread Cert.RgOut.nD Cert.RgOut.τ).loc Cert.RgOut.main_arg7)
      ∧ r.2.mem ((c.tc : Thread Cert.RgOut.nD Cert.RgOut.τ).loc Cert.RgOut.main_arg8) = m ((c.tc : Thread Cert.RgOut.nD Cert.RgOut.τ).loc Cert.RgOut.main_arg8)
      ∧ r.2.mem ((c.tc : Thread Cert.RgOut.nD Cert.RgOut.τ).loc Cert.RgOut.main_arg9) = m ((c.tc : Thread Cert.RgOut.nD Cert.RgOut.τ).loc Cert.RgOut.main_arg9))
      ∧ r.2.sem = fun _ => 0)

def quiescent_RgOutIdeal [hRgOutIdeal : Cert.RgOutIdeal.Facts] : Prop :=
  ∀ (m : (ℓ : Loc Cert.RgOutIdeal.nD Cert.RgOutIdeal.τ Cert.RgOutIdeal.sig) → Buf (Elt Ideal) ℓ) (g : Dev Cert.RgOutIdeal.nD → PrngReg), Pre_RgOutIdeal m →
    θ_run (Cert.RgOutIdeal.defs (F := Ideal)) (onTc (τ := Cert.RgOutIdeal.τ) (Cert.RgOutIdeal.main (F := Ideal))) ⟨m, fun _ => 0, g⟩ (fun r => (∀ c : Dev Cert.RgOutIdeal.nD,
      r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
      ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
      ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
      ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
      ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
      ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5)
      ∧ r.2.mem ((c.tc : Thread Cert.RgOutIdeal.nD Cert.RgOutIdeal.τ).loc Cert.RgOutIdeal.main_arg6) = m ((c.tc : Thread Cert.RgOutIdeal.nD Cert.RgOutIdeal.τ).loc Cert.RgOutIdeal.main_arg6)
      ∧ r.2.mem ((c.tc : Thread Cert.RgOutIdeal.nD Cert.RgOutIdeal.τ).loc Cert.RgOutIdeal.main_arg7) = m ((c.tc : Thread Cert.RgOutIdeal.nD Cert.RgOutIdeal.τ).loc Cert.RgOutIdeal.main_arg7)
      ∧ r.2.mem ((c.tc : Thread Cert.RgOutIdeal.nD Cert.RgOutIdeal.τ).loc Cert.RgOutIdeal.main_arg8) = m ((c.tc : Thread Cert.RgOutIdeal.nD Cert.RgOutIdeal.τ).loc Cert.RgOutIdeal.main_arg8)
      ∧ r.2.mem ((c.tc : Thread Cert.RgOutIdeal.nD Cert.RgOutIdeal.τ).loc Cert.RgOutIdeal.main_arg9) = m ((c.tc : Thread Cert.RgOutIdeal.nD Cert.RgOutIdeal.τ).loc Cert.RgOutIdeal.main_arg9))
      ∧ r.2.sem = fun _ => 0)

def quiescent_RgOutRefIdeal [hRgOutRefIdeal : Cert.RgOutRefIdeal.Facts] : Prop :=
  ∀ (m : (ℓ : Loc Cert.RgOutRefIdeal.nD Cert.RgOutRefIdeal.τ Cert.RgOutRefIdeal.sig) → Buf (Elt Ideal) ℓ) (g : Dev Cert.RgOutRefIdeal.nD → PrngReg), Pre_RgOutRefIdeal m →
    θ_run (Cert.RgOutRefIdeal.defs (F := Ideal)) (onTc (τ := Cert.RgOutRefIdeal.τ) (Cert.RgOutRefIdeal.main (F := Ideal))) ⟨m, fun _ => 0, g⟩ (fun r => (∀ c : Dev Cert.RgOutRefIdeal.nD,
      r.2.mem ((c.tc : Thread Cert.RgOutRefIdeal.nD Cert.RgOutRefIdeal.τ).loc Cert.RgOutRefIdeal.main_arg0) = m ((c.tc : Thread Cert.RgOutRefIdeal.nD Cert.RgOutRefIdeal.τ).loc Cert.RgOutRefIdeal.main_arg0)
      ∧ r.2.mem ((c.tc : Thread Cert.RgOutRefIdeal.nD Cert.RgOutRefIdeal.τ).loc Cert.RgOutRefIdeal.main_arg1) = m ((c.tc : Thread Cert.RgOutRefIdeal.nD Cert.RgOutRefIdeal.τ).loc Cert.RgOutRefIdeal.main_arg1)
      ∧ r.2.mem ((c.tc : Thread Cert.RgOutRefIdeal.nD Cert.RgOutRefIdeal.τ).loc Cert.RgOutRefIdeal.main_arg2) = m ((c.tc : Thread Cert.RgOutRefIdeal.nD Cert.RgOutRefIdeal.τ).loc Cert.RgOutRefIdeal.main_arg2)
      ∧ r.2.mem ((c.tc : Thread Cert.RgOutRefIdeal.nD Cert.RgOutRefIdeal.τ).loc Cert.RgOutRefIdeal.main_arg3) = m ((c.tc : Thread Cert.RgOutRefIdeal.nD Cert.RgOutRefIdeal.τ).loc Cert.RgOutRefIdeal.main_arg3)
      ∧ r.2.mem ((c.tc : Thread Cert.RgOutRefIdeal.nD Cert.RgOutRefIdeal.τ).loc Cert.RgOutRefIdeal.main_arg4) = m ((c.tc : Thread Cert.RgOutRefIdeal.nD Cert.RgOutRefIdeal.τ).loc Cert.RgOutRefIdeal.main_arg4)
      ∧ r.2.mem ((c.tc : Thread Cert.RgOutRefIdeal.nD Cert.RgOutRefIdeal.τ).loc Cert.RgOutRefIdeal.main_arg5) = m ((c.tc : Thread Cert.RgOutRefIdeal.nD Cert.RgOutRefIdeal.τ).loc Cert.RgOutRefIdeal.main_arg5)
      ∧ r.2.mem ((c.tc : Thread Cert.RgOutRefIdeal.nD Cert.RgOutRefIdeal.τ).loc Cert.RgOutRefIdeal.main_arg6) = m ((c.tc : Thread Cert.RgOutRefIdeal.nD Cert.RgOutRefIdeal.τ).loc Cert.RgOutRefIdeal.main_arg6)
      ∧ r.2.mem ((c.tc : Thread Cert.RgOutRefIdeal.nD Cert.RgOutRefIdeal.τ).loc Cert.RgOutRefIdeal.main_arg7) = m ((c.tc : Thread Cert.RgOutRefIdeal.nD Cert.RgOutRefIdeal.τ).loc Cert.RgOutRefIdeal.main_arg7)
      ∧ r.2.mem ((c.tc : Thread Cert.RgOutRefIdeal.nD Cert.RgOutRefIdeal.τ).loc Cert.RgOutRefIdeal.main_arg8) = m ((c.tc : Thread Cert.RgOutRefIdeal.nD Cert.RgOutRefIdeal.τ).loc Cert.RgOutRefIdeal.main_arg8)
      ∧ r.2.mem ((c.tc : Thread Cert.RgOutRefIdeal.nD Cert.RgOutRefIdeal.τ).loc Cert.RgOutRefIdeal.main_arg9) = m ((c.tc : Thread Cert.RgOutRefIdeal.nD Cert.RgOutRefIdeal.τ).loc Cert.RgOutRefIdeal.main_arg9))
      ∧ r.2.sem = fun _ => 0)

def quiescent_MoeCtx [hMoeCtx : Cert.MoeCtx.Facts] : Prop :=
  ∀ (m : (ℓ : Loc Cert.MoeCtx.nD Cert.MoeCtx.τ Cert.MoeCtx.sig) → Buf (Elt Bits) ℓ) (g : Dev Cert.MoeCtx.nD → PrngReg), Pre_MoeCtx m →
    θ_run (Cert.MoeCtx.defs (F := Bits)) (onTc (τ := Cert.MoeCtx.τ) (Cert.MoeCtx.main (F := Bits))) ⟨m, fun _ => 0, g⟩ (fun r => (∀ c : Dev Cert.MoeCtx.nD,
      r.2.mem ((c.tc : Thread Cert.MoeCtx.nD Cert.MoeCtx.τ).loc Cert.MoeCtx.main_arg0) = m ((c.tc : Thread Cert.MoeCtx.nD Cert.MoeCtx.τ).loc Cert.MoeCtx.main_arg0)
      ∧ r.2.mem ((c.tc : Thread Cert.MoeCtx.nD Cert.MoeCtx.τ).loc Cert.MoeCtx.main_arg1) = m ((c.tc : Thread Cert.MoeCtx.nD Cert.MoeCtx.τ).loc Cert.MoeCtx.main_arg1)
      ∧ r.2.mem ((c.tc : Thread Cert.MoeCtx.nD Cert.MoeCtx.τ).loc Cert.MoeCtx.main_arg2) = m ((c.tc : Thread Cert.MoeCtx.nD Cert.MoeCtx.τ).loc Cert.MoeCtx.main_arg2)
      ∧ r.2.mem ((c.tc : Thread Cert.MoeCtx.nD Cert.MoeCtx.τ).loc Cert.MoeCtx.main_arg3) = m ((c.tc : Thread Cert.MoeCtx.nD Cert.MoeCtx.τ).loc Cert.MoeCtx.main_arg3)
      ∧ r.2.mem ((c.tc : Thread Cert.MoeCtx.nD Cert.MoeCtx.τ).loc Cert.MoeCtx.main_arg4) = m ((c.tc : Thread Cert.MoeCtx.nD Cert.MoeCtx.τ).loc Cert.MoeCtx.main_arg4)
      ∧ r.2.mem ((c.tc : Thread Cert.MoeCtx.nD Cert.MoeCtx.τ).loc Cert.MoeCtx.main_arg5) = m ((c.tc : Thread Cert.MoeCtx.nD Cert.MoeCtx.τ).loc Cert.MoeCtx.main_arg5)
      ∧ r.2.mem ((c.tc : Thread Cert.MoeCtx.nD Cert.MoeCtx.τ).loc Cert.MoeCtx.main_arg6) = m ((c.tc : Thread Cert.MoeCtx.nD Cert.MoeCtx.τ).loc Cert.MoeCtx.main_arg6))
      ∧ r.2.sem = fun _ => 0)

def quiescent_MoeCtxIdeal [hMoeCtxIdeal : Cert.MoeCtxIdeal.Facts] : Prop :=
  ∀ (m : (ℓ : Loc Cert.MoeCtxIdeal.nD Cert.MoeCtxIdeal.τ Cert.MoeCtxIdeal.sig) → Buf (Elt Ideal) ℓ) (g : Dev Cert.MoeCtxIdeal.nD → PrngReg), Pre_MoeCtxIdeal m →
    θ_run (Cert.MoeCtxIdeal.defs (F := Ideal)) (onTc (τ := Cert.MoeCtxIdeal.τ) (Cert.MoeCtxIdeal.main (F := Ideal))) ⟨m, fun _ => 0, g⟩ (fun r => (∀ c : Dev Cert.MoeCtxIdeal.nD,
      r.2.mem ((c.tc : Thread Cert.MoeCtxIdeal.nD Cert.MoeCtxIdeal.τ).loc Cert.MoeCtxIdeal.main_arg0) = m ((c.tc : Thread Cert.MoeCtxIdeal.nD Cert.MoeCtxIdeal.τ).loc Cert.MoeCtxIdeal.main_arg0)
      ∧ r.2.mem ((c.tc : Thread Cert.MoeCtxIdeal.nD Cert.MoeCtxIdeal.τ).loc Cert.MoeCtxIdeal.main_arg1) = m ((c.tc : Thread Cert.MoeCtxIdeal.nD Cert.MoeCtxIdeal.τ).loc Cert.MoeCtxIdeal.main_arg1)
      ∧ r.2.mem ((c.tc : Thread Cert.MoeCtxIdeal.nD Cert.MoeCtxIdeal.τ).loc Cert.MoeCtxIdeal.main_arg2) = m ((c.tc : Thread Cert.MoeCtxIdeal.nD Cert.MoeCtxIdeal.τ).loc Cert.MoeCtxIdeal.main_arg2)
      ∧ r.2.mem ((c.tc : Thread Cert.MoeCtxIdeal.nD Cert.MoeCtxIdeal.τ).loc Cert.MoeCtxIdeal.main_arg3) = m ((c.tc : Thread Cert.MoeCtxIdeal.nD Cert.MoeCtxIdeal.τ).loc Cert.MoeCtxIdeal.main_arg3)
      ∧ r.2.mem ((c.tc : Thread Cert.MoeCtxIdeal.nD Cert.MoeCtxIdeal.τ).loc Cert.MoeCtxIdeal.main_arg4) = m ((c.tc : Thread Cert.MoeCtxIdeal.nD Cert.MoeCtxIdeal.τ).loc Cert.MoeCtxIdeal.main_arg4)
      ∧ r.2.mem ((c.tc : Thread Cert.MoeCtxIdeal.nD Cert.MoeCtxIdeal.τ).loc Cert.MoeCtxIdeal.main_arg5) = m ((c.tc : Thread Cert.MoeCtxIdeal.nD Cert.MoeCtxIdeal.τ).loc Cert.MoeCtxIdeal.main_arg5)
      ∧ r.2.mem ((c.tc : Thread Cert.MoeCtxIdeal.nD Cert.MoeCtxIdeal.τ).loc Cert.MoeCtxIdeal.main_arg6) = m ((c.tc : Thread Cert.MoeCtxIdeal.nD Cert.MoeCtxIdeal.τ).loc Cert.MoeCtxIdeal.main_arg6))
      ∧ r.2.sem = fun _ => 0)

def quiescent_MoeCtxIdeal_pre_gates_ctx [hMoeCtxIdeal : Cert.MoeCtxIdeal.Facts] [hPre_gates_ctx : Cert.Pre_gates_ctx.Facts] : Prop :=
  ∀ (m : (ℓ : Loc Cert.MoeCtxIdeal.nD Cert.MoeCtxIdeal.τ Cert.MoeCtxIdeal.sig) → Buf (Elt Ideal) ℓ) (g : Dev Cert.MoeCtxIdeal.nD → PrngReg), Pre_MoeCtxIdeal_gates_ctx m →
    θ_run (Cert.MoeCtxIdeal.defs (F := Ideal)) (onTc (τ := Cert.MoeCtxIdeal.τ) (Cert.MoeCtxIdeal.main (F := Ideal))) ⟨m, fun _ => 0, g⟩ (fun r => (∀ c : Dev Cert.MoeCtxIdeal.nD,
      r.2.mem ((c.tc : Thread Cert.MoeCtxIdeal.nD Cert.MoeCtxIdeal.τ).loc Cert.MoeCtxIdeal.main_arg0) = m ((c.tc : Thread Cert.MoeCtxIdeal.nD Cert.MoeCtxIdeal.τ).loc Cert.MoeCtxIdeal.main_arg0)
      ∧ r.2.mem ((c.tc : Thread Cert.MoeCtxIdeal.nD Cert.MoeCtxIdeal.τ).loc Cert.MoeCtxIdeal.main_arg1) = m ((c.tc : Thread Cert.MoeCtxIdeal.nD Cert.MoeCtxIdeal.τ).loc Cert.MoeCtxIdeal.main_arg1)
      ∧ r.2.mem ((c.tc : Thread Cert.MoeCtxIdeal.nD Cert.MoeCtxIdeal.τ).loc Cert.MoeCtxIdeal.main_arg2) = m ((c.tc : Thread Cert.MoeCtxIdeal.nD Cert.MoeCtxIdeal.τ).loc Cert.MoeCtxIdeal.main_arg2)
      ∧ r.2.mem ((c.tc : Thread Cert.MoeCtxIdeal.nD Cert.MoeCtxIdeal.τ).loc Cert.MoeCtxIdeal.main_arg3) = m ((c.tc : Thread Cert.MoeCtxIdeal.nD Cert.MoeCtxIdeal.τ).loc Cert.MoeCtxIdeal.main_arg3)
      ∧ r.2.mem ((c.tc : Thread Cert.MoeCtxIdeal.nD Cert.MoeCtxIdeal.τ).loc Cert.MoeCtxIdeal.main_arg4) = m ((c.tc : Thread Cert.MoeCtxIdeal.nD Cert.MoeCtxIdeal.τ).loc Cert.MoeCtxIdeal.main_arg4)
      ∧ r.2.mem ((c.tc : Thread Cert.MoeCtxIdeal.nD Cert.MoeCtxIdeal.τ).loc Cert.MoeCtxIdeal.main_arg5) = m ((c.tc : Thread Cert.MoeCtxIdeal.nD Cert.MoeCtxIdeal.τ).loc Cert.MoeCtxIdeal.main_arg5)
      ∧ r.2.mem ((c.tc : Thread Cert.MoeCtxIdeal.nD Cert.MoeCtxIdeal.τ).loc Cert.MoeCtxIdeal.main_arg6) = m ((c.tc : Thread Cert.MoeCtxIdeal.nD Cert.MoeCtxIdeal.τ).loc Cert.MoeCtxIdeal.main_arg6))
      ∧ r.2.sem = fun _ => 0)

def quiescent_MoeCtxRefIdeal [hMoeCtxRefIdeal : Cert.MoeCtxRefIdeal.Facts] : Prop :=
  ∀ (m : (ℓ : Loc Cert.MoeCtxRefIdeal.nD Cert.MoeCtxRefIdeal.τ Cert.MoeCtxRefIdeal.sig) → Buf (Elt Ideal) ℓ) (g : Dev Cert.MoeCtxRefIdeal.nD → PrngReg), Pre_MoeCtxRefIdeal m →
    θ_run (Cert.MoeCtxRefIdeal.defs (F := Ideal)) (onTc (τ := Cert.MoeCtxRefIdeal.τ) (Cert.MoeCtxRefIdeal.main (F := Ideal))) ⟨m, fun _ => 0, g⟩ (fun r => (∀ c : Dev Cert.MoeCtxRefIdeal.nD,
      r.2.mem ((c.tc : Thread Cert.MoeCtxRefIdeal.nD Cert.MoeCtxRefIdeal.τ).loc Cert.MoeCtxRefIdeal.main_arg0) = m ((c.tc : Thread Cert.MoeCtxRefIdeal.nD Cert.MoeCtxRefIdeal.τ).loc Cert.MoeCtxRefIdeal.main_arg0)
      ∧ r.2.mem ((c.tc : Thread Cert.MoeCtxRefIdeal.nD Cert.MoeCtxRefIdeal.τ).loc Cert.MoeCtxRefIdeal.main_arg1) = m ((c.tc : Thread Cert.MoeCtxRefIdeal.nD Cert.MoeCtxRefIdeal.τ).loc Cert.MoeCtxRefIdeal.main_arg1)
      ∧ r.2.mem ((c.tc : Thread Cert.MoeCtxRefIdeal.nD Cert.MoeCtxRefIdeal.τ).loc Cert.MoeCtxRefIdeal.main_arg2) = m ((c.tc : Thread Cert.MoeCtxRefIdeal.nD Cert.MoeCtxRefIdeal.τ).loc Cert.MoeCtxRefIdeal.main_arg2)
      ∧ r.2.mem ((c.tc : Thread Cert.MoeCtxRefIdeal.nD Cert.MoeCtxRefIdeal.τ).loc Cert.MoeCtxRefIdeal.main_arg3) = m ((c.tc : Thread Cert.MoeCtxRefIdeal.nD Cert.MoeCtxRefIdeal.τ).loc Cert.MoeCtxRefIdeal.main_arg3)
      ∧ r.2.mem ((c.tc : Thread Cert.MoeCtxRefIdeal.nD Cert.MoeCtxRefIdeal.τ).loc Cert.MoeCtxRefIdeal.main_arg4) = m ((c.tc : Thread Cert.MoeCtxRefIdeal.nD Cert.MoeCtxRefIdeal.τ).loc Cert.MoeCtxRefIdeal.main_arg4)
      ∧ r.2.mem ((c.tc : Thread Cert.MoeCtxRefIdeal.nD Cert.MoeCtxRefIdeal.τ).loc Cert.MoeCtxRefIdeal.main_arg5) = m ((c.tc : Thread Cert.MoeCtxRefIdeal.nD Cert.MoeCtxRefIdeal.τ).loc Cert.MoeCtxRefIdeal.main_arg5)
      ∧ r.2.mem ((c.tc : Thread Cert.MoeCtxRefIdeal.nD Cert.MoeCtxRefIdeal.τ).loc Cert.MoeCtxRefIdeal.main_arg6) = m ((c.tc : Thread Cert.MoeCtxRefIdeal.nD Cert.MoeCtxRefIdeal.τ).loc Cert.MoeCtxRefIdeal.main_arg6))
      ∧ r.2.sem = fun _ => 0)

def quiescent_MoeCtxRefIdeal_pre_gates_ctx [hMoeCtxRefIdeal : Cert.MoeCtxRefIdeal.Facts] [hPre_gates_ctx : Cert.Pre_gates_ctx.Facts] : Prop :=
  ∀ (m : (ℓ : Loc Cert.MoeCtxRefIdeal.nD Cert.MoeCtxRefIdeal.τ Cert.MoeCtxRefIdeal.sig) → Buf (Elt Ideal) ℓ) (g : Dev Cert.MoeCtxRefIdeal.nD → PrngReg), Pre_MoeCtxRefIdeal_gates_ctx m →
    θ_run (Cert.MoeCtxRefIdeal.defs (F := Ideal)) (onTc (τ := Cert.MoeCtxRefIdeal.τ) (Cert.MoeCtxRefIdeal.main (F := Ideal))) ⟨m, fun _ => 0, g⟩ (fun r => (∀ c : Dev Cert.MoeCtxRefIdeal.nD,
      r.2.mem ((c.tc : Thread Cert.MoeCtxRefIdeal.nD Cert.MoeCtxRefIdeal.τ).loc Cert.MoeCtxRefIdeal.main_arg0) = m ((c.tc : Thread Cert.MoeCtxRefIdeal.nD Cert.MoeCtxRefIdeal.τ).loc Cert.MoeCtxRefIdeal.main_arg0)
      ∧ r.2.mem ((c.tc : Thread Cert.MoeCtxRefIdeal.nD Cert.MoeCtxRefIdeal.τ).loc Cert.MoeCtxRefIdeal.main_arg1) = m ((c.tc : Thread Cert.MoeCtxRefIdeal.nD Cert.MoeCtxRefIdeal.τ).loc Cert.MoeCtxRefIdeal.main_arg1)
      ∧ r.2.mem ((c.tc : Thread Cert.MoeCtxRefIdeal.nD Cert.MoeCtxRefIdeal.τ).loc Cert.MoeCtxRefIdeal.main_arg2) = m ((c.tc : Thread Cert.MoeCtxRefIdeal.nD Cert.MoeCtxRefIdeal.τ).loc Cert.MoeCtxRefIdeal.main_arg2)
      ∧ r.2.mem ((c.tc : Thread Cert.MoeCtxRefIdeal.nD Cert.MoeCtxRefIdeal.τ).loc Cert.MoeCtxRefIdeal.main_arg3) = m ((c.tc : Thread Cert.MoeCtxRefIdeal.nD Cert.MoeCtxRefIdeal.τ).loc Cert.MoeCtxRefIdeal.main_arg3)
      ∧ r.2.mem ((c.tc : Thread Cert.MoeCtxRefIdeal.nD Cert.MoeCtxRefIdeal.τ).loc Cert.MoeCtxRefIdeal.main_arg4) = m ((c.tc : Thread Cert.MoeCtxRefIdeal.nD Cert.MoeCtxRefIdeal.τ).loc Cert.MoeCtxRefIdeal.main_arg4)
      ∧ r.2.mem ((c.tc : Thread Cert.MoeCtxRefIdeal.nD Cert.MoeCtxRefIdeal.τ).loc Cert.MoeCtxRefIdeal.main_arg5) = m ((c.tc : Thread Cert.MoeCtxRefIdeal.nD Cert.MoeCtxRefIdeal.τ).loc Cert.MoeCtxRefIdeal.main_arg5)
      ∧ r.2.mem ((c.tc : Thread Cert.MoeCtxRefIdeal.nD Cert.MoeCtxRefIdeal.τ).loc Cert.MoeCtxRefIdeal.main_arg6) = m ((c.tc : Thread Cert.MoeCtxRefIdeal.nD Cert.MoeCtxRefIdeal.τ).loc Cert.MoeCtxRefIdeal.main_arg6))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6)
      ∧ r.2.mem ((c.tc : Thread Cert.FfnCtx.nD Cert.FfnCtx.τ).loc Cert.FfnCtx.main_arg7) = m ((c.tc : Thread Cert.FfnCtx.nD Cert.FfnCtx.τ).loc Cert.FfnCtx.main_arg7)
      ∧ r.2.mem ((c.tc : Thread Cert.FfnCtx.nD Cert.FfnCtx.τ).loc Cert.FfnCtx.main_arg8) = m ((c.tc : Thread Cert.FfnCtx.nD Cert.FfnCtx.τ).loc Cert.FfnCtx.main_arg8)
      ∧ r.2.mem ((c.tc : Thread Cert.FfnCtx.nD Cert.FfnCtx.τ).loc Cert.FfnCtx.main_arg9) = m ((c.tc : Thread Cert.FfnCtx.nD Cert.FfnCtx.τ).loc Cert.FfnCtx.main_arg9)
      ∧ r.2.mem ((c.tc : Thread Cert.FfnCtx.nD Cert.FfnCtx.τ).loc Cert.FfnCtx.main_arg10) = m ((c.tc : Thread Cert.FfnCtx.nD Cert.FfnCtx.τ).loc Cert.FfnCtx.main_arg10))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6)
      ∧ r.2.mem ((c.tc : Thread Cert.FfnCtxIdeal.nD Cert.FfnCtxIdeal.τ).loc Cert.FfnCtxIdeal.main_arg7) = m ((c.tc : Thread Cert.FfnCtxIdeal.nD Cert.FfnCtxIdeal.τ).loc Cert.FfnCtxIdeal.main_arg7)
      ∧ r.2.mem ((c.tc : Thread Cert.FfnCtxIdeal.nD Cert.FfnCtxIdeal.τ).loc Cert.FfnCtxIdeal.main_arg8) = m ((c.tc : Thread Cert.FfnCtxIdeal.nD Cert.FfnCtxIdeal.τ).loc Cert.FfnCtxIdeal.main_arg8)
      ∧ r.2.mem ((c.tc : Thread Cert.FfnCtxIdeal.nD Cert.FfnCtxIdeal.τ).loc Cert.FfnCtxIdeal.main_arg9) = m ((c.tc : Thread Cert.FfnCtxIdeal.nD Cert.FfnCtxIdeal.τ).loc Cert.FfnCtxIdeal.main_arg9)
      ∧ r.2.mem ((c.tc : Thread Cert.FfnCtxIdeal.nD Cert.FfnCtxIdeal.τ).loc Cert.FfnCtxIdeal.main_arg10) = m ((c.tc : Thread Cert.FfnCtxIdeal.nD Cert.FfnCtxIdeal.τ).loc Cert.FfnCtxIdeal.main_arg10))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4)
      ∧ r.2.mem ((c.tc : Thread Cert.FfnCtxRefIdeal.nD Cert.FfnCtxRefIdeal.τ).loc Cert.FfnCtxRefIdeal.main_arg5) = m ((c.tc : Thread Cert.FfnCtxRefIdeal.nD Cert.FfnCtxRefIdeal.τ).loc Cert.FfnCtxRefIdeal.main_arg5)
      ∧ r.2.mem ((c.tc : Thread Cert.FfnCtxRefIdeal.nD Cert.FfnCtxRefIdeal.τ).loc Cert.FfnCtxRefIdeal.main_arg6) = m ((c.tc : Thread Cert.FfnCtxRefIdeal.nD Cert.FfnCtxRefIdeal.τ).loc Cert.FfnCtxRefIdeal.main_arg6)
      ∧ r.2.mem ((c.tc : Thread Cert.FfnCtxRefIdeal.nD Cert.FfnCtxRefIdeal.τ).loc Cert.FfnCtxRefIdeal.main_arg7) = m ((c.tc : Thread Cert.FfnCtxRefIdeal.nD Cert.FfnCtxRefIdeal.τ).loc Cert.FfnCtxRefIdeal.main_arg7)
      ∧ r.2.mem ((c.tc : Thread Cert.FfnCtxRefIdeal.nD Cert.FfnCtxRefIdeal.τ).loc Cert.FfnCtxRefIdeal.main_arg8) = m ((c.tc : Thread Cert.FfnCtxRefIdeal.nD Cert.FfnCtxRefIdeal.τ).loc Cert.FfnCtxRefIdeal.main_arg8)
      ∧ r.2.mem ((c.tc : Thread Cert.FfnCtxRefIdeal.nD Cert.FfnCtxRefIdeal.τ).loc Cert.FfnCtxRefIdeal.main_arg9) = m ((c.tc : Thread Cert.FfnCtxRefIdeal.nD Cert.FfnCtxRefIdeal.τ).loc Cert.FfnCtxRefIdeal.main_arg9)
      ∧ r.2.mem ((c.tc : Thread Cert.FfnCtxRefIdeal.nD Cert.FfnCtxRefIdeal.τ).loc Cert.FfnCtxRefIdeal.main_arg10) = m ((c.tc : Thread Cert.FfnCtxRefIdeal.nD Cert.FfnCtxRefIdeal.τ).loc Cert.FfnCtxRefIdeal.main_arg10))
      ∧ r.2.sem = fun _ => 0)

def quiescent_RgOutCtx [hRgOutCtx : Cert.RgOutCtx.Facts] : Prop :=
  ∀ (m : (ℓ : Loc Cert.RgOutCtx.nD Cert.RgOutCtx.τ Cert.RgOutCtx.sig) → Buf (Elt Bits) ℓ) (g : Dev Cert.RgOutCtx.nD → PrngReg), Pre_RgOutCtx m →
    θ_run (Cert.RgOutCtx.defs (F := Bits)) (onTc (τ := Cert.RgOutCtx.τ) (Cert.RgOutCtx.main (F := Bits))) ⟨m, fun _ => 0, g⟩ (fun r => (∀ c : Dev Cert.RgOutCtx.nD,
      r.2.mem ((c.tc : Thread Cert.RgOutCtx.nD Cert.RgOutCtx.τ).loc Cert.RgOutCtx.main_arg0) = m ((c.tc : Thread Cert.RgOutCtx.nD Cert.RgOutCtx.τ).loc Cert.RgOutCtx.main_arg0)
      ∧ r.2.mem ((c.tc : Thread Cert.RgOutCtx.nD Cert.RgOutCtx.τ).loc Cert.RgOutCtx.main_arg1) = m ((c.tc : Thread Cert.RgOutCtx.nD Cert.RgOutCtx.τ).loc Cert.RgOutCtx.main_arg1)
      ∧ r.2.mem ((c.tc : Thread Cert.RgOutCtx.nD Cert.RgOutCtx.τ).loc Cert.RgOutCtx.main_arg2) = m ((c.tc : Thread Cert.RgOutCtx.nD Cert.RgOutCtx.τ).loc Cert.RgOutCtx.main_arg2)
      ∧ r.2.mem ((c.tc : Thread Cert.RgOutCtx.nD Cert.RgOutCtx.τ).loc Cert.RgOutCtx.main_arg3) = m ((c.tc : Thread Cert.RgOutCtx.nD Cert.RgOutCtx.τ).loc Cert.RgOutCtx.main_arg3)
      ∧ r.2.mem ((c.tc : Thread Cert.RgOutCtx.nD Cert.RgOutCtx.τ).loc Cert.RgOutCtx.main_arg4) = m ((c.tc : Thread Cert.RgOutCtx.nD Cert.RgOutCtx.τ).loc Cert.RgOutCtx.main_arg4)
      ∧ r.2.mem ((c.tc : Thread Cert.RgOutCtx.nD Cert.RgOutCtx.τ).loc Cert.RgOutCtx.main_arg5) = m ((c.tc : Thread Cert.RgOutCtx.nD Cert.RgOutCtx.τ).loc Cert.RgOutCtx.main_arg5)
      ∧ r.2.mem ((c.tc : Thread Cert.RgOutCtx.nD Cert.RgOutCtx.τ).loc Cert.RgOutCtx.main_arg6) = m ((c.tc : Thread Cert.RgOutCtx.nD Cert.RgOutCtx.τ).loc Cert.RgOutCtx.main_arg6)
      ∧ r.2.mem ((c.tc : Thread Cert.RgOutCtx.nD Cert.RgOutCtx.τ).loc Cert.RgOutCtx.main_arg7) = m ((c.tc : Thread Cert.RgOutCtx.nD Cert.RgOutCtx.τ).loc Cert.RgOutCtx.main_arg7)
      ∧ r.2.mem ((c.tc : Thread Cert.RgOutCtx.nD Cert.RgOutCtx.τ).loc Cert.RgOutCtx.main_arg8) = m ((c.tc : Thread Cert.RgOutCtx.nD Cert.RgOutCtx.τ).loc Cert.RgOutCtx.main_arg8)
      ∧ r.2.mem ((c.tc : Thread Cert.RgOutCtx.nD Cert.RgOutCtx.τ).loc Cert.RgOutCtx.main_arg9) = m ((c.tc : Thread Cert.RgOutCtx.nD Cert.RgOutCtx.τ).loc Cert.RgOutCtx.main_arg9))
      ∧ r.2.sem = fun _ => 0)

def quiescent_RgOutCtxIdeal [hRgOutCtxIdeal : Cert.RgOutCtxIdeal.Facts] : Prop :=
  ∀ (m : (ℓ : Loc Cert.RgOutCtxIdeal.nD Cert.RgOutCtxIdeal.τ Cert.RgOutCtxIdeal.sig) → Buf (Elt Ideal) ℓ) (g : Dev Cert.RgOutCtxIdeal.nD → PrngReg), Pre_RgOutCtxIdeal m →
    θ_run (Cert.RgOutCtxIdeal.defs (F := Ideal)) (onTc (τ := Cert.RgOutCtxIdeal.τ) (Cert.RgOutCtxIdeal.main (F := Ideal))) ⟨m, fun _ => 0, g⟩ (fun r => (∀ c : Dev Cert.RgOutCtxIdeal.nD,
      r.2.mem ((c.tc : Thread Cert.RgOutCtxIdeal.nD Cert.RgOutCtxIdeal.τ).loc Cert.RgOutCtxIdeal.main_arg0) = m ((c.tc : Thread Cert.RgOutCtxIdeal.nD Cert.RgOutCtxIdeal.τ).loc Cert.RgOutCtxIdeal.main_arg0)
      ∧ r.2.mem ((c.tc : Thread Cert.RgOutCtxIdeal.nD Cert.RgOutCtxIdeal.τ).loc Cert.RgOutCtxIdeal.main_arg1) = m ((c.tc : Thread Cert.RgOutCtxIdeal.nD Cert.RgOutCtxIdeal.τ).loc Cert.RgOutCtxIdeal.main_arg1)
      ∧ r.2.mem ((c.tc : Thread Cert.RgOutCtxIdeal.nD Cert.RgOutCtxIdeal.τ).loc Cert.RgOutCtxIdeal.main_arg2) = m ((c.tc : Thread Cert.RgOutCtxIdeal.nD Cert.RgOutCtxIdeal.τ).loc Cert.RgOutCtxIdeal.main_arg2)
      ∧ r.2.mem ((c.tc : Thread Cert.RgOutCtxIdeal.nD Cert.RgOutCtxIdeal.τ).loc Cert.RgOutCtxIdeal.main_arg3) = m ((c.tc : Thread Cert.RgOutCtxIdeal.nD Cert.RgOutCtxIdeal.τ).loc Cert.RgOutCtxIdeal.main_arg3)
      ∧ r.2.mem ((c.tc : Thread Cert.RgOutCtxIdeal.nD Cert.RgOutCtxIdeal.τ).loc Cert.RgOutCtxIdeal.main_arg4) = m ((c.tc : Thread Cert.RgOutCtxIdeal.nD Cert.RgOutCtxIdeal.τ).loc Cert.RgOutCtxIdeal.main_arg4)
      ∧ r.2.mem ((c.tc : Thread Cert.RgOutCtxIdeal.nD Cert.RgOutCtxIdeal.τ).loc Cert.RgOutCtxIdeal.main_arg5) = m ((c.tc : Thread Cert.RgOutCtxIdeal.nD Cert.RgOutCtxIdeal.τ).loc Cert.RgOutCtxIdeal.main_arg5)
      ∧ r.2.mem ((c.tc : Thread Cert.RgOutCtxIdeal.nD Cert.RgOutCtxIdeal.τ).loc Cert.RgOutCtxIdeal.main_arg6) = m ((c.tc : Thread Cert.RgOutCtxIdeal.nD Cert.RgOutCtxIdeal.τ).loc Cert.RgOutCtxIdeal.main_arg6)
      ∧ r.2.mem ((c.tc : Thread Cert.RgOutCtxIdeal.nD Cert.RgOutCtxIdeal.τ).loc Cert.RgOutCtxIdeal.main_arg7) = m ((c.tc : Thread Cert.RgOutCtxIdeal.nD Cert.RgOutCtxIdeal.τ).loc Cert.RgOutCtxIdeal.main_arg7)
      ∧ r.2.mem ((c.tc : Thread Cert.RgOutCtxIdeal.nD Cert.RgOutCtxIdeal.τ).loc Cert.RgOutCtxIdeal.main_arg8) = m ((c.tc : Thread Cert.RgOutCtxIdeal.nD Cert.RgOutCtxIdeal.τ).loc Cert.RgOutCtxIdeal.main_arg8)
      ∧ r.2.mem ((c.tc : Thread Cert.RgOutCtxIdeal.nD Cert.RgOutCtxIdeal.τ).loc Cert.RgOutCtxIdeal.main_arg9) = m ((c.tc : Thread Cert.RgOutCtxIdeal.nD Cert.RgOutCtxIdeal.τ).loc Cert.RgOutCtxIdeal.main_arg9))
      ∧ r.2.sem = fun _ => 0)

def quiescent_RgOutCtxRefIdeal [hRgOutCtxRefIdeal : Cert.RgOutCtxRefIdeal.Facts] : Prop :=
  ∀ (m : (ℓ : Loc Cert.RgOutCtxRefIdeal.nD Cert.RgOutCtxRefIdeal.τ Cert.RgOutCtxRefIdeal.sig) → Buf (Elt Ideal) ℓ) (g : Dev Cert.RgOutCtxRefIdeal.nD → PrngReg), Pre_RgOutCtxRefIdeal m →
    θ_run (Cert.RgOutCtxRefIdeal.defs (F := Ideal)) (onTc (τ := Cert.RgOutCtxRefIdeal.τ) (Cert.RgOutCtxRefIdeal.main (F := Ideal))) ⟨m, fun _ => 0, g⟩ (fun r => (∀ c : Dev Cert.RgOutCtxRefIdeal.nD,
      r.2.mem ((c.tc : Thread Cert.RgOutCtxRefIdeal.nD Cert.RgOutCtxRefIdeal.τ).loc Cert.RgOutCtxRefIdeal.main_arg0) = m ((c.tc : Thread Cert.RgOutCtxRefIdeal.nD Cert.RgOutCtxRefIdeal.τ).loc Cert.RgOutCtxRefIdeal.main_arg0)
      ∧ r.2.mem ((c.tc : Thread Cert.RgOutCtxRefIdeal.nD Cert.RgOutCtxRefIdeal.τ).loc Cert.RgOutCtxRefIdeal.main_arg1) = m ((c.tc : Thread Cert.RgOutCtxRefIdeal.nD Cert.RgOutCtxRefIdeal.τ).loc Cert.RgOutCtxRefIdeal.main_arg1)
      ∧ r.2.mem ((c.tc : Thread Cert.RgOutCtxRefIdeal.nD Cert.RgOutCtxRefIdeal.τ).loc Cert.RgOutCtxRefIdeal.main_arg2) = m ((c.tc : Thread Cert.RgOutCtxRefIdeal.nD Cert.RgOutCtxRefIdeal.τ).loc Cert.RgOutCtxRefIdeal.main_arg2)
      ∧ r.2.mem ((c.tc : Thread Cert.RgOutCtxRefIdeal.nD Cert.RgOutCtxRefIdeal.τ).loc Cert.RgOutCtxRefIdeal.main_arg3) = m ((c.tc : Thread Cert.RgOutCtxRefIdeal.nD Cert.RgOutCtxRefIdeal.τ).loc Cert.RgOutCtxRefIdeal.main_arg3)
      ∧ r.2.mem ((c.tc : Thread Cert.RgOutCtxRefIdeal.nD Cert.RgOutCtxRefIdeal.τ).loc Cert.RgOutCtxRefIdeal.main_arg4) = m ((c.tc : Thread Cert.RgOutCtxRefIdeal.nD Cert.RgOutCtxRefIdeal.τ).loc Cert.RgOutCtxRefIdeal.main_arg4)
      ∧ r.2.mem ((c.tc : Thread Cert.RgOutCtxRefIdeal.nD Cert.RgOutCtxRefIdeal.τ).loc Cert.RgOutCtxRefIdeal.main_arg5) = m ((c.tc : Thread Cert.RgOutCtxRefIdeal.nD Cert.RgOutCtxRefIdeal.τ).loc Cert.RgOutCtxRefIdeal.main_arg5)
      ∧ r.2.mem ((c.tc : Thread Cert.RgOutCtxRefIdeal.nD Cert.RgOutCtxRefIdeal.τ).loc Cert.RgOutCtxRefIdeal.main_arg6) = m ((c.tc : Thread Cert.RgOutCtxRefIdeal.nD Cert.RgOutCtxRefIdeal.τ).loc Cert.RgOutCtxRefIdeal.main_arg6)
      ∧ r.2.mem ((c.tc : Thread Cert.RgOutCtxRefIdeal.nD Cert.RgOutCtxRefIdeal.τ).loc Cert.RgOutCtxRefIdeal.main_arg7) = m ((c.tc : Thread Cert.RgOutCtxRefIdeal.nD Cert.RgOutCtxRefIdeal.τ).loc Cert.RgOutCtxRefIdeal.main_arg7)
      ∧ r.2.mem ((c.tc : Thread Cert.RgOutCtxRefIdeal.nD Cert.RgOutCtxRefIdeal.τ).loc Cert.RgOutCtxRefIdeal.main_arg8) = m ((c.tc : Thread Cert.RgOutCtxRefIdeal.nD Cert.RgOutCtxRefIdeal.τ).loc Cert.RgOutCtxRefIdeal.main_arg8)
      ∧ r.2.mem ((c.tc : Thread Cert.RgOutCtxRefIdeal.nD Cert.RgOutCtxRefIdeal.τ).loc Cert.RgOutCtxRefIdeal.main_arg9) = m ((c.tc : Thread Cert.RgOutCtxRefIdeal.nD Cert.RgOutCtxRefIdeal.τ).loc Cert.RgOutCtxRefIdeal.main_arg9))
      ∧ r.2.sem = fun _ => 0)

def preserves_Attn_AttnIdeal : Prop :=
  IdealRules.named_const.Statement Cert.AttnIdeal.κ "qscale" .f32 0x3DD53B95#32 (((Real.sqrt 192)⁻¹ * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal_pre_gates [hMoeIdeal : Cert.MoeIdeal.Facts] [hMoeRefIdeal : Cert.MoeRefIdeal.Facts] [hPre_gates : Cert.Pre_gates.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v124) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_RgIn_RgInIdeal : Prop :=
  True

def algebraic_RgInIdeal_RgInRefIdeal [hRgInIdeal : Cert.RgInIdeal.Facts] [hRgInRefIdeal : Cert.RgInRefIdeal.Facts] : Prop :=
  ∀ (m : (ℓ : Loc Cert.RgInIdeal.nD Cert.RgInIdeal.τ Cert.RgInIdeal.sig) → Buf (Elt Ideal) ℓ) (g : Dev Cert.RgInIdeal.nD → PrngReg)
    (m' : (ℓ : Loc Cert.RgInRefIdeal.nD Cert.RgInRefIdeal.τ Cert.RgInRefIdeal.sig) → Buf (Elt Ideal) ℓ) (g' : Dev Cert.RgInRefIdeal.nD → PrngReg), Pre_RgInIdeal m →
    (∀ c : Dev Cert.RgInIdeal.nD,
      m' ((c.tc : Thread Cert.RgInRefIdeal.nD Cert.RgInRefIdeal.τ).loc Cert.RgInRefIdeal.main_arg0) = m ((c.tc : Thread Cert.RgInIdeal.nD Cert.RgInIdeal.τ).loc Cert.RgInIdeal.main_arg0)
      ∧ m' ((c.tc : Thread Cert.RgInRefIdeal.nD Cert.RgInRefIdeal.τ).loc Cert.RgInRefIdeal.main_arg1) = m ((c.tc : Thread Cert.RgInIdeal.nD Cert.RgInIdeal.τ).loc Cert.RgInIdeal.main_arg1)
      ∧ m' ((c.tc : Thread Cert.RgInRefIdeal.nD Cert.RgInRefIdeal.τ).loc Cert.RgInRefIdeal.main_arg2) = m ((c.tc : Thread Cert.RgInIdeal.nD Cert.RgInIdeal.τ).loc Cert.RgInIdeal.main_arg2)
      ∧ m' ((c.tc : Thread Cert.RgInRefIdeal.nD Cert.RgInRefIdeal.τ).loc Cert.RgInRefIdeal.main_arg3) = m ((c.tc : Thread Cert.RgInIdeal.nD Cert.RgInIdeal.τ).loc Cert.RgInIdeal.main_arg3)
      ∧ m' ((c.tc : Thread Cert.RgInRefIdeal.nD Cert.RgInRefIdeal.τ).loc Cert.RgInRefIdeal.main_arg4) = m ((c.tc : Thread Cert.RgInIdeal.nD Cert.RgInIdeal.τ).loc Cert.RgInIdeal.main_arg4)
      ∧ m' ((c.tc : Thread Cert.RgInRefIdeal.nD Cert.RgInRefIdeal.τ).loc Cert.RgInRefIdeal.main_arg5) = m ((c.tc : Thread Cert.RgInIdeal.nD Cert.RgInIdeal.τ).loc Cert.RgInIdeal.main_arg5)
      ∧ m' ((c.tc : Thread Cert.RgInRefIdeal.nD Cert.RgInRefIdeal.τ).loc Cert.RgInRefIdeal.main_arg6) = m ((c.tc : Thread Cert.RgInIdeal.nD Cert.RgInIdeal.τ).loc Cert.RgInIdeal.main_arg6)
      ∧ m' ((c.tc : Thread Cert.RgInRefIdeal.nD Cert.RgInRefIdeal.τ).loc Cert.RgInRefIdeal.main_arg7) = m ((c.tc : Thread Cert.RgInIdeal.nD Cert.RgInIdeal.τ).loc Cert.RgInIdeal.main_arg7)) →
    ∃ (v0 : (c : Dev Cert.RgInIdeal.nD) → Buf (Elt Ideal) ((c.tc : Thread Cert.RgInIdeal.nD Cert.RgInIdeal.τ).loc Cert.RgInIdeal.main_v4_0)) (v1 : (c : Dev Cert.RgInIdeal.nD) → Buf (Elt Ideal) ((c.tc : Thread Cert.RgInIdeal.nD Cert.RgInIdeal.τ).loc Cert.RgInIdeal.main_v4_1)),
      θ_run (Cert.RgInIdeal.defs (F := Ideal)) (onTc (τ := Cert.RgInIdeal.τ) (Cert.RgInIdeal.main (F := Ideal))) ⟨m, fun _ => 0, g⟩ (fun r => ∀ c : Dev Cert.RgInIdeal.nD,
          r.2.mem ((c.tc : Thread Cert.RgInIdeal.nD Cert.RgInIdeal.τ).loc Cert.RgInIdeal.main_v4_0) = v0 c
          ∧ r.2.mem ((c.tc : Thread Cert.RgInIdeal.nD Cert.RgInIdeal.τ).loc Cert.RgInIdeal.main_v4_1) = v1 c
          ∧ r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
          ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1)
          ∧ r.2.mem ((c.tc : Thread Cert.RgInIdeal.nD Cert.RgInIdeal.τ).loc Cert.RgInIdeal.main_arg2) = m ((c.tc : Thread Cert.RgInIdeal.nD Cert.RgInIdeal.τ).loc Cert.RgInIdeal.main_arg2)
          ∧ r.2.mem ((c.tc : Thread Cert.RgInIdeal.nD Cert.RgInIdeal.τ).loc Cert.RgInIdeal.main_arg3) = m ((c.tc : Thread Cert.RgInIdeal.nD Cert.RgInIdeal.τ).loc Cert.RgInIdeal.main_arg3)
          ∧ r.2.mem ((c.tc : Thread Cert.RgInIdeal.nD Cert.RgInIdeal.τ).loc Cert.RgInIdeal.main_arg4) = m ((c.tc : Thread Cert.RgInIdeal.nD Cert.RgInIdeal.τ).loc Cert.RgInIdeal.main_arg4)
          ∧ r.2.mem ((c.tc : Thread Cert.RgInIdeal.nD Cert.RgInIdeal.τ).loc Cert.RgInIdeal.main_arg5) = m ((c.tc : Thread Cert.RgInIdeal.nD Cert.RgInIdeal.τ).loc Cert.RgInIdeal.main_arg5)
          ∧ r.2.mem ((c.tc : Thread Cert.RgInIdeal.nD Cert.RgInIdeal.τ).loc Cert.RgInIdeal.main_arg6) = m ((c.tc : Thread Cert.RgInIdeal.nD Cert.RgInIdeal.τ).loc Cert.RgInIdeal.main_arg6)
          ∧ r.2.mem ((c.tc : Thread Cert.RgInIdeal.nD Cert.RgInIdeal.τ).loc Cert.RgInIdeal.main_arg7) = m ((c.tc : Thread Cert.RgInIdeal.nD Cert.RgInIdeal.τ).loc Cert.RgInIdeal.main_arg7))
      ∧ θ_run (Cert.RgInRefIdeal.defs (F := Ideal)) (onTc (τ := Cert.RgInRefIdeal.τ) (Cert.RgInRefIdeal.main (F := Ideal))) ⟨m', fun _ => 0, g'⟩ (fun r => ∀ c : Dev Cert.RgInRefIdeal.nD,
          r.2.mem ((c.tc : Thread Cert.RgInRefIdeal.nD Cert.RgInRefIdeal.τ).loc Cert.RgInRefIdeal.main_v51) = v0 c
          ∧ r.2.mem ((c.tc : Thread Cert.RgInRefIdeal.nD Cert.RgInRefIdeal.τ).loc Cert.RgInRefIdeal.main_v66) = v1 c
          ∧ r.2.mem ((c.tc : Thread Cert.RgInRefIdeal.nD Cert.RgInRefIdeal.τ).loc Cert.RgInRefIdeal.main_arg0) = m' ((c.tc : Thread Cert.RgInRefIdeal.nD Cert.RgInRefIdeal.τ).loc Cert.RgInRefIdeal.main_arg0)
          ∧ r.2.mem ((c.tc : Thread Cert.RgInRefIdeal.nD Cert.RgInRefIdeal.τ).loc Cert.RgInRefIdeal.main_arg1) = m' ((c.tc : Thread Cert.RgInRefIdeal.nD Cert.RgInRefIdeal.τ).loc Cert.RgInRefIdeal.main_arg1)
          ∧ r.2.mem ((c.tc : Thread Cert.RgInRefIdeal.nD Cert.RgInRefIdeal.τ).loc Cert.RgInRefIdeal.main_arg2) = m' ((c.tc : Thread Cert.RgInRefIdeal.nD Cert.RgInRefIdeal.τ).loc Cert.RgInRefIdeal.main_arg2)
          ∧ r.2.mem ((c.tc : Thread Cert.RgInRefIdeal.nD Cert.RgInRefIdeal.τ).loc Cert.RgInRefIdeal.main_arg3) = m' ((c.tc : Thread Cert.RgInRefIdeal.nD Cert.RgInRefIdeal.τ).loc Cert.RgInRefIdeal.main_arg3)
          ∧ r.2.mem ((c.tc : Thread Cert.RgInRefIdeal.nD Cert.RgInRefIdeal.τ).loc Cert.RgInRefIdeal.main_arg4) = m' ((c.tc : Thread Cert.RgInRefIdeal.nD Cert.RgInRefIdeal.τ).loc Cert.RgInRefIdeal.main_arg4)
          ∧ r.2.mem ((c.tc : Thread Cert.RgInRefIdeal.nD Cert.RgInRefIdeal.τ).loc Cert.RgInRefIdeal.main_arg5) = m' ((c.tc : Thread Cert.RgInRefIdeal.nD Cert.RgInRefIdeal.τ).loc Cert.RgInRefIdeal.main_arg5)
          ∧ r.2.mem ((c.tc : Thread Cert.RgInRefIdeal.nD Cert.RgInRefIdeal.τ).loc Cert.RgInRefIdeal.main_arg6) = m' ((c.tc : Thread Cert.RgInRefIdeal.nD Cert.RgInRefIdeal.τ).loc Cert.RgInRefIdeal.main_arg6)
          ∧ r.2.mem ((c.tc : Thread Cert.RgInRefIdeal.nD Cert.RgInRefIdeal.τ).loc Cert.RgInRefIdeal.main_arg7) = m' ((c.tc : Thread Cert.RgInRefIdeal.nD Cert.RgInRefIdeal.τ).loc Cert.RgInRefIdeal.main_arg7))

def preserves_RgOut_RgOutIdeal : Prop :=
  True

def algebraic_RgOutIdeal_RgOutRefIdeal [hRgOutIdeal : Cert.RgOutIdeal.Facts] [hRgOutRefIdeal : Cert.RgOutRefIdeal.Facts] : Prop :=
  ∀ (m : (ℓ : Loc Cert.RgOutIdeal.nD Cert.RgOutIdeal.τ Cert.RgOutIdeal.sig) → Buf (Elt Ideal) ℓ) (g : Dev Cert.RgOutIdeal.nD → PrngReg)
    (m' : (ℓ : Loc Cert.RgOutRefIdeal.nD Cert.RgOutRefIdeal.τ Cert.RgOutRefIdeal.sig) → Buf (Elt Ideal) ℓ) (g' : Dev Cert.RgOutRefIdeal.nD → PrngReg), Pre_RgOutIdeal m →
    (∀ c : Dev Cert.RgOutIdeal.nD,
      m' ((c.tc : Thread Cert.RgOutRefIdeal.nD Cert.RgOutRefIdeal.τ).loc Cert.RgOutRefIdeal.main_arg0) = m ((c.tc : Thread Cert.RgOutIdeal.nD Cert.RgOutIdeal.τ).loc Cert.RgOutIdeal.main_arg0)
      ∧ m' ((c.tc : Thread Cert.RgOutRefIdeal.nD Cert.RgOutRefIdeal.τ).loc Cert.RgOutRefIdeal.main_arg1) = m ((c.tc : Thread Cert.RgOutIdeal.nD Cert.RgOutIdeal.τ).loc Cert.RgOutIdeal.main_arg1)
      ∧ m' ((c.tc : Thread Cert.RgOutRefIdeal.nD Cert.RgOutRefIdeal.τ).loc Cert.RgOutRefIdeal.main_arg2) = m ((c.tc : Thread Cert.RgOutIdeal.nD Cert.RgOutIdeal.τ).loc Cert.RgOutIdeal.main_arg2)
      ∧ m' ((c.tc : Thread Cert.RgOutRefIdeal.nD Cert.RgOutRefIdeal.τ).loc Cert.RgOutRefIdeal.main_arg3) = m ((c.tc : Thread Cert.RgOutIdeal.nD Cert.RgOutIdeal.τ).loc Cert.RgOutIdeal.main_arg3)
      ∧ m' ((c.tc : Thread Cert.RgOutRefIdeal.nD Cert.RgOutRefIdeal.τ).loc Cert.RgOutRefIdeal.main_arg4) = m ((c.tc : Thread Cert.RgOutIdeal.nD Cert.RgOutIdeal.τ).loc Cert.RgOutIdeal.main_arg4)
      ∧ m' ((c.tc : Thread Cert.RgOutRefIdeal.nD Cert.RgOutRefIdeal.τ).loc Cert.RgOutRefIdeal.main_arg5) = m ((c.tc : Thread Cert.RgOutIdeal.nD Cert.RgOutIdeal.τ).loc Cert.RgOutIdeal.main_arg5)
      ∧ m' ((c.tc : Thread Cert.RgOutRefIdeal.nD Cert.RgOutRefIdeal.τ).loc Cert.RgOutRefIdeal.main_arg6) = m ((c.tc : Thread Cert.RgOutIdeal.nD Cert.RgOutIdeal.τ).loc Cert.RgOutIdeal.main_arg6)
      ∧ m' ((c.tc : Thread Cert.RgOutRefIdeal.nD Cert.RgOutRefIdeal.τ).loc Cert.RgOutRefIdeal.main_arg7) = m ((c.tc : Thread Cert.RgOutIdeal.nD Cert.RgOutIdeal.τ).loc Cert.RgOutIdeal.main_arg7)
      ∧ m' ((c.tc : Thread Cert.RgOutRefIdeal.nD Cert.RgOutRefIdeal.τ).loc Cert.RgOutRefIdeal.main_arg8) = m ((c.tc : Thread Cert.RgOutIdeal.nD Cert.RgOutIdeal.τ).loc Cert.RgOutIdeal.main_arg8)
      ∧ m' ((c.tc : Thread Cert.RgOutRefIdeal.nD Cert.RgOutRefIdeal.τ).loc Cert.RgOutRefIdeal.main_arg9) = m ((c.tc : Thread Cert.RgOutIdeal.nD Cert.RgOutIdeal.τ).loc Cert.RgOutIdeal.main_arg9)) →
    ∃ (v0 : (c : Dev Cert.RgOutIdeal.nD) → Buf (Elt Ideal) ((c.tc : Thread Cert.RgOutIdeal.nD Cert.RgOutIdeal.τ).loc Cert.RgOutIdeal.main_v4_0)) (v1 : (c : Dev Cert.RgOutIdeal.nD) → Buf (Elt Ideal) ((c.tc : Thread Cert.RgOutIdeal.nD Cert.RgOutIdeal.τ).loc Cert.RgOutIdeal.main_v4_1)),
      θ_run (Cert.RgOutIdeal.defs (F := Ideal)) (onTc (τ := Cert.RgOutIdeal.τ) (Cert.RgOutIdeal.main (F := Ideal))) ⟨m, fun _ => 0, g⟩ (fun r => ∀ c : Dev Cert.RgOutIdeal.nD,
          r.2.mem ((c.tc : Thread Cert.RgOutIdeal.nD Cert.RgOutIdeal.τ).loc Cert.RgOutIdeal.main_v4_0) = v0 c
          ∧ r.2.mem ((c.tc : Thread Cert.RgOutIdeal.nD Cert.RgOutIdeal.τ).loc Cert.RgOutIdeal.main_v4_1) = v1 c
          ∧ r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
          ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
          ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
          ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
          ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
          ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5)
          ∧ r.2.mem ((c.tc : Thread Cert.RgOutIdeal.nD Cert.RgOutIdeal.τ).loc Cert.RgOutIdeal.main_arg6) = m ((c.tc : Thread Cert.RgOutIdeal.nD Cert.RgOutIdeal.τ).loc Cert.RgOutIdeal.main_arg6)
          ∧ r.2.mem ((c.tc : Thread Cert.RgOutIdeal.nD Cert.RgOutIdeal.τ).loc Cert.RgOutIdeal.main_arg7) = m ((c.tc : Thread Cert.RgOutIdeal.nD Cert.RgOutIdeal.τ).loc Cert.RgOutIdeal.main_arg7)
          ∧ r.2.mem ((c.tc : Thread Cert.RgOutIdeal.nD Cert.RgOutIdeal.τ).loc Cert.RgOutIdeal.main_arg8) = m ((c.tc : Thread Cert.RgOutIdeal.nD Cert.RgOutIdeal.τ).loc Cert.RgOutIdeal.main_arg8)
          ∧ r.2.mem ((c.tc : Thread Cert.RgOutIdeal.nD Cert.RgOutIdeal.τ).loc Cert.RgOutIdeal.main_arg9) = m ((c.tc : Thread Cert.RgOutIdeal.nD Cert.RgOutIdeal.τ).loc Cert.RgOutIdeal.main_arg9))
      ∧ θ_run (Cert.RgOutRefIdeal.defs (F := Ideal)) (onTc (τ := Cert.RgOutRefIdeal.τ) (Cert.RgOutRefIdeal.main (F := Ideal))) ⟨m', fun _ => 0, g'⟩ (fun r => ∀ c : Dev Cert.RgOutRefIdeal.nD,
          r.2.mem ((c.tc : Thread Cert.RgOutRefIdeal.nD Cert.RgOutRefIdeal.τ).loc Cert.RgOutRefIdeal.main_v8) = v0 c
          ∧ r.2.mem ((c.tc : Thread Cert.RgOutRefIdeal.nD Cert.RgOutRefIdeal.τ).loc Cert.RgOutRefIdeal.main_v28) = v1 c
          ∧ r.2.mem ((c.tc : Thread Cert.RgOutRefIdeal.nD Cert.RgOutRefIdeal.τ).loc Cert.RgOutRefIdeal.main_arg0) = m' ((c.tc : Thread Cert.RgOutRefIdeal.nD Cert.RgOutRefIdeal.τ).loc Cert.RgOutRefIdeal.main_arg0)
          ∧ r.2.mem ((c.tc : Thread Cert.RgOutRefIdeal.nD Cert.RgOutRefIdeal.τ).loc Cert.RgOutRefIdeal.main_arg1) = m' ((c.tc : Thread Cert.RgOutRefIdeal.nD Cert.RgOutRefIdeal.τ).loc Cert.RgOutRefIdeal.main_arg1)
          ∧ r.2.mem ((c.tc : Thread Cert.RgOutRefIdeal.nD Cert.RgOutRefIdeal.τ).loc Cert.RgOutRefIdeal.main_arg2) = m' ((c.tc : Thread Cert.RgOutRefIdeal.nD Cert.RgOutRefIdeal.τ).loc Cert.RgOutRefIdeal.main_arg2)
          ∧ r.2.mem ((c.tc : Thread Cert.RgOutRefIdeal.nD Cert.RgOutRefIdeal.τ).loc Cert.RgOutRefIdeal.main_arg3) = m' ((c.tc : Thread Cert.RgOutRefIdeal.nD Cert.RgOutRefIdeal.τ).loc Cert.RgOutRefIdeal.main_arg3)
          ∧ r.2.mem ((c.tc : Thread Cert.RgOutRefIdeal.nD Cert.RgOutRefIdeal.τ).loc Cert.RgOutRefIdeal.main_arg4) = m' ((c.tc : Thread Cert.RgOutRefIdeal.nD Cert.RgOutRefIdeal.τ).loc Cert.RgOutRefIdeal.main_arg4)
          ∧ r.2.mem ((c.tc : Thread Cert.RgOutRefIdeal.nD Cert.RgOutRefIdeal.τ).loc Cert.RgOutRefIdeal.main_arg5) = m' ((c.tc : Thread Cert.RgOutRefIdeal.nD Cert.RgOutRefIdeal.τ).loc Cert.RgOutRefIdeal.main_arg5)
          ∧ r.2.mem ((c.tc : Thread Cert.RgOutRefIdeal.nD Cert.RgOutRefIdeal.τ).loc Cert.RgOutRefIdeal.main_arg6) = m' ((c.tc : Thread Cert.RgOutRefIdeal.nD Cert.RgOutRefIdeal.τ).loc Cert.RgOutRefIdeal.main_arg6)
          ∧ r.2.mem ((c.tc : Thread Cert.RgOutRefIdeal.nD Cert.RgOutRefIdeal.τ).loc Cert.RgOutRefIdeal.main_arg7) = m' ((c.tc : Thread Cert.RgOutRefIdeal.nD Cert.RgOutRefIdeal.τ).loc Cert.RgOutRefIdeal.main_arg7)
          ∧ r.2.mem ((c.tc : Thread Cert.RgOutRefIdeal.nD Cert.RgOutRefIdeal.τ).loc Cert.RgOutRefIdeal.main_arg8) = m' ((c.tc : Thread Cert.RgOutRefIdeal.nD Cert.RgOutRefIdeal.τ).loc Cert.RgOutRefIdeal.main_arg8)
          ∧ r.2.mem ((c.tc : Thread Cert.RgOutRefIdeal.nD Cert.RgOutRefIdeal.τ).loc Cert.RgOutRefIdeal.main_arg9) = m' ((c.tc : Thread Cert.RgOutRefIdeal.nD Cert.RgOutRefIdeal.τ).loc Cert.RgOutRefIdeal.main_arg9))

def preserves_MoeCtx_MoeCtxIdeal : Prop :=
  True

def algebraic_MoeCtxIdeal_MoeCtxRefIdeal_pre_gates_ctx [hMoeCtxIdeal : Cert.MoeCtxIdeal.Facts] [hMoeCtxRefIdeal : Cert.MoeCtxRefIdeal.Facts] [hPre_gates_ctx : Cert.Pre_gates_ctx.Facts] : Prop :=
  ∀ (m : (ℓ : Loc Cert.MoeCtxIdeal.nD Cert.MoeCtxIdeal.τ Cert.MoeCtxIdeal.sig) → Buf (Elt Ideal) ℓ) (g : Dev Cert.MoeCtxIdeal.nD → PrngReg)
    (m' : (ℓ : Loc Cert.MoeCtxRefIdeal.nD Cert.MoeCtxRefIdeal.τ Cert.MoeCtxRefIdeal.sig) → Buf (Elt Ideal) ℓ) (g' : Dev Cert.MoeCtxRefIdeal.nD → PrngReg), Pre_MoeCtxIdeal_gates_ctx m →
    (∀ c : Dev Cert.MoeCtxIdeal.nD,
      m' ((c.tc : Thread Cert.MoeCtxRefIdeal.nD Cert.MoeCtxRefIdeal.τ).loc Cert.MoeCtxRefIdeal.main_arg0) = m ((c.tc : Thread Cert.MoeCtxIdeal.nD Cert.MoeCtxIdeal.τ).loc Cert.MoeCtxIdeal.main_arg0)
      ∧ m' ((c.tc : Thread Cert.MoeCtxRefIdeal.nD Cert.MoeCtxRefIdeal.τ).loc Cert.MoeCtxRefIdeal.main_arg1) = m ((c.tc : Thread Cert.MoeCtxIdeal.nD Cert.MoeCtxIdeal.τ).loc Cert.MoeCtxIdeal.main_arg1)
      ∧ m' ((c.tc : Thread Cert.MoeCtxRefIdeal.nD Cert.MoeCtxRefIdeal.τ).loc Cert.MoeCtxRefIdeal.main_arg2) = m ((c.tc : Thread Cert.MoeCtxIdeal.nD Cert.MoeCtxIdeal.τ).loc Cert.MoeCtxIdeal.main_arg2)
      ∧ m' ((c.tc : Thread Cert.MoeCtxRefIdeal.nD Cert.MoeCtxRefIdeal.τ).loc Cert.MoeCtxRefIdeal.main_arg3) = m ((c.tc : Thread Cert.MoeCtxIdeal.nD Cert.MoeCtxIdeal.τ).loc Cert.MoeCtxIdeal.main_arg3)
      ∧ m' ((c.tc : Thread Cert.MoeCtxRefIdeal.nD Cert.MoeCtxRefIdeal.τ).loc Cert.MoeCtxRefIdeal.main_arg4) = m ((c.tc : Thread Cert.MoeCtxIdeal.nD Cert.MoeCtxIdeal.τ).loc Cert.MoeCtxIdeal.main_arg4)
      ∧ m' ((c.tc : Thread Cert.MoeCtxRefIdeal.nD Cert.MoeCtxRefIdeal.τ).loc Cert.MoeCtxRefIdeal.main_arg5) = m ((c.tc : Thread Cert.MoeCtxIdeal.nD Cert.MoeCtxIdeal.τ).loc Cert.MoeCtxIdeal.main_arg5)
      ∧ m' ((c.tc : Thread Cert.MoeCtxRefIdeal.nD Cert.MoeCtxRefIdeal.τ).loc Cert.MoeCtxRefIdeal.main_arg6) = m ((c.tc : Thread Cert.MoeCtxIdeal.nD Cert.MoeCtxIdeal.τ).loc Cert.MoeCtxIdeal.main_arg6)) →
    ∃ (v0 : (c : Dev Cert.MoeCtxIdeal.nD) → Buf (Elt Ideal) ((c.tc : Thread Cert.MoeCtxIdeal.nD Cert.MoeCtxIdeal.τ).loc Cert.MoeCtxIdeal.main_v3)),
      θ_run (Cert.MoeCtxIdeal.defs (F := Ideal)) (onTc (τ := Cert.MoeCtxIdeal.τ) (Cert.MoeCtxIdeal.main (F := Ideal))) ⟨m, fun _ => 0, g⟩ (fun r => ∀ c : Dev Cert.MoeCtxIdeal.nD,
          r.2.mem ((c.tc : Thread Cert.MoeCtxIdeal.nD Cert.MoeCtxIdeal.τ).loc Cert.MoeCtxIdeal.main_v3) = v0 c
          ∧ r.2.mem ((c.tc : Thread Cert.MoeCtxIdeal.nD Cert.MoeCtxIdeal.τ).loc Cert.MoeCtxIdeal.main_arg0) = m ((c.tc : Thread Cert.MoeCtxIdeal.nD Cert.MoeCtxIdeal.τ).loc Cert.MoeCtxIdeal.main_arg0)
          ∧ r.2.mem ((c.tc : Thread Cert.MoeCtxIdeal.nD Cert.MoeCtxIdeal.τ).loc Cert.MoeCtxIdeal.main_arg1) = m ((c.tc : Thread Cert.MoeCtxIdeal.nD Cert.MoeCtxIdeal.τ).loc Cert.MoeCtxIdeal.main_arg1)
          ∧ r.2.mem ((c.tc : Thread Cert.MoeCtxIdeal.nD Cert.MoeCtxIdeal.τ).loc Cert.MoeCtxIdeal.main_arg2) = m ((c.tc : Thread Cert.MoeCtxIdeal.nD Cert.MoeCtxIdeal.τ).loc Cert.MoeCtxIdeal.main_arg2)
          ∧ r.2.mem ((c.tc : Thread Cert.MoeCtxIdeal.nD Cert.MoeCtxIdeal.τ).loc Cert.MoeCtxIdeal.main_arg3) = m ((c.tc : Thread Cert.MoeCtxIdeal.nD Cert.MoeCtxIdeal.τ).loc Cert.MoeCtxIdeal.main_arg3)
          ∧ r.2.mem ((c.tc : Thread Cert.MoeCtxIdeal.nD Cert.MoeCtxIdeal.τ).loc Cert.MoeCtxIdeal.main_arg4) = m ((c.tc : Thread Cert.MoeCtxIdeal.nD Cert.MoeCtxIdeal.τ).loc Cert.MoeCtxIdeal.main_arg4)
          ∧ r.2.mem ((c.tc : Thread Cert.MoeCtxIdeal.nD Cert.MoeCtxIdeal.τ).loc Cert.MoeCtxIdeal.main_arg5) = m ((c.tc : Thread Cert.MoeCtxIdeal.nD Cert.MoeCtxIdeal.τ).loc Cert.MoeCtxIdeal.main_arg5)
          ∧ r.2.mem ((c.tc : Thread Cert.MoeCtxIdeal.nD Cert.MoeCtxIdeal.τ).loc Cert.MoeCtxIdeal.main_arg6) = m ((c.tc : Thread Cert.MoeCtxIdeal.nD Cert.MoeCtxIdeal.τ).loc Cert.MoeCtxIdeal.main_arg6))
      ∧ θ_run (Cert.MoeCtxRefIdeal.defs (F := Ideal)) (onTc (τ := Cert.MoeCtxRefIdeal.τ) (Cert.MoeCtxRefIdeal.main (F := Ideal))) ⟨m', fun _ => 0, g'⟩ (fun r => ∀ c : Dev Cert.MoeCtxRefIdeal.nD,
          r.2.mem ((c.tc : Thread Cert.MoeCtxRefIdeal.nD Cert.MoeCtxRefIdeal.τ).loc Cert.MoeCtxRefIdeal.main_v124) = v0 c
          ∧ r.2.mem ((c.tc : Thread Cert.MoeCtxRefIdeal.nD Cert.MoeCtxRefIdeal.τ).loc Cert.MoeCtxRefIdeal.main_arg0) = m' ((c.tc : Thread Cert.MoeCtxRefIdeal.nD Cert.MoeCtxRefIdeal.τ).loc Cert.MoeCtxRefIdeal.main_arg0)
          ∧ r.2.mem ((c.tc : Thread Cert.MoeCtxRefIdeal.nD Cert.MoeCtxRefIdeal.τ).loc Cert.MoeCtxRefIdeal.main_arg1) = m' ((c.tc : Thread Cert.MoeCtxRefIdeal.nD Cert.MoeCtxRefIdeal.τ).loc Cert.MoeCtxRefIdeal.main_arg1)
          ∧ r.2.mem ((c.tc : Thread Cert.MoeCtxRefIdeal.nD Cert.MoeCtxRefIdeal.τ).loc Cert.MoeCtxRefIdeal.main_arg2) = m' ((c.tc : Thread Cert.MoeCtxRefIdeal.nD Cert.MoeCtxRefIdeal.τ).loc Cert.MoeCtxRefIdeal.main_arg2)
          ∧ r.2.mem ((c.tc : Thread Cert.MoeCtxRefIdeal.nD Cert.MoeCtxRefIdeal.τ).loc Cert.MoeCtxRefIdeal.main_arg3) = m' ((c.tc : Thread Cert.MoeCtxRefIdeal.nD Cert.MoeCtxRefIdeal.τ).loc Cert.MoeCtxRefIdeal.main_arg3)
          ∧ r.2.mem ((c.tc : Thread Cert.MoeCtxRefIdeal.nD Cert.MoeCtxRefIdeal.τ).loc Cert.MoeCtxRefIdeal.main_arg4) = m' ((c.tc : Thread Cert.MoeCtxRefIdeal.nD Cert.MoeCtxRefIdeal.τ).loc Cert.MoeCtxRefIdeal.main_arg4)
          ∧ r.2.mem ((c.tc : Thread Cert.MoeCtxRefIdeal.nD Cert.MoeCtxRefIdeal.τ).loc Cert.MoeCtxRefIdeal.main_arg5) = m' ((c.tc : Thread Cert.MoeCtxRefIdeal.nD Cert.MoeCtxRefIdeal.τ).loc Cert.MoeCtxRefIdeal.main_arg5)
          ∧ r.2.mem ((c.tc : Thread Cert.MoeCtxRefIdeal.nD Cert.MoeCtxRefIdeal.τ).loc Cert.MoeCtxRefIdeal.main_arg6) = m' ((c.tc : Thread Cert.MoeCtxRefIdeal.nD Cert.MoeCtxRefIdeal.τ).loc Cert.MoeCtxRefIdeal.main_arg6))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)
      ∧ m' ((c.tc : Thread Cert.FfnCtxRefIdeal.nD Cert.FfnCtxRefIdeal.τ).loc Cert.FfnCtxRefIdeal.main_arg5) = m ((c.tc : Thread Cert.FfnCtxIdeal.nD Cert.FfnCtxIdeal.τ).loc Cert.FfnCtxIdeal.main_arg5)
      ∧ m' ((c.tc : Thread Cert.FfnCtxRefIdeal.nD Cert.FfnCtxRefIdeal.τ).loc Cert.FfnCtxRefIdeal.main_arg6) = m ((c.tc : Thread Cert.FfnCtxIdeal.nD Cert.FfnCtxIdeal.τ).loc Cert.FfnCtxIdeal.main_arg6)
      ∧ m' ((c.tc : Thread Cert.FfnCtxRefIdeal.nD Cert.FfnCtxRefIdeal.τ).loc Cert.FfnCtxRefIdeal.main_arg7) = m ((c.tc : Thread Cert.FfnCtxIdeal.nD Cert.FfnCtxIdeal.τ).loc Cert.FfnCtxIdeal.main_arg7)
      ∧ m' ((c.tc : Thread Cert.FfnCtxRefIdeal.nD Cert.FfnCtxRefIdeal.τ).loc Cert.FfnCtxRefIdeal.main_arg8) = m ((c.tc : Thread Cert.FfnCtxIdeal.nD Cert.FfnCtxIdeal.τ).loc Cert.FfnCtxIdeal.main_arg8)
      ∧ m' ((c.tc : Thread Cert.FfnCtxRefIdeal.nD Cert.FfnCtxRefIdeal.τ).loc Cert.FfnCtxRefIdeal.main_arg9) = m ((c.tc : Thread Cert.FfnCtxIdeal.nD Cert.FfnCtxIdeal.τ).loc Cert.FfnCtxIdeal.main_arg9)
      ∧ m' ((c.tc : Thread Cert.FfnCtxRefIdeal.nD Cert.FfnCtxRefIdeal.τ).loc Cert.FfnCtxRefIdeal.main_arg10) = m ((c.tc : Thread Cert.FfnCtxIdeal.nD Cert.FfnCtxIdeal.τ).loc Cert.FfnCtxIdeal.main_arg10)) →
    ∃ (v0 : (c : Dev Cert.FfnCtxIdeal.nD) → Buf (Elt Ideal) ((c.tc : Thread Cert.FfnCtxIdeal.nD Cert.FfnCtxIdeal.τ).loc Cert.FfnCtxIdeal.main_v5)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v5) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6)
          ∧ r.2.mem ((c.tc : Thread Cert.FfnCtxIdeal.nD Cert.FfnCtxIdeal.τ).loc Cert.FfnCtxIdeal.main_arg7) = m ((c.tc : Thread Cert.FfnCtxIdeal.nD Cert.FfnCtxIdeal.τ).loc Cert.FfnCtxIdeal.main_arg7)
          ∧ r.2.mem ((c.tc : Thread Cert.FfnCtxIdeal.nD Cert.FfnCtxIdeal.τ).loc Cert.FfnCtxIdeal.main_arg8) = m ((c.tc : Thread Cert.FfnCtxIdeal.nD Cert.FfnCtxIdeal.τ).loc Cert.FfnCtxIdeal.main_arg8)
          ∧ r.2.mem ((c.tc : Thread Cert.FfnCtxIdeal.nD Cert.FfnCtxIdeal.τ).loc Cert.FfnCtxIdeal.main_arg9) = m ((c.tc : Thread Cert.FfnCtxIdeal.nD Cert.FfnCtxIdeal.τ).loc Cert.FfnCtxIdeal.main_arg9)
          ∧ r.2.mem ((c.tc : Thread Cert.FfnCtxIdeal.nD Cert.FfnCtxIdeal.τ).loc Cert.FfnCtxIdeal.main_arg10) = m ((c.tc : Thread Cert.FfnCtxIdeal.nD Cert.FfnCtxIdeal.τ).loc Cert.FfnCtxIdeal.main_arg10))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v31) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4)
          ∧ r.2.mem ((c.tc : Thread Cert.FfnCtxRefIdeal.nD Cert.FfnCtxRefIdeal.τ).loc Cert.FfnCtxRefIdeal.main_arg5) = m' ((c.tc : Thread Cert.FfnCtxRefIdeal.nD Cert.FfnCtxRefIdeal.τ).loc Cert.FfnCtxRefIdeal.main_arg5)
          ∧ r.2.mem ((c.tc : Thread Cert.FfnCtxRefIdeal.nD Cert.FfnCtxRefIdeal.τ).loc Cert.FfnCtxRefIdeal.main_arg6) = m' ((c.tc : Thread Cert.FfnCtxRefIdeal.nD Cert.FfnCtxRefIdeal.τ).loc Cert.FfnCtxRefIdeal.main_arg6)
          ∧ r.2.mem ((c.tc : Thread Cert.FfnCtxRefIdeal.nD Cert.FfnCtxRefIdeal.τ).loc Cert.FfnCtxRefIdeal.main_arg7) = m' ((c.tc : Thread Cert.FfnCtxRefIdeal.nD Cert.FfnCtxRefIdeal.τ).loc Cert.FfnCtxRefIdeal.main_arg7)
          ∧ r.2.mem ((c.tc : Thread Cert.FfnCtxRefIdeal.nD Cert.FfnCtxRefIdeal.τ).loc Cert.FfnCtxRefIdeal.main_arg8) = m' ((c.tc : Thread Cert.FfnCtxRefIdeal.nD Cert.FfnCtxRefIdeal.τ).loc Cert.FfnCtxRefIdeal.main_arg8)
          ∧ r.2.mem ((c.tc : Thread Cert.FfnCtxRefIdeal.nD Cert.FfnCtxRefIdeal.τ).loc Cert.FfnCtxRefIdeal.main_arg9) = m' ((c.tc : Thread Cert.FfnCtxRefIdeal.nD Cert.FfnCtxRefIdeal.τ).loc Cert.FfnCtxRefIdeal.main_arg9)
          ∧ r.2.mem ((c.tc : Thread Cert.FfnCtxRefIdeal.nD Cert.FfnCtxRefIdeal.τ).loc Cert.FfnCtxRefIdeal.main_arg10) = m' ((c.tc : Thread Cert.FfnCtxRefIdeal.nD Cert.FfnCtxRefIdeal.τ).loc Cert.FfnCtxRefIdeal.main_arg10))

def preserves_RgOutCtx_RgOutCtxIdeal : Prop :=
  True

def algebraic_RgOutCtxIdeal_RgOutCtxRefIdeal [hRgOutCtxIdeal : Cert.RgOutCtxIdeal.Facts] [hRgOutCtxRefIdeal : Cert.RgOutCtxRefIdeal.Facts] : Prop :=
  ∀ (m : (ℓ : Loc Cert.RgOutCtxIdeal.nD Cert.RgOutCtxIdeal.τ Cert.RgOutCtxIdeal.sig) → Buf (Elt Ideal) ℓ) (g : Dev Cert.RgOutCtxIdeal.nD → PrngReg)
    (m' : (ℓ : Loc Cert.RgOutCtxRefIdeal.nD Cert.RgOutCtxRefIdeal.τ Cert.RgOutCtxRefIdeal.sig) → Buf (Elt Ideal) ℓ) (g' : Dev Cert.RgOutCtxRefIdeal.nD → PrngReg), Pre_RgOutCtxIdeal m →
    (∀ c : Dev Cert.RgOutCtxIdeal.nD,
      m' ((c.tc : Thread Cert.RgOutCtxRefIdeal.nD Cert.RgOutCtxRefIdeal.τ).loc Cert.RgOutCtxRefIdeal.main_arg0) = m ((c.tc : Thread Cert.RgOutCtxIdeal.nD Cert.RgOutCtxIdeal.τ).loc Cert.RgOutCtxIdeal.main_arg0)
      ∧ m' ((c.tc : Thread Cert.RgOutCtxRefIdeal.nD Cert.RgOutCtxRefIdeal.τ).loc Cert.RgOutCtxRefIdeal.main_arg1) = m ((c.tc : Thread Cert.RgOutCtxIdeal.nD Cert.RgOutCtxIdeal.τ).loc Cert.RgOutCtxIdeal.main_arg1)
      ∧ m' ((c.tc : Thread Cert.RgOutCtxRefIdeal.nD Cert.RgOutCtxRefIdeal.τ).loc Cert.RgOutCtxRefIdeal.main_arg2) = m ((c.tc : Thread Cert.RgOutCtxIdeal.nD Cert.RgOutCtxIdeal.τ).loc Cert.RgOutCtxIdeal.main_arg2)
      ∧ m' ((c.tc : Thread Cert.RgOutCtxRefIdeal.nD Cert.RgOutCtxRefIdeal.τ).loc Cert.RgOutCtxRefIdeal.main_arg3) = m ((c.tc : Thread Cert.RgOutCtxIdeal.nD Cert.RgOutCtxIdeal.τ).loc Cert.RgOutCtxIdeal.main_arg3)
      ∧ m' ((c.tc : Thread Cert.RgOutCtxRefIdeal.nD Cert.RgOutCtxRefIdeal.τ).loc Cert.RgOutCtxRefIdeal.main_arg4) = m ((c.tc : Thread Cert.RgOutCtxIdeal.nD Cert.RgOutCtxIdeal.τ).loc Cert.RgOutCtxIdeal.main_arg4)
      ∧ m' ((c.tc : Thread Cert.RgOutCtxRefIdeal.nD Cert.RgOutCtxRefIdeal.τ).loc Cert.RgOutCtxRefIdeal.main_arg5) = m ((c.tc : Thread Cert.RgOutCtxIdeal.nD Cert.RgOutCtxIdeal.τ).loc Cert.RgOutCtxIdeal.main_arg5)
      ∧ m' ((c.tc : Thread Cert.RgOutCtxRefIdeal.nD Cert.RgOutCtxRefIdeal.τ).loc Cert.RgOutCtxRefIdeal.main_arg6) = m ((c.tc : Thread Cert.RgOutCtxIdeal.nD Cert.RgOutCtxIdeal.τ).loc Cert.RgOutCtxIdeal.main_arg6)
      ∧ m' ((c.tc : Thread Cert.RgOutCtxRefIdeal.nD Cert.RgOutCtxRefIdeal.τ).loc Cert.RgOutCtxRefIdeal.main_arg7) = m ((c.tc : Thread Cert.RgOutCtxIdeal.nD Cert.RgOutCtxIdeal.τ).loc Cert.RgOutCtxIdeal.main_arg7)
      ∧ m' ((c.tc : Thread Cert.RgOutCtxRefIdeal.nD Cert.RgOutCtxRefIdeal.τ).loc Cert.RgOutCtxRefIdeal.main_arg8) = m ((c.tc : Thread Cert.RgOutCtxIdeal.nD Cert.RgOutCtxIdeal.τ).loc Cert.RgOutCtxIdeal.main_arg8)
      ∧ m' ((c.tc : Thread Cert.RgOutCtxRefIdeal.nD Cert.RgOutCtxRefIdeal.τ).loc Cert.RgOutCtxRefIdeal.main_arg9) = m ((c.tc : Thread Cert.RgOutCtxIdeal.nD Cert.RgOutCtxIdeal.τ).loc Cert.RgOutCtxIdeal.main_arg9)) →
    ∃ (v0 : (c : Dev Cert.RgOutCtxIdeal.nD) → Buf (Elt Ideal) ((c.tc : Thread Cert.RgOutCtxIdeal.nD Cert.RgOutCtxIdeal.τ).loc Cert.RgOutCtxIdeal.main_v4_0)) (v1 : (c : Dev Cert.RgOutCtxIdeal.nD) → Buf (Elt Ideal) ((c.tc : Thread Cert.RgOutCtxIdeal.nD Cert.RgOutCtxIdeal.τ).loc Cert.RgOutCtxIdeal.main_v4_1)),
      θ_run (Cert.RgOutCtxIdeal.defs (F := Ideal)) (onTc (τ := Cert.RgOutCtxIdeal.τ) (Cert.RgOutCtxIdeal.main (F := Ideal))) ⟨m, fun _ => 0, g⟩ (fun r => ∀ c : Dev Cert.RgOutCtxIdeal.nD,
          r.2.mem ((c.tc : Thread Cert.RgOutCtxIdeal.nD Cert.RgOutCtxIdeal.τ).loc Cert.RgOutCtxIdeal.main_v4_0) = v0 c
          ∧ r.2.mem ((c.tc : Thread Cert.RgOutCtxIdeal.nD Cert.RgOutCtxIdeal.τ).loc Cert.RgOutCtxIdeal.main_v4_1) = v1 c
          ∧ r.2.mem ((c.tc : Thread Cert.RgOutCtxIdeal.nD Cert.RgOutCtxIdeal.τ).loc Cert.RgOutCtxIdeal.main_arg0) = m ((c.tc : Thread Cert.RgOutCtxIdeal.nD Cert.RgOutCtxIdeal.τ).loc Cert.RgOutCtxIdeal.main_arg0)
          ∧ r.2.mem ((c.tc : Thread Cert.RgOutCtxIdeal.nD Cert.RgOutCtxIdeal.τ).loc Cert.RgOutCtxIdeal.main_arg1) = m ((c.tc : Thread Cert.RgOutCtxIdeal.nD Cert.RgOutCtxIdeal.τ).loc Cert.RgOutCtxIdeal.main_arg1)
          ∧ r.2.mem ((c.tc : Thread Cert.RgOutCtxIdeal.nD Cert.RgOutCtxIdeal.τ).loc Cert.RgOutCtxIdeal.main_arg2) = m ((c.tc : Thread Cert.RgOutCtxIdeal.nD Cert.RgOutCtxIdeal.τ).loc Cert.RgOutCtxIdeal.main_arg2)
          ∧ r.2.mem ((c.tc : Thread Cert.RgOutCtxIdeal.nD Cert.RgOutCtxIdeal.τ).loc Cert.RgOutCtxIdeal.main_arg3) = m ((c.tc : Thread Cert.RgOutCtxIdeal.nD Cert.RgOutCtxIdeal.τ).loc Cert.RgOutCtxIdeal.main_arg3)
          ∧ r.2.mem ((c.tc : Thread Cert.RgOutCtxIdeal.nD Cert.RgOutCtxIdeal.τ).loc Cert.RgOutCtxIdeal.main_arg4) = m ((c.tc : Thread Cert.RgOutCtxIdeal.nD Cert.RgOutCtxIdeal.τ).loc Cert.RgOutCtxIdeal.main_arg4)
          ∧ r.2.mem ((c.tc : Thread Cert.RgOutCtxIdeal.nD Cert.RgOutCtxIdeal.τ).loc Cert.RgOutCtxIdeal.main_arg5) = m ((c.tc : Thread Cert.RgOutCtxIdeal.nD Cert.RgOutCtxIdeal.τ).loc Cert.RgOutCtxIdeal.main_arg5)
          ∧ r.2.mem ((c.tc : Thread Cert.RgOutCtxIdeal.nD Cert.RgOutCtxIdeal.τ).loc Cert.RgOutCtxIdeal.main_arg6) = m ((c.tc : Thread Cert.RgOutCtxIdeal.nD Cert.RgOutCtxIdeal.τ).loc Cert.RgOutCtxIdeal.main_arg6)
          ∧ r.2.mem ((c.tc : Thread Cert.RgOutCtxIdeal.nD Cert.RgOutCtxIdeal.τ).loc Cert.RgOutCtxIdeal.main_arg7) = m ((c.tc : Thread Cert.RgOutCtxIdeal.nD Cert.RgOutCtxIdeal.τ).loc Cert.RgOutCtxIdeal.main_arg7)
          ∧ r.2.mem ((c.tc : Thread Cert.RgOutCtxIdeal.nD Cert.RgOutCtxIdeal.τ).loc Cert.RgOutCtxIdeal.main_arg8) = m ((c.tc : Thread Cert.RgOutCtxIdeal.nD Cert.RgOutCtxIdeal.τ).loc Cert.RgOutCtxIdeal.main_arg8)
          ∧ r.2.mem ((c.tc : Thread Cert.RgOutCtxIdeal.nD Cert.RgOutCtxIdeal.τ).loc Cert.RgOutCtxIdeal.main_arg9) = m ((c.tc : Thread Cert.RgOutCtxIdeal.nD Cert.RgOutCtxIdeal.τ).loc Cert.RgOutCtxIdeal.main_arg9))
      ∧ θ_run (Cert.RgOutCtxRefIdeal.defs (F := Ideal)) (onTc (τ := Cert.RgOutCtxRefIdeal.τ) (Cert.RgOutCtxRefIdeal.main (F := Ideal))) ⟨m', fun _ => 0, g'⟩ (fun r => ∀ c : Dev Cert.RgOutCtxRefIdeal.nD,
          r.2.mem ((c.tc : Thread Cert.RgOutCtxRefIdeal.nD Cert.RgOutCtxRefIdeal.τ).loc Cert.RgOutCtxRefIdeal.main_v8) = v0 c
          ∧ r.2.mem ((c.tc : Thread Cert.RgOutCtxRefIdeal.nD Cert.RgOutCtxRefIdeal.τ).loc Cert.RgOutCtxRefIdeal.main_v28) = v1 c
          ∧ r.2.mem ((c.tc : Thread Cert.RgOutCtxRefIdeal.nD Cert.RgOutCtxRefIdeal.τ).loc Cert.RgOutCtxRefIdeal.main_arg0) = m' ((c.tc : Thread Cert.RgOutCtxRefIdeal.nD Cert.RgOutCtxRefIdeal.τ).loc Cert.RgOutCtxRefIdeal.main_arg0)
          ∧ r.2.mem ((c.tc : Thread Cert.RgOutCtxRefIdeal.nD Cert.RgOutCtxRefIdeal.τ).loc Cert.RgOutCtxRefIdeal.main_arg1) = m' ((c.tc : Thread Cert.RgOutCtxRefIdeal.nD Cert.RgOutCtxRefIdeal.τ).loc Cert.RgOutCtxRefIdeal.main_arg1)
          ∧ r.2.mem ((c.tc : Thread Cert.RgOutCtxRefIdeal.nD Cert.RgOutCtxRefIdeal.τ).loc Cert.RgOutCtxRefIdeal.main_arg2) = m' ((c.tc : Thread Cert.RgOutCtxRefIdeal.nD Cert.RgOutCtxRefIdeal.τ).loc Cert.RgOutCtxRefIdeal.main_arg2)
          ∧ r.2.mem ((c.tc : Thread Cert.RgOutCtxRefIdeal.nD Cert.RgOutCtxRefIdeal.τ).loc Cert.RgOutCtxRefIdeal.main_arg3) = m' ((c.tc : Thread Cert.RgOutCtxRefIdeal.nD Cert.RgOutCtxRefIdeal.τ).loc Cert.RgOutCtxRefIdeal.main_arg3)
          ∧ r.2.mem ((c.tc : Thread Cert.RgOutCtxRefIdeal.nD Cert.RgOutCtxRefIdeal.τ).loc Cert.RgOutCtxRefIdeal.main_arg4) = m' ((c.tc : Thread Cert.RgOutCtxRefIdeal.nD Cert.RgOutCtxRefIdeal.τ).loc Cert.RgOutCtxRefIdeal.main_arg4)
          ∧ r.2.mem ((c.tc : Thread Cert.RgOutCtxRefIdeal.nD Cert.RgOutCtxRefIdeal.τ).loc Cert.RgOutCtxRefIdeal.main_arg5) = m' ((c.tc : Thread Cert.RgOutCtxRefIdeal.nD Cert.RgOutCtxRefIdeal.τ).loc Cert.RgOutCtxRefIdeal.main_arg5)
          ∧ r.2.mem ((c.tc : Thread Cert.RgOutCtxRefIdeal.nD Cert.RgOutCtxRefIdeal.τ).loc Cert.RgOutCtxRefIdeal.main_arg6) = m' ((c.tc : Thread Cert.RgOutCtxRefIdeal.nD Cert.RgOutCtxRefIdeal.τ).loc Cert.RgOutCtxRefIdeal.main_arg6)
          ∧ r.2.mem ((c.tc : Thread Cert.RgOutCtxRefIdeal.nD Cert.RgOutCtxRefIdeal.τ).loc Cert.RgOutCtxRefIdeal.main_arg7) = m' ((c.tc : Thread Cert.RgOutCtxRefIdeal.nD Cert.RgOutCtxRefIdeal.τ).loc Cert.RgOutCtxRefIdeal.main_arg7)
          ∧ r.2.mem ((c.tc : Thread Cert.RgOutCtxRefIdeal.nD Cert.RgOutCtxRefIdeal.τ).loc Cert.RgOutCtxRefIdeal.main_arg8) = m' ((c.tc : Thread Cert.RgOutCtxRefIdeal.nD Cert.RgOutCtxRefIdeal.τ).loc Cert.RgOutCtxRefIdeal.main_arg8)
          ∧ r.2.mem ((c.tc : Thread Cert.RgOutCtxRefIdeal.nD Cert.RgOutCtxRefIdeal.τ).loc Cert.RgOutCtxRefIdeal.main_arg9) = m' ((c.tc : Thread Cert.RgOutCtxRefIdeal.nD Cert.RgOutCtxRefIdeal.τ).loc Cert.RgOutCtxRefIdeal.main_arg9))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hRgIn : Cert.RgIn.Facts) (hRgInIdeal : Cert.RgInIdeal.Facts) (hRgInRefIdeal : Cert.RgInRefIdeal.Facts) (hRgOut : Cert.RgOut.Facts) (hRgOutIdeal : Cert.RgOutIdeal.Facts) (hRgOutRefIdeal : Cert.RgOutRefIdeal.Facts) (hMoeCtx : Cert.MoeCtx.Facts) (hMoeCtxIdeal : Cert.MoeCtxIdeal.Facts) (hMoeCtxRefIdeal : Cert.MoeCtxRefIdeal.Facts) (hFfnCtx : Cert.FfnCtx.Facts) (hFfnCtxIdeal : Cert.FfnCtxIdeal.Facts) (hFfnCtxRefIdeal : Cert.FfnCtxRefIdeal.Facts) (hRgOutCtx : Cert.RgOutCtx.Facts) (hRgOutCtxIdeal : Cert.RgOutCtxIdeal.Facts) (hRgOutCtxRefIdeal : Cert.RgOutCtxRefIdeal.Facts) (hPre_finite_qk : Cert.Pre_finite_qk.Facts) (hPre_gates : Cert.Pre_gates.Facts) (hPre_gates_ctx : Cert.Pre_gates_ctx.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Moe (hMoe := hMoe)
    ∧ quiescent_MoeIdeal (hMoeIdeal := hMoeIdeal)
    ∧ quiescent_MoeIdeal_pre_gates (hMoeIdeal := hMoeIdeal) (hPre_gates := hPre_gates)
    ∧ quiescent_MoeRefIdeal (hMoeRefIdeal := hMoeRefIdeal)
    ∧ quiescent_MoeRefIdeal_pre_gates (hMoeRefIdeal := hMoeRefIdeal) (hPre_gates := hPre_gates)
    ∧ quiescent_Ffn (hFfn := hFfn)
    ∧ quiescent_FfnIdeal (hFfnIdeal := hFfnIdeal)
    ∧ quiescent_FfnRefIdeal (hFfnRefIdeal := hFfnRefIdeal)
    ∧ quiescent_RgIn (hRgIn := hRgIn)
    ∧ quiescent_RgInIdeal (hRgInIdeal := hRgInIdeal)
    ∧ quiescent_RgInRefIdeal (hRgInRefIdeal := hRgInRefIdeal)
    ∧ quiescent_RgOut (hRgOut := hRgOut)
    ∧ quiescent_RgOutIdeal (hRgOutIdeal := hRgOutIdeal)
    ∧ quiescent_RgOutRefIdeal (hRgOutRefIdeal := hRgOutRefIdeal)
    ∧ quiescent_MoeCtx (hMoeCtx := hMoeCtx)
    ∧ quiescent_MoeCtxIdeal (hMoeCtxIdeal := hMoeCtxIdeal)
    ∧ quiescent_MoeCtxIdeal_pre_gates_ctx (hMoeCtxIdeal := hMoeCtxIdeal) (hPre_gates_ctx := hPre_gates_ctx)
    ∧ quiescent_MoeCtxRefIdeal (hMoeCtxRefIdeal := hMoeCtxRefIdeal)
    ∧ quiescent_MoeCtxRefIdeal_pre_gates_ctx (hMoeCtxRefIdeal := hMoeCtxRefIdeal) (hPre_gates_ctx := hPre_gates_ctx)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_RgOutCtx (hRgOutCtx := hRgOutCtx)
    ∧ quiescent_RgOutCtxIdeal (hRgOutCtxIdeal := hRgOutCtxIdeal)
    ∧ quiescent_RgOutCtxRefIdeal (hRgOutCtxRefIdeal := hRgOutCtxRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Moe_MoeIdeal
    ∧ algebraic_MoeIdeal_MoeRefIdeal_pre_gates (hMoeIdeal := hMoeIdeal) (hMoeRefIdeal := hMoeRefIdeal) (hPre_gates := hPre_gates)
    ∧ preserves_Ffn_FfnIdeal
    ∧ algebraic_FfnIdeal_FfnRefIdeal (hFfnIdeal := hFfnIdeal) (hFfnRefIdeal := hFfnRefIdeal)
    ∧ preserves_RgIn_RgInIdeal
    ∧ algebraic_RgInIdeal_RgInRefIdeal (hRgInIdeal := hRgInIdeal) (hRgInRefIdeal := hRgInRefIdeal)
    ∧ preserves_RgOut_RgOutIdeal
    ∧ algebraic_RgOutIdeal_RgOutRefIdeal (hRgOutIdeal := hRgOutIdeal) (hRgOutRefIdeal := hRgOutRefIdeal)
    ∧ preserves_MoeCtx_MoeCtxIdeal
    ∧ algebraic_MoeCtxIdeal_MoeCtxRefIdeal_pre_gates_ctx (hMoeCtxIdeal := hMoeCtxIdeal) (hMoeCtxRefIdeal := hMoeCtxRefIdeal) (hPre_gates_ctx := hPre_gates_ctx)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_RgOutCtx_RgOutCtxIdeal
    ∧ algebraic_RgOutCtxIdeal_RgOutCtxRefIdeal (hRgOutCtxIdeal := hRgOutCtxIdeal) (hRgOutCtxRefIdeal := hRgOutCtxRefIdeal)
-- ==== Pre_finite_qk.lean ====
abbrev S8x8x8192x256 : Shape := ⟨4, ![8, 8, 8192, 256]⟩
abbrev S8x8x16x128x512 : Shape := ⟨5, ![8, 8, 16, 128, 512]⟩
abbrev S8x8x256x256 : Shape := ⟨4, ![8, 8, 256, 256]⟩
abbrev S8x8x1x128x256 : Shape := ⟨5, ![8, 8, 1, 128, 256]⟩
abbrev S_ : Shape := ⟨0, ![]⟩

class Facts : Prop where
  bcast_S_S8x8x8192x256 : S_.BroadcastsInDim S8x8x8192x256 (![] : Fin 0 → Fin S8x8x8192x256.rank)
  reducesTo_S8x8x8192x256_S_d0_1_2_3 : S8x8x8192x256.ReducesTo [0, 1, 2, 3] S_
  h_S_ : 0 < S_.numel
  bcast_S_S8x8x256x256 : S_.BroadcastsInDim S8x8x256x256 (![] : Fin 0 → Fin S8x8x256x256.rank)
  reducesTo_S8x8x256x256_S_d0_1_2_3 : S8x8x256x256.ReducesTo [0, 1, 2, 3] S_

variable [Facts]

def fn {F : FTy → Type} [FloatOps F] (main_arg0 : FVec F S8x8x8192x256 .f32) (main_arg1 : FVec F S8x8x8192x256 .bf16) (main_arg2 : FVec F S8x8x16x128x512 .bf16) (main_arg3 : FVec F S8x8x256x256 .bf16) (main_arg4 : FVec F S8x8x1x128x256 .bf16) : IVec S_ 1 :=
  let main_v0 : FVec F S8x8x8192x256 .f32 := Host.absf main_arg0
  let main_cst : FVec F S_ .f32 := constant S_ .f32 0x7F800000#32
  let main_v1 : FVec F S8x8x8192x256 .f32 := broadcastInDim S8x8x8192x256 ![] bcast_S_S8x8x8192x256 main_cst
  let main_v2 : IVec S8x8x8192x256 1 := cmpf .olt main_v0 main_v1
  let main_c : IVec S_ 1 := constantI S_ 1 1#1
  let main_v3 : IVec S_ 1 := (fun x v => Host.reduce IntOp.andi x v reducesTo_S8x8x8192x256_S_d0_1_2_3 h_S_) main_v2 main_c
  let main_v4 : FVec F S8x8x8192x256 .bf16 := Host.absf main_arg1
  let main_cst_0 : FVec F S_ .bf16 := constant S_ .bf16 0x7F80#16
  let main_v5 : FVec F S8x8x8192x256 .bf16 := broadcastInDim S8x8x8192x256 ![] bcast_S_S8x8x8192x256 main_cst_0
  let main_v6 : IVec S8x8x8192x256 1 := cmpf .olt main_v4 main_v5
  let main_c_1 : IVec S_ 1 := constantI S_ 1 1#1
  let main_v7 : IVec S_ 1 := (fun x v => Host.reduce IntOp.andi x v reducesTo_S8x8x8192x256_S_d0_1_2_3 h_S_) main_v6 main_c_1
  let main_v8 : IVec S_ 1 := andi main_v3 main_v7
  let main_v9 : FVec F S8x8x256x256 .bf16 := Host.absf main_arg3
  let main_cst_2 : FVec F S_ .bf16 := constant S_ .bf16 0x7F80#16
  let main_v10 : FVec F S8x8x256x256 .bf16 := broadcastInDim S8x8x256x256 ![] bcast_S_S8x8x256x256 main_cst_2
  let main_v11 : IVec S8x8x256x256 1 := cmpf .olt main_v9 main_v10
  let main_c_3 : IVec S_ 1 := constantI S_ 1 1#1
  let main_v12 : IVec S_ 1 := (fun x v => Host.reduce IntOp.andi x v reducesTo_S8x8x256x256_S_d0_1_2_3 h_S_) main_v11 main_c_3
  let main_v13 : IVec S_ 1 := andi main_v8 main_v12
  main_v13
-- ==== Pre_gates.lean ====
abbrev S8x8192x1024 : Shape := ⟨3, ![8, 8192, 1024]⟩
abbrev S8x8192x128 : Shape := ⟨3, ![8, 8192, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S8x8192x8 : Shape := ⟨3, ![8, 8192, 8]⟩
abbrev S_ : Shape := ⟨0, ![]⟩

class Facts : Prop where
  slices_S8x8192x128_S8x8192x8_0_0_0 : S8x8192x128.Slices ![0, 0, 0] S8x8192x8
  bcast_S_S8x8192x8 : S_.BroadcastsInDim S8x8192x8 (![] : Fin 0 → Fin S8x8192x8.rank)
  reducesTo_S8x8192x8_S_d0_1_2 : S8x8192x8.ReducesTo [0, 1, 2] S_
  h_S_ : 0 < S_.numel

variable [Facts]

def fn {F : FTy → Type} [FloatOps F] (main_arg0 : FVec F S8x8192x1024 .bf16) (main_arg1 : FVec F S8x8192x128 .f32) (main_arg2 : FVec F S8x8192x1024 .f32) (main_arg3 : FVec F S8x1x1024 .f32) (main_arg4 : FVec F S8x1024x3584 .f32) (main_arg5 : FVec F S8x1024x3584 .f32) (main_arg6 : FVec F S8x3584x1024 .f32) : IVec S_ 1 :=
  let main_v0 : FVec F S8x8192x8 .f32 := (extractStridedSlice S8x8192x8 ![0, 0, 0] · slices_S8x8192x128_S8x8192x8_0_0_0) main_arg1
  let main_cst : FVec F S_ .f32 := constant S_ .f32 0x00000000#32
  let main_v1 : FVec F S8x8192x8 .f32 := broadcastInDim S8x8192x8 ![] bcast_S_S8x8192x8 main_cst
  let main_v2 : IVec S8x8192x8 1 := cmpf .oge main_v0 main_v1
  let main_c : IVec S_ 1 := constantI S_ 1 1#1
  let main_v3 : IVec S_ 1 := (fun x v => Host.reduce IntOp.andi x v reducesTo_S8x8192x8_S_d0_1_2 h_S_) main_v2 main_c
  let main_cst_0 : FVec F S_ .f32 := constant S_ .f32 0x7F800000#32
  let main_v4 : FVec F S8x8192x8 .f32 := broadcastInDim S8x8192x8 ![] bcast_S_S8x8192x8 main_cst_0
  let main_v5 : IVec S8x8192x8 1 := cmpf .olt main_v0 main_v4
  let main_c_1 : IVec S_ 1 := constantI S_ 1 1#1
  let main_v6 : IVec S_ 1 := (fun x v => Host.reduce IntOp.andi x v reducesTo_S8x8192x8_S_d0_1_2 h_S_) main_v5 main_c_1
  let main_v7 : IVec S_ 1 := andi main_v3 main_v6
  main_v7
-- ==== Pre_gates_ctx.lean ====
abbrev S8x256x1024 : Shape := ⟨3, ![8, 256, 1024]⟩
abbrev S8x256x128 : Shape := ⟨3, ![8, 256, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S8x256x8 : Shape := ⟨3, ![8, 256, 8]⟩
abbrev S_ : Shape := ⟨0, ![]⟩

class Facts : Prop where
  slices_S8x256x128_S8x256x8_0_0_0 : S8x256x128.Slices ![0, 0, 0] S8x256x8
  bcast_S_S8x256x8 : S_.BroadcastsInDim S8x256x8 (![] : Fin 0 → Fin S8x256x8.rank)
  reducesTo_S8x256x8_S_d0_1_2 : S8x256x8.ReducesTo [0, 1, 2] S_
  h_S_ : 0 < S_.numel

variable [Facts]

def fn {F : FTy → Type} [FloatOps F] (main_arg0 : FVec F S8x256x1024 .bf16) (main_arg1 : FVec F S8x256x128 .f32) (main_arg2 : FVec F S8x256x1024 .f32) (main_arg3 : FVec F S8x1x1024 .f32) (main_arg4 : FVec F S8x1024x3584 .f32) (main_arg5 : FVec F S8x1024x3584 .f32) (main_arg6 : FVec F S8x3584x1024 .f32) : IVec S_ 1 :=
  let main_v0 : FVec F S8x256x8 .f32 := (extractStridedSlice S8x256x8 ![0, 0, 0] · slices_S8x256x128_S8x256x8_0_0_0) main_arg1
  let main_cst : FVec F S_ .f32 := constant S_ .f32 0x00000000#32
  let main_v1 : FVec F S8x256x8 .f32 := broadcastInDim S8x256x8 ![] bcast_S_S8x256x8 main_cst
  let main_v2 : IVec S8x256x8 1 := cmpf .oge main_v0 main_v1
  let main_c : IVec S_ 1 := constantI S_ 1 1#1
  let main_v3 : IVec S_ 1 := (fun x v => Host.reduce IntOp.andi x v reducesTo_S8x256x8_S_d0_1_2 h_S_) main_v2 main_c
  let main_cst_0 : FVec F S_ .f32 := constant S_ .f32 0x7F800000#32
  let main_v4 : FVec F S8x256x8 .f32 := broadcastInDim S8x256x8 ![] bcast_S_S8x256x8 main_cst_0
  let main_v5 : IVec S8x256x8 1 := cmpf .olt main_v0 main_v4
  let main_c_1 : IVec S_ 1 := constantI S_ 1 1#1
  let main_v6 : IVec S_ 1 := (fun x v => Host.reduce IntOp.andi x v reducesTo_S8x256x8_S_d0_1_2 h_S_) main_v5 main_c_1
  let main_v7 : IVec S_ 1 := andi main_v3 main_v6
  main_v7
-- ==== Attn.lean ====
abbrev S8x8x8192x256 : Shape := ⟨4, ![8, 8, 8192, 256]⟩
abbrev S8x8x16x128x512 : Shape := ⟨5, ![8, 8, 16, 128, 512]⟩
abbrev S8x8x256x256 : Shape := ⟨4, ![8, 8, 256, 256]⟩
abbrev S8x8x1x128x256 : Shape := ⟨5, ![8, 8, 1, 128, 256]⟩
abbrev S8x8x16x512x256 : Shape := ⟨5, ![8, 8, 16, 512, 256]⟩
abbrev S8x8x1x256x256 : Shape := ⟨5, ![8, 8, 1, 256, 256]⟩
abbrev S8x8192x1024 : Shape := ⟨3, ![8, 8192, 1024]⟩
abbrev S1x1x1024x256 : Shape := ⟨4, ![1, 1, 1024, 256]⟩
abbrev S1x1x16x512x256 : Shape := ⟨5, ![1, 1, 16, 512, 256]⟩
abbrev S1x1x16x128x512 : Shape := ⟨5, ![1, 1, 16, 128, 512]⟩
abbrev S1x1x1x256x256 : Shape := ⟨5, ![1, 1, 1, 256, 256]⟩
abbrev S1x1x1x128x256 : Shape := ⟨5, ![1, 1, 1, 128, 256]⟩
abbrev S1x1024x128 : Shape := ⟨3, ![1, 1024, 128]⟩
abbrev S1x1024 : Shape := ⟨2, ![1, 1024]⟩
abbrev S128x1024 : Shape := ⟨2, ![128, 1024]⟩
abbrev S1024x256 : Shape := ⟨2, ![1024, 256]⟩
abbrev S256x1024 : Shape := ⟨2, ![256, 1024]⟩
abbrev S1x1x1x512x256 : Shape := ⟨5, ![1, 1, 1, 512, 256]⟩
abbrev S512x256 : Shape := ⟨2, ![512, 256]⟩
abbrev S1x1x1x128x512 : Shape := ⟨5, ![1, 1, 1, 128, 512]⟩
abbrev S128x512 : Shape := ⟨2, ![128, 512]⟩
abbrev S512x1024 : Shape := ⟨2, ![512, 1024]⟩
abbrev S1024 : Shape := ⟨1, ![1024]⟩
abbrev S256x256 : Shape := ⟨2, ![256, 256]⟩
abbrev S128x256 : Shape := ⟨2, ![128, 256]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S8x8x8192x256, .f32⟩
  | .hbm, ⟨1, _⟩ => ⟨S8x8x8192x256, .bf16⟩
  | .hbm, ⟨2, _⟩ => ⟨S8x8x16x128x512, .bf16⟩
  | .hbm, ⟨3, _⟩ => ⟨S8x8x256x256, .bf16⟩
  | .hbm, ⟨4, _⟩ => ⟨S8x8x1x128x256, .bf16⟩
  | .hbm, ⟨5, _⟩ => ⟨S8x8x16x512x256, .bf16⟩
  | .hbm, ⟨6, _⟩ => ⟨S8x8x1x256x256, .bf16⟩
  | .hbm, ⟨7, _⟩ => ⟨S8x8192x1024, .bf16⟩
  | .local _ .vmem, ⟨0, _⟩ => ⟨S1x1x1024x256, .f32⟩
  | .local _ .vmem, ⟨1, _⟩ => ⟨S1x1x1024x256, .f32⟩
  | .local _ .vmem, ⟨2, _⟩ => ⟨S1x1x16x512x256, .bf16⟩
  | .local _ .vmem, ⟨3, _⟩ => ⟨S1x1x16x512x256, .bf16⟩
  | .local _ .vmem, ⟨4, _⟩ => ⟨S1x1x16x128x512, .bf16⟩
  | .local _ .vmem, ⟨5, _⟩ => ⟨S1x1x16x128x512, .bf16⟩
  | .local _ .vmem, ⟨6, _⟩ => ⟨S1x1x1x256x256, .bf16⟩
  | .local _ .vmem, ⟨7, _⟩ => ⟨S1x1x1x256x256, .bf16⟩
  | .local _ .vmem, ⟨8, _⟩ => ⟨S1x1x1x128x256, .bf16⟩
  | .local _ .vmem, ⟨9, _⟩ => ⟨S1x1x1x128x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | _, _ => ⟨S8x8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_off1 (k0_t1 : Fin k0_t1_loop.trips) : Fin 5 → Nat :=
  let c0_47 : Index := 0#32
  let c0_48 : Index := 0#32
  let c0_i32 : BitVec 32 := 0#32
  let c1_i32 : BitVec 32 := 1#32
  let arg12 : BitVec 32 := Scf.iv c0_i32 c1_i32 k0_t1
  let v66 : Index := Scalar.indexCast arg12
  let c0_49 : Index := 0#32
  let c0_50 : Index := 0#32
  ![0, 0, v66.toNat, 0, 0]
def k0_off2 (k0_t1 : Fin k0_t1_loop.trips) : Fin 5 → Nat :=
  let c0_51 : Index := 0#32
  let c0_52 : Index := 0#32
  let c0_i32 : BitVec 32 := 0#32
  let c1_i32 : BitVec 32 := 1#32
  let arg12 : BitVec 32 := Scf.iv c0_i32 c1_i32 k0_t1
  let v69 : Index := Scalar.indexCast arg12
  let c0_53 : Index := 0#32
  let c0_54 : Index := 0#32
  ![0, 0, v69.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "qscale" => some (((Real.sqrt 192)⁻¹ * (Real.log 2)⁻¹ : ℝ) : EReal)
  | _ => none
-- ==== AttnRefIdeal.lean ====
abbrev S8x8x8192x256 : Shape := ⟨4, ![8, 8, 8192, 256]⟩
abbrev S8x8x16x128x512 : Shape := ⟨5, ![8, 8, 16, 128, 512]⟩
abbrev S8x8x256x256 : Shape := ⟨4, ![8, 8, 256, 256]⟩
abbrev S8x8x1x128x256 : Shape := ⟨5, ![8, 8, 1, 128, 256]⟩
abbrev S8x8x8448x256 : Shape := ⟨4, ![8, 8, 8448, 256]⟩
abbrev S8x8x16x512x128 : Shape := ⟨5, ![8, 8, 16, 512, 128]⟩
abbrev S8x8x8192x128 : Shape := ⟨4, ![8, 8, 8192, 128]⟩
abbrev S8x8x1x256x128 : Shape := ⟨5, ![8, 8, 1, 256, 128]⟩
abbrev S8x8x256x128 : Shape := ⟨4, ![8, 8, 256, 128]⟩
abbrev S8x8x8448x128 : Shape := ⟨4, ![8, 8, 8448, 128]⟩
abbrev S8x8x8192x8448 : Shape := ⟨4, ![8, 8, 8192, 8448]⟩
abbrev S_ : Shape := ⟨0, ![]⟩
abbrev S8x8x8192 : Shape := ⟨3, ![8, 8, 8192]⟩
abbrev S8x8x8192x1 : Shape := ⟨4, ![8, 8, 8192, 1]⟩
abbrev S8x8x128x8192 : Shape := ⟨4, ![8, 8, 128, 8192]⟩
abbrev S8x8192x8x128 : Shape := ⟨4, ![8, 8192, 8, 128]⟩
abbrev S8x8192x1024 : Shape := ⟨3, ![8, 8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x8x8192x256, .f32⟩
  | .hbm, ⟨1, _⟩ => ⟨S8x8x8192x256, .bf16⟩
  | .hbm, ⟨2, _⟩ => ⟨S8x8x16x128x512, .bf16⟩
  | .hbm, ⟨3, _⟩ => ⟨S8x8x256x256, .bf16⟩
  | .hbm, ⟨4, _⟩ => ⟨S8x8x1x128x256, .bf16⟩
  | .hbm, ⟨5, _⟩ => ⟨S8x8x8448x256, .bf16⟩
  | .hbm, ⟨6, _⟩ => ⟨S8x8x8448x256, .f32⟩
  | .hbm, ⟨7, _⟩ => ⟨S8x8x16x512x128, .bf16⟩
  | .hbm, ⟨8, _⟩ => ⟨S8x8x8192x128, .bf16⟩
  | .hbm, ⟨9, _⟩ => ⟨S8x8x1x256x128, .bf16⟩
  | .hbm, ⟨10, _⟩ => ⟨S8x8x256x128, .bf16⟩
  | .hbm, ⟨11, _⟩ => ⟨S8x8x8448x128, .bf16⟩
  | .hbm, ⟨12, _⟩ => ⟨S8x8x8448x128, .f32⟩
  | .hbm, ⟨13, _⟩ => ⟨S8x8x8192x8448, .f32⟩
  | .hbm, ⟨14, _⟩ => ⟨S_, .f32⟩
  | .hbm, ⟨15, _⟩ => ⟨S_, .f32⟩
  | .hbm, ⟨16, _⟩ => ⟨S8x8x8192x8448, .f32⟩
  | .hbm, ⟨17, _⟩ => ⟨S8x8x8192x8448, .f32⟩
  | .hbm, ⟨18, _⟩ => ⟨S_, .f32⟩
  | .hbm, ⟨19, _⟩ => ⟨S8x8x8192, .f32⟩
  | .hbm, ⟨20, _⟩ => ⟨S_, .f32⟩
  | .hbm, ⟨21, _⟩ => ⟨S8x8x8192, .f32⟩
  | .hbm, ⟨22, _⟩ => ⟨S8x8x8192, .f32⟩
  | .hbm, ⟨23, _⟩ => ⟨S8x8x8192x1, .f32⟩
  | .hbm, ⟨24, _⟩ => ⟨S8x8x8192x8448, .f32⟩
  | .hbm, ⟨25, _⟩ => ⟨S8x8x8192x8448, .f32⟩
  | .hbm, ⟨26, _⟩ => ⟨S8x8x8192x8448, .f32⟩
  | .hbm, ⟨27, _⟩ => ⟨S_, .f32⟩
  | .hbm, ⟨28, _⟩ => ⟨S8x8x8192, .f32⟩
  | .hbm, ⟨29, _⟩ => ⟨S8x8x8192x1, .f32⟩
  | .hbm, ⟨30, _⟩ => ⟨S8x8x8192x8448, .f32⟩
  | .hbm, ⟨31, _⟩ => ⟨S8x8x8192x8448, .f32⟩
  | .hbm, ⟨32, _⟩ => ⟨S8x8x128x8192, .f32⟩
  | .hbm, ⟨33, _⟩ => ⟨S8x8192x8x128, .f32⟩
  | .hbm, ⟨34, _⟩ => ⟨S8x8192x1024, .f32⟩
  | .hbm, ⟨35, _⟩ => ⟨S8x8192x1024, .bf16⟩
  | _, _ => ⟨S8x8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Moe.lean ====
abbrev S8x8192x1024 : Shape := ⟨3, ![8, 8192, 1024]⟩
abbrev S8x8192x128 : Shape := ⟨3, ![8, 8192, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S1x512x1024 : Shape := ⟨3, ![1, 512, 1024]⟩
abbrev S1x512x128 : Shape := ⟨3, ![1, 512, 128]⟩
abbrev S1x1x1024 : Shape := ⟨3, ![1, 1, 1024]⟩
abbrev S1x1024x896 : Shape := ⟨3, ![1, 1024, 896]⟩
abbrev S1x896x1024 : Shape := ⟨3, ![1, 896, 1024]⟩
abbrev S512x1024 : Shape := ⟨2, ![512, 1024]⟩
abbrev S1024x896 : Shape := ⟨2, ![1024, 896]⟩
abbrev S512x896 : Shape := ⟨2, ![512, 896]⟩
abbrev S512x128 : Shape := ⟨2, ![512, 128]⟩
abbrev S512 : Shape := ⟨1, ![512]⟩
abbrev S512x1 : Shape := ⟨2, ![512, 1]⟩
abbrev S896x1024 : Shape := ⟨2, ![896, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x128, .f32⟩
  | .hbm, ⟨2, _⟩ => ⟨S8x8192x1024, .f32⟩
  | .hbm, ⟨3, _⟩ => ⟨S8x1x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![8, 16, 8, 4], ![false, false, false, false]⟩

def k0_cond2 (i : grid0.Coords) : BitVec 1 :=
  let arg2 : BitVec 32 := BitVec.ofNat 32 (i 2).val
  let c7_i32 : BitVec 32 := 7#32
  let v3 : BitVec 1 := Scalar.cmpi .eq arg2 c7_i32
  let arg3 : BitVec 32 := BitVec.ofNat 32 (i 3).val
  let c3_i32 : BitVec 32 := 3#32
  let v4 : BitVec 1 := Scalar.cmpi .eq arg3 c3_i32
  let v5 : BitVec 1 := Scalar.andi v3 v4
  let v39 : BitVec 32 := Scalar.extui v5
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== MoeIdeal.lean ====
abbrev S8x8192x1024 : Shape := ⟨3, ![8, 8192, 1024]⟩
abbrev S8x8192x128 : Shape := ⟨3, ![8, 8192, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S1x512x1024 : Shape := ⟨3, ![1, 512, 1024]⟩
abbrev S1x512x128 : Shape := ⟨3, ![1, 512, 128]⟩
abbrev S1x1x1024 : Shape := ⟨3, ![1, 1, 1024]⟩
abbrev S1x1024x896 : Shape := ⟨3, ![1, 1024, 896]⟩
abbrev S1x896x1024 : Shape := ⟨3, ![1, 896, 1024]⟩
abbrev S512x1024 : Shape := ⟨2, ![512, 1024]⟩
abbrev S1024x896 : Shape := ⟨2, ![1024, 896]⟩
abbrev S512x896 : Shape := ⟨2, ![512, 896]⟩
abbrev S512x128 : Shape := ⟨2, ![512, 128]⟩
abbrev S512 : Shape := ⟨1, ![512]⟩
abbrev S512x1 : Shape := ⟨2, ![512, 1]⟩
abbrev S896x1024 : Shape := ⟨2, ![896, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x128, .f32⟩
  | .hbm, ⟨2, _⟩ => ⟨S8x8192x1024, .f32⟩
  | .hbm, ⟨3, _⟩ => ⟨S8x1x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![8, 16, 8, 4], ![false, false, false, false]⟩

def k0_cond2 (i : grid0.Coords) : BitVec 1 :=
  let arg2 : BitVec 32 := BitVec.ofNat 32 (i 2).val
  let c7_i32 : BitVec 32 := 7#32
  let v3 : BitVec 1 := Scalar.cmpi .eq arg2 c7_i32
  let arg3 : BitVec 32 := BitVec.ofNat 32 (i 3).val
  let c3_i32 : BitVec 32 := 3#32
  let v4 : BitVec 1 := Scalar.cmpi .eq arg3 c3_i32
  let v5 : BitVec 1 := Scalar.andi v3 v4
  let v39 : BitVec 32 := Scalar.extui v5
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== MoeRefIdeal.lean ====
abbrev S8x8192x1024 : Shape := ⟨3, ![8, 8192, 1024]⟩
abbrev S8x8192x128 : Shape := ⟨3, ![8, 8192, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S_ : Shape := ⟨0, ![]⟩
abbrev S1x1024x3584 : Shape := ⟨3, ![1, 1024, 3584]⟩
abbrev S1024x3584 : Shape := ⟨2, ![1024, 3584]⟩
abbrev S8x8192x3584 : Shape := ⟨3, ![8, 8192, 3584]⟩
abbrev S8x8192x1 : Shape := ⟨3, ![8, 8192, 1]⟩
abbrev S1x3584x1024 : Shape := ⟨3, ![1, 3584, 1024]⟩
abbrev S3584x1024 : Shape := ⟨2, ![3584, 1024]⟩

abbrev nBuf : Space → Nat
  | .hbm => 197
  | .vmem => 0
  | .smem => 0
  | _ => 0

abbrev hbmTy0_0 (i : Nat) : BufTy := match i % 128 with
  | 0 => ⟨S8x8192x1024, .bf16⟩
  | 1 => ⟨S8x8192x128, .f32⟩
  | 2 => ⟨S8x8192x1024, .f32⟩
  | 3 => ⟨S8x1x1024, .f32⟩
  | 4 => ⟨S8x1024x3584, .f32⟩
  | 5 => ⟨S8x1024x3584, .f32⟩
  | 6 => ⟨S8x3584x1024, .f32⟩
  | 7 => ⟨S8x8192x1024, .f32⟩
  | 8 => ⟨S_, .f32⟩
  | 9 => ⟨S8x8192x1024, .f32⟩
  | 10 => ⟨S1x1024x3584, .f32⟩
  | 11 => ⟨S1024x3584, .f32⟩
  | 12 => ⟨S8x8192x3584, .f32⟩
  | 13 => ⟨S8x8192x3584, .f32⟩
  | 14 => ⟨S8x8192x3584, .f32⟩
  | 15 => ⟨S_, .f32⟩
  | 16 => ⟨S8x8192x3584, .f32⟩
  | 17 => ⟨S8x8192x3584, .f32⟩
  | 18 => ⟨S_, .f32⟩
  | 19 => ⟨S8x8192x3584, .f32⟩
  | 20 => ⟨S8x8192x3584, .f32⟩
  | 21 => ⟨S8x8192x3584, .f32⟩
  | 22 => ⟨S1x1024x3584, .f32⟩
  | 23 => ⟨S1024x3584, .f32⟩
  | 24 => ⟨S8x8192x3584, .f32⟩
  | 25 => ⟨S8x8192x3584, .f32⟩
  | 26 => ⟨S8x8192x1, .f32⟩
  | 27 => ⟨S1x3584x1024, .f32⟩
  | 28 => ⟨S3584x1024, .f32⟩
  | 29 => ⟨S8x8192x1024, .f32⟩
  | 30 => ⟨S8x8192x1024, .f32⟩
  | 31 => ⟨S8x8192x1024, .f32⟩
  | 32 => ⟨S8x8192x1024, .f32⟩
  | 33 => ⟨S1x1024x3584, .f32⟩
  | 34 => ⟨S1024x3584, .f32⟩
  | 35 => ⟨S8x8192x3584, .f32⟩
  | 36 => ⟨S8x8192x3584, .f32⟩
  | 37 => ⟨S8x8192x3584, .f32⟩
  | 38 => ⟨S_, .f32⟩
  | 39 => ⟨S8x8192x3584, .f32⟩
  | 40 => ⟨S8x8192x3584, .f32⟩
  | 41 => ⟨S_, .f32⟩
  | 42 => ⟨S8x8192x3584, .f32⟩
  | 43 => ⟨S8x8192x3584, .f32⟩
  | 44 => ⟨S8x8192x3584, .f32⟩
  | 45 => ⟨S1x1024x3584, .f32⟩
  | 46 => ⟨S1024x3584, .f32⟩
  | 47 => ⟨S8x8192x3584, .f32⟩
  | 48 => ⟨S8x8192x3584, .f32⟩
  | 49 => ⟨S8x8192x1, .f32⟩
  | 50 => ⟨S1x3584x1024, .f32⟩
  | 51 => ⟨S3584x1024, .f32⟩
  | 52 => ⟨S8x8192x1024, .f32⟩
  | 53 => ⟨S8x8192x1024, .f32⟩
  | 54 => ⟨S8x8192x1024, .f32⟩
  | 55 => ⟨S8x8192x1024, .f32⟩
  | 56 => ⟨S1x1024x3584, .f32⟩
  | 57 => ⟨S1024x3584, .f32⟩
  | 58 => ⟨S8x8192x3584, .f32⟩
  | 59 => ⟨S8x8192x3584, .f32⟩
  | 60 => ⟨S8x8192x3584, .f32⟩
  | 61 => ⟨S_, .f32⟩
  | 62 => ⟨S8x8192x3584, .f32⟩
  | 63 => ⟨S8x8192x3584, .f32⟩
  | 64 => ⟨S_, .f32⟩
  | 65 => ⟨S8x8192x3584, .f32⟩
  | 66 => ⟨S8x8192x3584, .f32⟩
  | 67 => ⟨S8x8192x3584, .f32⟩
  | 68 => ⟨S1x1024x3584, .f32⟩
  | 69 => ⟨S1024x3584, .f32⟩
  | 70 => ⟨S8x8192x3584, .f32⟩
  | 71 => ⟨S8x8192x3584, .f32⟩
  | 72 => ⟨S8x8192x1, .f32⟩
  | 73 => ⟨S1x3584x1024, .f32⟩
  | 74 => ⟨S3584x1024, .f32⟩
  | 75 => ⟨S8x8192x1024, .f32⟩
  | 76 => ⟨S8x8192x1024, .f32⟩
  | 77 => ⟨S8x8192x1024, .f32⟩
  | 78 => ⟨S8x8192x1024, .f32⟩
  | 79 => ⟨S1x1024x3584, .f32⟩
  | 80 => ⟨S1024x3584, .f32⟩
  | 81 => ⟨S8x8192x3584, .f32⟩
  | 82 => ⟨S8x8192x3584, .f32⟩
  | 83 => ⟨S8x8192x3584, .f32⟩
  | 84 => ⟨S_, .f32⟩
  | 85 => ⟨S8x8192x3584, .f32⟩
  | 86 => ⟨S8x8192x3584, .f32⟩
  | 87 => ⟨S_, .f32⟩
  | 88 => ⟨S8x8192x3584, .f32⟩
  | 89 => ⟨S8x8192x3584, .f32⟩
  | 90 => ⟨S8x8192x3584, .f32⟩
  | 91 => ⟨S1x1024x3584, .f32⟩
  | 92 => ⟨S1024x3584, .f32⟩
  | 93 => ⟨S8x8192x3584, .f32⟩
  | 94 => ⟨S8x8192x3584, .f32⟩
  | 95 => ⟨S8x8192x1, .f32⟩
  | 96 => ⟨S1x3584x1024, .f32⟩
  | 97 => ⟨S3584x1024, .f32⟩
  | 98 => ⟨S8x8192x1024, .f32⟩
  | 99 => ⟨S8x8192x1024, .f32⟩
  | 100 => ⟨S8x8192x1024, .f32⟩
  | 101 => ⟨S8x8192x1024, .f32⟩
  | 102 => ⟨S1x1024x3584, .f32⟩
  | 103 => ⟨S1024x3584, .f32⟩
  | 104 => ⟨S8x8192x3584, .f32⟩
  | 105 => ⟨S8x8192x3584, .f32⟩
  | 106 => ⟨S8x8192x3584, .f32⟩
  | 107 => ⟨S_, .f32⟩
  | 108 => ⟨S8x8192x3584, .f32⟩
  | 109 => ⟨S8x8192x3584, .f32⟩
  | 110 => ⟨S_, .f32⟩
  | 111 => ⟨S8x8192x3584, .f32⟩
  | 112 => ⟨S8x8192x3584, .f32⟩
  | 113 => ⟨S8x8192x3584, .f32⟩
  | 114 => ⟨S1x1024x3584, .f32⟩
  | 115 => ⟨S1024x3584, .f32⟩
  | 116 => ⟨S8x8192x3584, .f32⟩
  | 117 => ⟨S8x8192x3584, .f32⟩
  | 118 => ⟨S8x8192x1, .f32⟩
  | 119 => ⟨S1x3584x1024, .f32⟩
  | 120 => ⟨S3584x1024, .f32⟩
  | 121 => ⟨S8x8192x1024, .f32⟩
  | 122 => ⟨S8x8192x1024, .f32⟩
  | 123 => ⟨S8x8192x1024, .f32⟩
  | 124 => ⟨S8x8192x1024, .f32⟩
  | 125 => ⟨S1x1024x3584, .f32⟩
  | 126 => ⟨S1024x3584, .f32⟩
  | 127 => ⟨S8x8192x3584, .f32⟩
  | _ => ⟨S8x8192x1024, .bf16⟩

abbrev hbmTy0_1 (i : Nat) : BufTy := match i % 128 with
  | 0 => ⟨S8x8192x3584, .f32⟩
  | 1 => ⟨S8x8192x3584, .f32⟩
  | 2 => ⟨S_, .f32⟩
  | 3 => ⟨S8x8192x3584, .f32⟩
  | 4 => ⟨S8x8192x3584, .f32⟩
  | 5 => ⟨S_, .f32⟩
  | 6 => ⟨S8x8192x3584, .f32⟩
  | 7 => ⟨S8x8192x3584, .f32⟩
  | 8 => ⟨S8x8192x3584, .f32⟩
  | 9 => ⟨S1x1024x3584, .f32⟩
  | 10 => ⟨S1024x3584, .f32⟩
  | 11 => ⟨S8x8192x3584, .f32⟩
  | 12 => ⟨S8x8192x3584, .f32⟩
  | 13 => ⟨S8x8192x1, .f32⟩
  | 14 => ⟨S1x3584x1024, .f32⟩
  | 15 => ⟨S3584x1024, .f32⟩
  | 16 => ⟨S8x8192x1024, .f32⟩
  | 17 => ⟨S8x8192x1024, .f32⟩
  | 18 => ⟨S8x8192x1024, .f32⟩
  | 19 => ⟨S8x8192x1024, .f32⟩
  | 20 => ⟨S1x1024x3584, .f32⟩
  | 21 => ⟨S1024x3584, .f32⟩
  | 22 => ⟨S8x8192x3584, .f32⟩
  | 23 => ⟨S8x8192x3584, .f32⟩
  | 24 => ⟨S8x8192x3584, .f32⟩
  | 25 => ⟨S_, .f32⟩
  | 26 => ⟨S8x8192x3584, .f32⟩
  | 27 => ⟨S8x8192x3584, .f32⟩
  | 28 => ⟨S_, .f32⟩
  | 29 => ⟨S8x8192x3584, .f32⟩
  | 30 => ⟨S8x8192x3584, .f32⟩
  | 31 => ⟨S8x8192x3584, .f32⟩
  | 32 => ⟨S1x1024x3584, .f32⟩
  | 33 => ⟨S1024x3584, .f32⟩
  | 34 => ⟨S8x8192x3584, .f32⟩
  | 35 => ⟨S8x8192x3584, .f32⟩
  | 36 => ⟨S8x8192x1, .f32⟩
  | 37 => ⟨S1x3584x1024, .f32⟩
  | 38 => ⟨S3584x1024, .f32⟩
  | 39 => ⟨S8x8192x1024, .f32⟩
  | 40 => ⟨S8x8192x1024, .f32⟩
  | 41 => ⟨S8x8192x1024, .f32⟩
  | 42 => ⟨S8x8192x1024, .f32⟩
  | 43 => ⟨S1x1024x3584, .f32⟩
  | 44 => ⟨S1024x3584, .f32⟩
  | 45 => ⟨S8x8192x3584, .f32⟩
  | 46 => ⟨S8x8192x3584, .f32⟩
  | 47 => ⟨S8x8192x3584, .f32⟩
  | 48 => ⟨S_, .f32⟩
  | 49 => ⟨S8x8192x3584, .f32⟩
  | 50 => ⟨S8x8192x3584, .f32⟩
  | 51 => ⟨S_, .f32⟩
  | 52 => ⟨S8x8192x3584, .f32⟩
  | 53 => ⟨S8x8192x3584, .f32⟩
  | 54 => ⟨S8x8192x3584, .f32⟩
  | 55 => ⟨S1x1024x3584, .f32⟩
  | 56 => ⟨S1024x3584, .f32⟩
  | 57 => ⟨S8x8192x3584, .f32⟩
  | 58 => ⟨S8x8192x3584, .f32⟩
  | 59 => ⟨S8x8192x1, .f32⟩
  | 60 => ⟨S1x3584x1024, .f32⟩
  | 61 => ⟨S3584x1024, .f32⟩
  | 62 => ⟨S8x8192x1024, .f32⟩
  | 63 => ⟨S8x8192x1024, .f32⟩
  | 64 => ⟨S8x8192x1024, .f32⟩
  | 65 => ⟨S8x8192x1024, .f32⟩
  | 66 => ⟨S8x8192x1024, .f32⟩
  | 67 => ⟨S8x8192x1024, .f32⟩
  | 68 => ⟨S8x8192x1024, .f32⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩

abbrev nD : Nat := 1
abbrev τ : Topo := Topo.v7x

variable {F : FTy → Type} [FloatOps F]
-- ==== Ffn.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024x1024, .bf16⟩
  | .hbm, ⟨16, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024x1024, .bf16⟩
  | .hbm, ⟨16, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1, .f32⟩
  | .hbm, ⟨27, _⟩ => ⟨S8x8192x1024, .f32⟩
  | .hbm, ⟨28, _⟩ => ⟨S8x8192x1024, .f32⟩
  | .hbm, ⟨29, _⟩ => ⟨S1x1x1024, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x2816, .f32⟩
  | .hbm, ⟨40, _⟩ => ⟨S8x8192x2816, .f32⟩
  | .hbm, ⟨41, _⟩ => ⟨S8x8192x2816, .f32⟩
  | .hbm, ⟨42, _⟩ => ⟨S_, .f32⟩
  | .hbm, ⟨43, _⟩ => ⟨S8x8192x2816, .f32⟩
  | .hbm, ⟨44, _⟩ => ⟨S8x8192x2816, .f32⟩
  | .hbm, ⟨45, _⟩ => ⟨S_, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S8x8192x2816, .f32⟩
  | .hbm, ⟨50, _⟩ => ⟨S8x8192x2816, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== RgIn.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S4x1024 : Shape := ⟨2, ![4, 1024]⟩
abbrev S1x1024 : Shape := ⟨2, ![1, 1024]⟩
abbrev S1x8x1024 : Shape := ⟨3, ![1, 8, 1024]⟩
abbrev S1x512x1024 : Shape := ⟨3, ![1, 512, 1024]⟩
abbrev S1x1x1024 : Shape := ⟨3, ![1, 1, 1024]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩

abbrev nBuf : Space → Nat
  | .hbm => 14
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S4x1024, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S8x8192x1024, .bf16⟩
  | .hbm, ⟨13, _⟩ => ⟨S8x8192x1024, .bf16⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S4x1024, .f32⟩
  | .local _ .vmem, ⟨14, _⟩ => ⟨S1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RgInRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S4x1024 : Shape := ⟨2, ![4, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8195x1024 : Shape := ⟨3, ![8, 8195, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S4x1024, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S_, .i32⟩
  | .hbm, ⟨33, _⟩ => ⟨S_, .f32⟩
  | .hbm, ⟨34, _⟩ => ⟨S8x8195x1024, .f32⟩
  | .hbm, ⟨35, _⟩ => ⟨S8x8192x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S8x8192x1024, .f32⟩
  | .hbm, ⟨40, _⟩ => ⟨S8x8192x1024, .f32⟩
  | .hbm, ⟨41, _⟩ => ⟨S1x1x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S1x1024, .f32⟩
  | .hbm, ⟨53, _⟩ => ⟨S1024, .f32⟩
  | .hbm, ⟨54, _⟩ => ⟨S1x1x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S8x8192x1024, .bf16⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192x1024, .f32⟩
  | .hbm, ⟨79, _⟩ => ⟨S8x8192x1024, .f32⟩
  | .hbm, ⟨80, _⟩ => ⟨S_, .f32⟩
  | .hbm, ⟨81, _⟩ => ⟨S8x8192x1024, .f32⟩
  | .hbm, ⟨82, _⟩ => ⟨S8x8192x1024, .f32⟩
  | .hbm, ⟨83, _⟩ => ⟨S8x8192x1024, .f32⟩
  | .hbm, ⟨84, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== RgOut.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S8x8192x128 : Shape := ⟨3, ![8, 8192, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 18
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x128, .f32⟩
  | .hbm, ⟨13, _⟩ => ⟨S1x1024, .f32⟩
  | .hbm, ⟨14, _⟩ => ⟨S1024x1024, .bf16⟩
  | .hbm, ⟨15, _⟩ => ⟨S8x8192x1024, .f32⟩
  | .hbm, ⟨16, _⟩ => ⟨S8x8192x1024, .bf16⟩
  | .hbm, ⟨17, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x128, .f32⟩
  | .local _ .vmem, ⟨22, _⟩ => ⟨S1x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RgOutIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S8x8192x128 : Shape := ⟨3, ![8, 8192, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 18
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x128, .f32⟩
  | .hbm, ⟨13, _⟩ => ⟨S1x1024, .f32⟩
  | .hbm, ⟨14, _⟩ => ⟨S1024x1024, .bf16⟩
  | .hbm, ⟨15, _⟩ => ⟨S8x8192x1024, .f32⟩
  | .hbm, ⟨16, _⟩ => ⟨S8x8192x1024, .bf16⟩
  | .hbm, ⟨17, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x128, .f32⟩
  | .local _ .vmem, ⟨22, _⟩ => ⟨S1x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RgOutRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S1024x8, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S8x8192x1, .f32⟩
  | .hbm, ⟨30, _⟩ => ⟨S8x8192x1024, .f32⟩
  | .hbm, ⟨31, _⟩ => ⟨S8x8192x1024, .f32⟩
  | .hbm, ⟨32, _⟩ => ⟨S1x1x1024, .f32⟩
  | .hbm, ⟨33, _⟩ => ⟨S8x8192x1024, .f32⟩
  | .hbm, ⟨34, _⟩ => ⟨S8x8192x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== MoeCtx.lean ====
abbrev S8x256x1024 : Shape := ⟨3, ![8, 256, 1024]⟩
abbrev S8x256x128 : Shape := ⟨3, ![8, 256, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S1x256x1024 : Shape := ⟨3, ![1, 256, 1024]⟩
abbrev S1x256x128 : Shape := ⟨3, ![1, 256, 128]⟩
abbrev S1x1x1024 : Shape := ⟨3, ![1, 1, 1024]⟩
abbrev S1x1024x896 : Shape := ⟨3, ![1, 1024, 896]⟩
abbrev S1x896x1024 : Shape := ⟨3, ![1, 896, 1024]⟩
abbrev S256x1024 : Shape := ⟨2, ![256, 1024]⟩
abbrev S1024x896 : Shape := ⟨2, ![1024, 896]⟩
abbrev S256x896 : Shape := ⟨2, ![256, 896]⟩
abbrev S256x128 : Shape := ⟨2, ![256, 128]⟩
abbrev S256 : Shape := ⟨1, ![256]⟩
abbrev S256x1 : Shape := ⟨2, ![256, 1]⟩
abbrev S896x1024 : Shape := ⟨2, ![896, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x256x1024, .bf16⟩
  | .hbm, ⟨1, _⟩ => ⟨S8x256x128, .f32⟩
  | .hbm, ⟨2, _⟩ => ⟨S8x256x1024, .f32⟩
  | .hbm, ⟨3, _⟩ => ⟨S8x1x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S8x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x128, .f32⟩
  | .local _ .vmem, ⟨3, _⟩ => ⟨S1x256x128, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x256x1024, .f32⟩
  | .local _ .vmem, ⟨15, _⟩ => ⟨S1x256x1024, .f32⟩
  | .local _ .vmem, ⟨16, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![8, 1, 8, 4], ![false, false, false, false]⟩

def k0_cond2 (i : grid0.Coords) : BitVec 1 :=
  let arg2 : BitVec 32 := BitVec.ofNat 32 (i 2).val
  let c7_i32 : BitVec 32 := 7#32
  let v3 : BitVec 1 := Scalar.cmpi .eq arg2 c7_i32
  let arg3 : BitVec 32 := BitVec.ofNat 32 (i 3).val
  let c3_i32 : BitVec 32 := 3#32
  let v4 : BitVec 1 := Scalar.cmpi .eq arg3 c3_i32
  let v5 : BitVec 1 := Scalar.andi v3 v4
  let v39 : BitVec 32 := Scalar.extui v5
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== MoeCtxRefIdeal.lean ====
abbrev S8x256x1024 : Shape := ⟨3, ![8, 256, 1024]⟩
abbrev S8x256x128 : Shape := ⟨3, ![8, 256, 128]⟩
abbrev S8x1x1024 : Shape := ⟨3, ![8, 1, 1024]⟩
abbrev S8x1024x3584 : Shape := ⟨3, ![8, 1024, 3584]⟩
abbrev S8x3584x1024 : Shape := ⟨3, ![8, 3584, 1024]⟩
abbrev S_ : Shape := ⟨0, ![]⟩
abbrev S1x1024x3584 : Shape := ⟨3, ![1, 1024, 3584]⟩
abbrev S1024x3584 : Shape := ⟨2, ![1024, 3584]⟩
abbrev S8x256x3584 : Shape := ⟨3, ![8, 256, 3584]⟩
abbrev S8x256x1 : Shape := ⟨3, ![8, 256, 1]⟩
abbrev S1x3584x1024 : Shape := ⟨3, ![1, 3584, 1024]⟩
abbrev S3584x1024 : Shape := ⟨2, ![3584, 1024]⟩

abbrev nBuf : Space → Nat
  | .hbm => 197
  | .vmem => 0
  | .smem => 0
  | _ => 0

abbrev hbmTy0_0 (i : Nat) : BufTy := match i % 128 with
  | 0 => ⟨S8x256x1024, .bf16⟩
  | 1 => ⟨S8x256x128, .f32⟩
  | 2 => ⟨S8x256x1024, .f32⟩
  | 3 => ⟨S8x1x1024, .f32⟩
  | 4 => ⟨S8x1024x3584, .f32⟩
  | 5 => ⟨S8x1024x3584, .f32⟩
  | 6 => ⟨S8x3584x1024, .f32⟩
  | 7 => ⟨S8x256x1024, .f32⟩
  | 8 => ⟨S_, .f32⟩
  | 9 => ⟨S8x256x1024, .f32⟩
  | 10 => ⟨S1x1024x3584, .f32⟩
  | 11 => ⟨S1024x3584, .f32⟩
  | 12 => ⟨S8x256x3584, .f32⟩
  | 13 => ⟨S8x256x3584, .f32⟩
  | 14 => ⟨S8x256x3584, .f32⟩
  | 15 => ⟨S_, .f32⟩
  | 16 => ⟨S8x256x3584, .f32⟩
  | 17 => ⟨S8x256x3584, .f32⟩
  | 18 => ⟨S_, .f32⟩
  | 19 => ⟨S8x256x3584, .f32⟩
  | 20 => ⟨S8x256x3584, .f32⟩
  | 21 => ⟨S8x256x3584, .f32⟩
  | 22 => ⟨S1x1024x3584, .f32⟩
  | 23 => ⟨S1024x3584, .f32⟩
  | 24 => ⟨S8x256x3584, .f32⟩
  | 25 => ⟨S8x256x3584, .f32⟩
  | 26 => ⟨S8x256x1, .f32⟩
  | 27 => ⟨S1x3584x1024, .f32⟩
  | 28 => ⟨S3584x1024, .f32⟩
  | 29 => ⟨S8x256x1024, .f32⟩
  | 30 => ⟨S8x256x1024, .f32⟩
  | 31 => ⟨S8x256x1024, .f32⟩
  | 32 => ⟨S8x256x1024, .f32⟩
  | 33 => ⟨S1x1024x3584, .f32⟩
  | 34 => ⟨S1024x3584, .f32⟩
  | 35 => ⟨S8x256x3584, .f32⟩
  | 36 => ⟨S8x256x3584, .f32⟩
  | 37 => ⟨S8x256x3584, .f32⟩
  | 38 => ⟨S_, .f32⟩
  | 39 => ⟨S8x256x3584, .f32⟩
  | 40 => ⟨S8x256x3584, .f32⟩
  | 41 => ⟨S_, .f32⟩
  | 42 => ⟨S8x256x3584, .f32⟩
  | 43 => ⟨S8x256x3584, .f32⟩
  | 44 => ⟨S8x256x3584, .f32⟩
  | 45 => ⟨S1x1024x3584, .f32⟩
  | 46 => ⟨S1024x3584, .f32⟩
  | 47 => ⟨S8x256x3584, .f32⟩
  | 48 => ⟨S8x256x3584, .f32⟩
  | 49 => ⟨S8x256x1, .f32⟩
  | 50 => ⟨S1x3584x1024, .f32⟩
  | 51 => ⟨S3584x1024, .f32⟩
  | 52 => ⟨S8x256x1024, .f32⟩
  | 53 => ⟨S8x256x1024, .f32⟩
  | 54 => ⟨S8x256x1024, .f32⟩
  | 55 => ⟨S8x256x1024, .f32⟩
  | 56 => ⟨S1x1024x3584, .f32⟩
  | 57 => ⟨S1024x3584, .f32⟩
  | 58 => ⟨S8x256x3584, .f32⟩
  | 59 => ⟨S8x256x3584, .f32⟩
  | 60 => ⟨S8x256x3584, .f32⟩
  | 61 => ⟨S_, .f32⟩
  | 62 => ⟨S8x256x3584, .f32⟩
  | 63 => ⟨S8x256x3584, .f32⟩
  | 64 => ⟨S_, .f32⟩
  | 65 => ⟨S8x256x3584, .f32⟩
  | 66 => ⟨S8x256x3584, .f32⟩
  | 67 => ⟨S8x256x3584, .f32⟩
  | 68 => ⟨S1x1024x3584, .f32⟩
  | 69 => ⟨S1024x3584, .f32⟩
  | 70 => ⟨S8x256x3584, .f32⟩
  | 71 => ⟨S8x256x3584, .f32⟩
  | 72 => ⟨S8x256x1, .f32⟩
  | 73 => ⟨S1x3584x1024, .f32⟩
  | 74 => ⟨S3584x1024, .f32⟩
  | 75 => ⟨S8x256x1024, .f32⟩
  | 76 => ⟨S8x256x1024, .f32⟩
  | 77 => ⟨S8x256x1024, .f32⟩
  | 78 => ⟨S8x256x1024, .f32⟩
  | 79 => ⟨S1x1024x3584, .f32⟩
  | 80 => ⟨S1024x3584, .f32⟩
  | 81 => ⟨S8x256x3584, .f32⟩
  | 82 => ⟨S8x256x3584, .f32⟩
  | 83 => ⟨S8x256x3584, .f32⟩
  | 84 => ⟨S_, .f32⟩
  | 85 => ⟨S8x256x3584, .f32⟩
  | 86 => ⟨S8x256x3584, .f32⟩
  | 87 => ⟨S_, .f32⟩
  | 88 => ⟨S8x256x3584, .f32⟩
  | 89 => ⟨S8x256x3584, .f32⟩
  | 90 => ⟨S8x256x3584, .f32⟩
  | 91 => ⟨S1x1024x3584, .f32⟩
  | 92 => ⟨S1024x3584, .f32⟩
  | 93 => ⟨S8x256x3584, .f32⟩
  | 94 => ⟨S8x256x3584, .f32⟩
  | 95 => ⟨S8x256x1, .f32⟩
  | 96 => ⟨S1x3584x1024, .f32⟩
  | 97 => ⟨S3584x1024, .f32⟩
  | 98 => ⟨S8x256x1024, .f32⟩
  | 99 => ⟨S8x256x1024, .f32⟩
  | 100 => ⟨S8x256x1024, .f32⟩
  | 101 => ⟨S8x256x1024, .f32⟩
  | 102 => ⟨S1x1024x3584, .f32⟩
  | 103 => ⟨S1024x3584, .f32⟩
  | 104 => ⟨S8x256x3584, .f32⟩
  | 105 => ⟨S8x256x3584, .f32⟩
  | 106 => ⟨S8x256x3584, .f32⟩
  | 107 => ⟨S_, .f32⟩
  | 108 => ⟨S8x256x3584, .f32⟩
  | 109 => ⟨S8x256x3584, .f32⟩
  | 110 => ⟨S_, .f32⟩
  | 111 => ⟨S8x256x3584, .f32⟩
  | 112 => ⟨S8x256x3584, .f32⟩
  | 113 => ⟨S8x256x3584, .f32⟩
  | 114 => ⟨S1x1024x3584, .f32⟩
  | 115 => ⟨S1024x3584, .f32⟩
  | 116 => ⟨S8x256x3584, .f32⟩
  | 117 => ⟨S8x256x3584, .f32⟩
  | 118 => ⟨S8x256x1, .f32⟩
  | 119 => ⟨S1x3584x1024, .f32⟩
  | 120 => ⟨S3584x1024, .f32⟩
  | 121 => ⟨S8x256x1024, .f32⟩
  | 122 => ⟨S8x256x1024, .f32⟩
  | 123 => ⟨S8x256x1024, .f32⟩
  | 124 => ⟨S8x256x1024, .f32⟩
  | 125 => ⟨S1x1024x3584, .f32⟩
  | 126 => ⟨S1024x3584, .f32⟩
  | 127 => ⟨S8x256x3584, .f32⟩
  | _ => ⟨S8x256x1024, .bf16⟩

abbrev hbmTy0_1 (i : Nat) : BufTy := match i % 128 with
  | 0 => ⟨S8x256x3584, .f32⟩
  | 1 => ⟨S8x256x3584, .f32⟩
  | 2 => ⟨S_, .f32⟩
  | 3 => ⟨S8x256x3584, .f32⟩
  | 4 => ⟨S8x256x3584, .f32⟩
  | 5 => ⟨S_, .f32⟩
  | 6 => ⟨S8x256x3584, .f32⟩
  | 7 => ⟨S8x256x3584, .f32⟩
  | 8 => ⟨S8x256x3584, .f32⟩
  | 9 => ⟨S1x1024x3584, .f32⟩
  | 10 => ⟨S1024x3584, .f32⟩
  | 11 => ⟨S8x256x3584, .f32⟩
  | 12 => ⟨S8x256x3584, .f32⟩
  | 13 => ⟨S8x256x1, .f32⟩
  | 14 => ⟨S1x3584x1024, .f32⟩
  | 15 => ⟨S3584x1024, .f32⟩
  | 16 => ⟨S8x256x1024, .f32⟩
  | 17 => ⟨S8x256x1024, .f32⟩
  | 18 => ⟨S8x256x1024, .f32⟩
  | 19 => ⟨S8x256x1024, .f32⟩
  | 20 => ⟨S1x1024x3584, .f32⟩
  | 21 => ⟨S1024x3584, .f32⟩
  | 22 => ⟨S8x256x3584, .f32⟩
  | 23 => ⟨S8x256x3584, .f32⟩
  | 24 => ⟨S8x256x3584, .f32⟩
  | 25 => ⟨S_, .f32⟩
  | 26 => ⟨S8x256x3584, .f32⟩
  | 27 => ⟨S8x256x3584, .f32⟩
  | 28 => ⟨S_, .f32⟩
  | 29 => ⟨S8x256x3584, .f32⟩
  | 30 => ⟨S8x256x3584, .f32⟩
  | 31 => ⟨S8x256x3584, .f32⟩
  | 32 => ⟨S1x1024x3584, .f32⟩
  | 33 => ⟨S1024x3584, .f32⟩
  | 34 => ⟨S8x256x3584, .f32⟩
  | 35 => ⟨S8x256x3584, .f32⟩
  | 36 => ⟨S8x256x1, .f32⟩
  | 37 => ⟨S1x3584x1024, .f32⟩
  | 38 => ⟨S3584x1024, .f32⟩
  | 39 => ⟨S8x256x1024, .f32⟩
  | 40 => ⟨S8x256x1024, .f32⟩
  | 41 => ⟨S8x256x1024, .f32⟩
  | 42 => ⟨S8x256x1024, .f32⟩
  | 43 => ⟨S1x1024x3584, .f32⟩
  | 44 => ⟨S1024x3584, .f32⟩
  | 45 => ⟨S8x256x3584, .f32⟩
  | 46 => ⟨S8x256x3584, .f32⟩
  | 47 => ⟨S8x256x3584, .f32⟩
  | 48 => ⟨S_, .f32⟩
  | 49 => ⟨S8x256x3584, .f32⟩
  | 50 => ⟨S8x256x3584, .f32⟩
  | 51 => ⟨S_, .f32⟩
  | 52 => ⟨S8x256x3584, .f32⟩
  | 53 => ⟨S8x256x3584, .f32⟩
  | 54 => ⟨S8x256x3584, .f32⟩
  | 55 => ⟨S1x1024x3584, .f32⟩
  | 56 => ⟨S1024x3584, .f32⟩
  | 57 => ⟨S8x256x3584, .f32⟩
  | 58 => ⟨S8x256x3584, .f32⟩
  | 59 => ⟨S8x256x1, .f32⟩
  | 60 => ⟨S1x3584x1024, .f32⟩
  | 61 => ⟨S3584x1024, .f32⟩
  | 62 => ⟨S8x256x1024, .f32⟩
  | 63 => ⟨S8x256x1024, .f32⟩
  | 64 => ⟨S8x256x1024, .f32⟩
  | 65 => ⟨S8x256x1024, .f32⟩
  | 66 => ⟨S8x256x1024, .f32⟩
  | 67 => ⟨S8x256x1024, .f32⟩
  | 68 => ⟨S8x256x1024, .f32⟩
  | _ => ⟨S8x256x1024, .bf16⟩

abbrev hbmTy (i : Nat) : BufTy := match i / 128 with
  | 0 => hbmTy0_0 i
  | 1 => hbmTy0_1 i
  | _ => ⟨S8x256x1024, .bf16⟩

abbrev bufTy : (tb : Table) → Fin (tcTables nBuf tb) → BufTy
  | .hbm, ⟨i, _⟩ => hbmTy i
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩

abbrev nD : Nat := 1
abbrev τ : Topo := Topo.v7x

variable {F : FTy → Type} [FloatOps F]
-- ==== FfnCtx.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 17
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024x1024, .bf16⟩
  | .hbm, ⟨16, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x256x1024, .f32⟩
  | .local _ .vmem, ⟨18, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnCtxRefIdeal.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2816 : Shape := ⟨3, ![8, 256, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x256x1024, .f32⟩
  | .hbm, ⟨16, _⟩ => ⟨S8x256x1024, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S_, .f32⟩
  | .hbm, ⟨24, _⟩ => ⟨S8x256x1, .f32⟩
  | .hbm, ⟨25, _⟩ => ⟨S8x256x1, .f32⟩
  | .hbm, ⟨26, _⟩ => ⟨S8x256x1, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x256x1024, .f32⟩
  | .hbm, ⟨36, _⟩ => ⟨S8x256x1024, .f32⟩
  | .hbm, ⟨37, _⟩ => ⟨S8x256x1024, .f32⟩
  | .hbm, ⟨38, _⟩ => ⟨S8x256x1024, .f32⟩
  | .hbm, ⟨39, _⟩ => ⟨S8x256x2816, .f32⟩
  | .hbm, ⟨40, _⟩ => ⟨S8x256x2816, .f32⟩
  | .hbm, ⟨41, _⟩ => ⟨S8x256x2816, .f32⟩
  | .hbm, ⟨42, _⟩ => ⟨S_, .f32⟩
  | .hbm, ⟨43, _⟩ => ⟨S8x256x2816, .f32⟩
  | .hbm, ⟨44, _⟩ => ⟨S8x256x2816, .f32⟩
  | .hbm, ⟨45, _⟩ => ⟨S_, .f32⟩
  | .hbm, ⟨46, _⟩ => ⟨S8x256x2816, .f32⟩
  | .hbm, ⟨47, _⟩ => ⟨S8x256x2816, .f32⟩
  | .hbm, ⟨48, _⟩ => ⟨S8x256x2816, .f32⟩
  | .hbm, ⟨49, _⟩ => ⟨S8x256x2816, .f32⟩
  | .hbm, ⟨50, _⟩ => ⟨S8x256x2816, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== RgOutCtx.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S8x256x128 : Shape := ⟨3, ![8, 256, 128]⟩
abbrev S1x256x1024 : Shape := ⟨3, ![1, 256, 1024]⟩
abbrev S1x1x1024 : Shape := ⟨3, ![1, 1, 1024]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩

abbrev nBuf : Space → Nat
  | .hbm => 18
  | .vmem => 23
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x128, .f32⟩
  | .hbm, ⟨13, _⟩ => ⟨S1x1024, .f32⟩
  | .hbm, ⟨14, _⟩ => ⟨S1024x1024, .bf16⟩
  | .hbm, ⟨15, _⟩ => ⟨S8x256x1024, .f32⟩
  | .hbm, ⟨16, _⟩ => ⟨S8x256x1024, .bf16⟩
  | .hbm, ⟨17, _⟩ => ⟨S8x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x128, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x128, .f32⟩
  | .local _ .vmem, ⟨22, _⟩ => ⟨S1x256x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RgOutCtxRefIdeal.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S1024x8, .f32⟩
  | .hbm, ⟨10, _⟩ => ⟨S8x256x1024, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x256x1024, .f32⟩
  | .hbm, ⟨16, _⟩ => ⟨S8x256x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S8x256, .f32⟩
  | .hbm, ⟨22, _⟩ => ⟨S8x256x1, .f32⟩
  | .hbm, ⟨23, _⟩ => ⟨S_, .f32⟩
  | .hbm, ⟨24, _⟩ => ⟨S8x256x1, .f32⟩
  | .hbm, ⟨25, _⟩ => ⟨S8x256x1, .f32⟩
  | .hbm, ⟨26, _⟩ => ⟨S_, .f32⟩
  | .hbm, ⟨27, _⟩ => ⟨S8x256x1, .f32⟩
  | .hbm, ⟨28, _⟩ => ⟨S8x256x1, .f32⟩
  | .hbm, ⟨29, _⟩ => ⟨S8x256x1, .f32⟩
  | .hbm, ⟨30, _⟩ => ⟨S8x256x1024, .f32⟩
  | .hbm, ⟨31, _⟩ => ⟨S8x256x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x256x1024, .f32⟩
  | .hbm, ⟨39, _⟩ => ⟨S8x256x1024, .f32⟩
  | .hbm, ⟨40, _⟩ => ⟨S8x256x1024, .f32⟩
  | .hbm, ⟨41, _⟩ => ⟨S8x256x1024, .f32⟩
  | .hbm, ⟨42, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.MoeAlgebra.lean ====
module

public import Idealize.ShloMosaic.Lib.Pipeline.ValueKit
public import Idealize.ShloMosaic.Lib.Pointwise

@[expose] public section

/-! Sums of extended reals, cut into chunks. -/

namespace Cert.MoeAlgebra

/-- A non-negative finite factor distributes over a sum of extended reals. -/
theorem mul_sum_of_nonneg {ι : Type} (s : Finset ι) (f : ι → EReal) (c : EReal) (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- Eight experts in four chunks each, a weighted chunk a step, sum up to the weighted experts. -/
theorem chunks (w : Fin 8 → EReal) (F : Fin 8 → Fin 3584 → EReal) (h0 : ∀ e, 0 ≤ w e) (h1 : ∀ e, w e ≠ ⊤) :
    ∑ s : Fin 32, w ⟨s.val / 4, by omega⟩ * ∑ k : Fin 896, F ⟨s.val / 4, by omega⟩ ⟨896 * (s.val % 4) + k.val, by omega⟩
      = ∑ e : Fin 8, w e * ∑ f : Fin 3584, F e f := by
  have e1 : ∀ e : Fin 8, ∑ f : Fin 3584, F e f = ∑ q : Fin 4, ∑ k : Fin 896, F e ⟨896 * q.val + k.val, by omega⟩ := by
    intro e
    rw [← finProdFinEquiv.sum_comp (fun f : Fin (4 * 896) => F e f), Fintype.sum_prod_type]
    refine Finset.sum_congr rfl fun q _ => Finset.sum_congr rfl fun k _ => congrArg (F e) (Fin.ext ?_)
    show k.val + 896 * q.val = 896 * q.val + k.val
    omega
  have e2 : ∀ G : Fin 32 → EReal, ∑ s : Fin 32, G s = ∑ e : Fin 8, ∑ q : Fin 4, G ⟨4 * e.val + q.val, by omega⟩ := by
    intro G
    rw [← finProdFinEquiv.sum_comp (fun f : Fin (8 * 4) => G f), Fintype.sum_prod_type]
    refine Finset.sum_congr rfl fun q _ => Finset.sum_congr rfl fun k _ => congrArg G (Fin.ext ?_)
    show k.val + 4 * q.val = 4 * q.val + k.val
    omega
  rw [e2]
  refine Finset.sum_congr rfl fun e _ => ?_
  rw [e1, mul_sum_of_nonneg _ _ _ (h0 e) (h1 e)]
  refine Finset.sum_congr rfl fun q _ => ?_
  have a1 : (⟨(4 * e.val + q.val) / 4, by omega⟩ : Fin 8) = e := Fin.ext (by show (4 * e.val + q.val) / 4 = e.val; omega)
  have a2 : (4 * e.val + q.val) % 4 = q.val := by omega
  simp only [a1, a2]

end Cert.MoeAlgebra
-- ==== Proof.AttnAlgebra.lean ====
module

public import proofs.«01_k».proof.Proof.MoeAlgebra

@[expose] public section

noncomputable section

/-! The softmax accumulated chunk by chunk under a moving reference exponent, and the softmax of the whole row. -/

namespace Cert.AttnAlgebra

open Idealize.ShloMosaic

/-- The values of the first `N` keys, weighted by powers of two of their scores over the reference exponent `μ`. -/
def part (σ : ℕ → ℝ) (v : ℕ → EReal) (N : ℕ) (μ : ℝ) : EReal :=
  ∑ i ∈ Finset.range N, v i * ((Real.rpow 2 (σ i - μ) : ℝ) : EReal)

/-- Moving the reference exponent and taking in `n` more keys. -/
theorem part_step (σ : ℕ → ℝ) (v : ℕ → EReal) (N n : ℕ) (μ μ' : ℝ) :
    Ideal.exp2 ((μ : EReal) - (μ' : EReal)) * part σ v N μ
        + ∑ j : Fin n, v (N + j.val) * Ideal.exp2 ((σ (N + j.val) : EReal) - (μ' : EReal))
      = part σ v (N + n) μ' := by
  have hp : (0 : EReal) ≤ ((Real.rpow 2 (μ - μ') : ℝ) : EReal) := EReal.coe_nonneg.mpr (Real.rpow_nonneg (by norm_num) _)
  unfold part
  rw [Finset.sum_range_add, Finset.sum_range (n := n)]
  congr 1
  · rw [← EReal.coe_sub, Ideal.exp2_coe, MoeAlgebra.mul_sum_of_nonneg _ _ _ hp (EReal.coe_ne_top _)]
    refine Finset.sum_congr rfl fun i _ => ?_
    rw [mul_left_comm, ← EReal.coe_mul]
    congr 2
    show (2 : ℝ) ^ (μ - μ') * 2 ^ (σ i - μ) = 2 ^ (σ i - μ')
    rw [← Real.rpow_add (by norm_num)]
    congr 1
    ring

/-- The largest of finitely many reals over minus infinity is minus infinity or real. -/
theorem fold_max {ι : Type} (s : Finset ι) (f : ι → ℝ) :
    Finset.fold max (⊥ : EReal) (fun x => (f x : EReal)) s = ⊥ ∨ ∃ r : ℝ, Finset.fold max (⊥ : EReal) (fun x => (f x : EReal)) s = r := by
  classical
  induction s using Finset.induction_on with
  | empty => exact Or.inl Finset.fold_empty
  | insert a s ha ih =>
    rw [Finset.fold_insert ha]
    rcases ih with h | ⟨r, h⟩
    · exact Or.inr ⟨f a, by rw [h, max_eq_left bot_le]⟩
    · exact Or.inr ⟨max (f a) r, by rw [h]; exact (EReal.coe_strictMono.monotone.map_max).symm⟩

/-- The larger of a real and the largest of finitely many reals is real. -/
theorem max_fold {ι : Type} (s : Finset ι) (f : ι → ℝ) (μ : ℝ) :
    ∃ r : ℝ, max (μ : EReal) (Finset.fold max (⊥ : EReal) (fun x => (f x : EReal)) s) = r := by
  rcases fold_max s f with h | ⟨r, h⟩
  · exact ⟨μ, by rw [h, max_eq_left bot_le]⟩
  · exact ⟨max μ r, by rw [h]; exact (EReal.coe_strictMono.monotone.map_max).symm⟩

/-- The largest of a non-empty row of reals is real. -/
theorem fold_real {ι : Type} (s : Finset ι) (hs : s.Nonempty) (f : ι → ℝ) :
    ∃ r : ℝ, Finset.fold max (⊥ : EReal) (fun x => (f x : EReal)) s = r := by
  rcases fold_max s f with h | h
  · exfalso
    obtain ⟨i, hi⟩ := hs
    have : ((f i : ℝ) : EReal) ≤ Finset.fold max (⊥ : EReal) (fun x => (f x : EReal)) s :=
      (Finset.le_fold_max _).mpr (Or.inr ⟨i, hi, le_refl _⟩)
    rw [h] at this
    exact EReal.coe_ne_bot _ (le_bot_iff.mp this)
  · exact h

/-- A host maximum over one axis of real entries, from minus infinity, is real. -/
theorem reduce_real {s t u : Shape} {a : Fin s.rank} (x : FVec Ideal s .f32) (hx : ∀ i, ∃ r : ℝ, x i = (r : EReal)) (init : FVec Ideal u .f32)
    (h' : s.ReducesTo [a] t) (h : s.Reduces [a] t) (hu : 0 < u.numel) (hi : init (Shape.Idx.first hu) = (⊥ : EReal)) (ha : 0 < s.size a) (j : t.Idx) :
    ∃ r : ℝ, Host.reduce (FloatOps.maximumf (F := Ideal) (φ := .f32)) x init h' hu j = (r : EReal) := by
  choose g hg using hx
  obtain ⟨r, hr⟩ := fold_real (Finset.univ : Finset (Fin (s.size a))) ⟨⟨0, ha⟩, Finset.mem_univ _⟩ (g ∘ h.lift j)
  refine ⟨r, ?_⟩
  have e : Host.reduce (max : EReal → EReal → EReal) x init h' hu j = (r : EReal) := by
    rw [Host.reduce_eq_fold_single _ x init h' h hu j, hi, ← hr]
    congr 1
    funext k
    exact hg _
  exact e

/-- A sum of reals, read in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The accumulated numerator times the inverse of the accumulated denominator is the sum of the values weighted by the
    softmax of the row. -/
theorem softmax (σ a : ℕ → ℝ) (v : ℕ → EReal) (N : ℕ) (hN : 0 < N) (μ M : ℝ) (hσ : ∀ i, σ i * Real.log 2 = a i) :
    part σ v N μ * Ideal.div 1 (part σ (fun _ => 1) N μ)
      = ∑ i ∈ Finset.range N, Ideal.div (Ideal.exp ((a i : EReal) - (M : EReal))) (∑ k ∈ Finset.range N, Ideal.exp ((a k : EReal) - (M : EReal))) * v i := by
  have hne : (Finset.range N).Nonempty := ⟨0, Finset.mem_range.mpr hN⟩
  have hw : ∀ i, Real.rpow 2 (σ i - μ) = Real.exp (a i - M) * Real.exp (M - μ * Real.log 2) := by
    intro i
    show (2 : ℝ) ^ (σ i - μ) = _
    rw [Real.rpow_def_of_pos (by norm_num), ← Real.exp_add]
    congr 1
    rw [← hσ i]
    ring
  have hE : ∀ i, Ideal.exp ((a i : EReal) - (M : EReal)) = ((Real.exp (a i - M) : ℝ) : EReal) := by
    intro i
    rw [← EReal.coe_sub]
    rfl
  have hD : part σ (fun _ => 1) N μ = ((∑ i ∈ Finset.range N, Real.rpow 2 (σ i - μ) : ℝ) : EReal) := by
    unfold part
    simp only [one_mul]
    exact sum_coe _ _
  have hDp : 0 < ∑ i ∈ Finset.range N, Real.rpow 2 (σ i - μ) := Finset.sum_pos (fun i _ => Real.rpow_pos_of_pos (by norm_num) _) hne
  have hEp : 0 < ∑ i ∈ Finset.range N, Real.exp (a i - M) := Finset.sum_pos (fun i _ => Real.exp_pos _) hne
  have hd : ∀ x y : ℝ, 0 < y → Ideal.div (x : EReal) (y : EReal) = ((x * y⁻¹ : ℝ) : EReal) := by
    intro x y hy
    unfold Ideal.div
    rw [if_neg (by exact_mod_cast hy.ne'), EReal.coe_mul, EReal.coe_inv]
  simp only [hE]
  rw [sum_coe, hD, show (1 : EReal) = ((1 : ℝ) : EReal) from rfl, hd _ _ hDp, mul_comm, one_mul]
  unfold part
  rw [MoeAlgebra.mul_sum_of_nonneg _ _ _ (EReal.coe_nonneg.mpr (inv_nonneg.mpr hDp.le)) (EReal.coe_ne_top _)]
  refine Finset.sum_congr rfl fun i _ => ?_
  rw [hd _ _ hEp, mul_left_comm, mul_comm, ← EReal.coe_mul]
  congr 2
  have hs : ∑ i ∈ Finset.range N, Real.rpow 2 (σ i - μ) = (∑ i ∈ Finset.range N, Real.exp (a i - M)) * Real.exp (M - μ * Real.log 2) := by
    rw [Finset.sum_mul]
    exact Finset.sum_congr rfl fun i _ => hw i
  rw [hs, hw i]
  have := Real.exp_pos (M - μ * Real.log 2)
  field_simp

end Cert.AttnAlgebra
-- ==== Proof.AttnSpec.lean ====
module

public import proofs.«01_k».proof.Proof.AttnAlgebra
public import proofs.«01_k».proof.Proof.Gen.AttnIdeal
public import Idealize.ShloMosaic.Lib.Pointwise

@[expose] public section

set_option maxRecDepth 16384

noncomputable section

/-! The attention at coordinates: keys and values of the latent and then of the context, scores, softmax, weighted sum. -/

namespace Cert.AttnIdeal.Step

open Cert.AttnIdeal Cert.AttnIdeal.Gen Idealize.ShloMosaic Idealize.ShloMosaic.TcCoe Idealize.SL.Sem

/-- Coordinate `d` of key `n`: the latent's keys, then the context's. -/
def key (kl : FVec Ideal S8x8x8192x256 .bf16) (kc : FVec Ideal S8x8x256x256 .bf16) (b h : Fin 8) (n : ℕ) (d : Fin 256) : EReal :=
  if h1 : n < 8192 then kl (ix4 b h ⟨n, h1⟩ d) else if h2 : n - 8192 < 256 then kc (ix4 b h ⟨n - 8192, h2⟩ d) else 0

/-- Coordinate `d` of value `n`: the latent's values, then the context's. -/
def val (vl : FVec Ideal S8x8x16x128x512 .bf16) (vc : FVec Ideal S8x8x1x128x256 .bf16) (b h : Fin 8) (d : Fin 128) (n : ℕ) : EReal :=
  if h1 : n < 8192 then vl (ix5 b h ⟨n / 512, by omega⟩ d ⟨n % 512, by omega⟩) else if h2 : n - 8192 < 256 then vc (ix5 b h 0 d ⟨n - 8192, h2⟩) else 0

/-- The score of a query against key `n`, over the square root of the width. -/
def score (q : FVec Ideal S8x8x8192x256 .f32) (kl : FVec Ideal S8x8x8192x256 .bf16) (kc : FVec Ideal S8x8x256x256 .bf16) (b h : Fin 8) (r : Fin 8192) (n : ℕ) : ℝ :=
  (∑ d : Fin 256, (q (ix4 b h r d)).toReal * (key kl kc b h n d).toReal) * (Real.sqrt 192)⁻¹

/-- The same score in the base of two. -/
def score2 (q : FVec Ideal S8x8x8192x256 .f32) (kl : FVec Ideal S8x8x8192x256 .bf16) (kc : FVec Ideal S8x8x256x256 .bf16) (b h : Fin 8) (r : Fin 8192) (n : ℕ) : ℝ :=
  score q kl kc b h r n * (Real.log 2)⁻¹

theorem score2_log (q : FVec Ideal S8x8x8192x256 .f32) (kl : FVec Ideal S8x8x8192x256 .bf16) (kc : FVec Ideal S8x8x256x256 .bf16) (b h : Fin 8) (r : Fin 8192) (n : ℕ) :
    score2 q kl kc b h r n * Real.log 2 = score q kl kc b h r n := by
  unfold score2
  rw [mul_assoc, inv_mul_cancel₀ (Real.log_pos (by norm_num)).ne', mul_one]

/-- One coordinate of a head's output: the softmax of the scores over all 8448 keys, times the values. -/
def headAt (q : FVec Ideal S8x8x8192x256 .f32) (kl : FVec Ideal S8x8x8192x256 .bf16) (vl : FVec Ideal S8x8x16x128x512 .bf16)
    (kc : FVec Ideal S8x8x256x256 .bf16) (vc : FVec Ideal S8x8x1x128x256 .bf16) (b h : Fin 8) (r : Fin 8192) (d : Fin 128) : EReal :=
  ∑ n ∈ Finset.range 8448, Ideal.div (Ideal.exp ((score q kl kc b h r n : EReal) - ((0 : ℝ) : EReal)))
    (∑ k ∈ Finset.range 8448, Ideal.exp ((score q kl kc b h r k : EReal) - ((0 : ℝ) : EReal))) * val vl vc b h d n

/-- The heads side by side, 128 coordinates each. -/
def attn (q : FVec Ideal S8x8x8192x256 .f32) (kl : FVec Ideal S8x8x8192x256 .bf16) (vl : FVec Ideal S8x8x16x128x512 .bf16)
    (kc : FVec Ideal S8x8x256x256 .bf16) (vc : FVec Ideal S8x8x1x128x256 .bf16) : FVec Ideal S8x8192x1024 .bf16 :=
  fun i => headAt q kl vl kc vc (i 0) ⟨(i 2).val / 128, by have : (i 2).val < 1024 := (i 2).isLt; omega⟩ (i 1) ⟨(i 2).val % 128, by omega⟩

section
variable (q : FVec Ideal S8x8x8192x256 .f32) (kl : FVec Ideal S8x8x8192x256 .bf16) (kc : FVec Ideal S8x8x256x256 .bf16)

/-- Queries and keys are real numbers. -/
structure Finite : Prop where
  hq : ∀ b h r d, (((q (ix4 b h r d)).toReal : ℝ) : EReal) = q (ix4 b h r d)
  hl : ∀ b h r d, (((kl (ix4 b h r d)).toReal : ℝ) : EReal) = kl (ix4 b h r d)
  hc : ∀ b h r d, (((kc (ix4 b h r d)).toReal : ℝ) : EReal) = kc (ix4 b h r d)

theorem Finite.key {q : FVec Ideal S8x8x8192x256 .f32} {kl : FVec Ideal S8x8x8192x256 .bf16} {kc : FVec Ideal S8x8x256x256 .bf16}
    (H : Finite q kl kc) (b h : Fin 8) (n : ℕ) (d : Fin 256) : (((key kl kc b h n d).toReal : ℝ) : EReal) = Step.key kl kc b h n d := by
  unfold Step.key
  split_ifs
  · exact H.hl _ _ _ _
  · exact H.hc _ _ _ _
  · rfl

/-- The reference's score is the real score. -/
theorem Finite.score {q : FVec Ideal S8x8x8192x256 .f32} {kl : FVec Ideal S8x8x8192x256 .bf16} {kc : FVec Ideal S8x8x256x256 .bf16}
    (H : Finite q kl kc) (b h : Fin 8) (r : Fin 8192) (n : ℕ) :
    Ideal.div (∑ d : Fin 256, q (ix4 b h r d) * Step.key kl kc b h n d) (Ideal.sqrt (Ideal.ofBits FTy.f32 0x43400000#32))
      = (Step.score q kl kc b h r n : EReal) := by
  have e : Ideal.ofBits FTy.f32 0x43400000#32 = ((192 : ℝ) : EReal) := by
    simp [Ideal.ofBits, Ideal.ieee, -EReal.coe_mul]; norm_num
  have s : (∑ d : Fin 256, q (ix4 b h r d) * Step.key kl kc b h n d)
      = ((∑ d : Fin 256, (q (ix4 b h r d)).toReal * (Step.key kl kc b h n d).toReal : ℝ) : EReal) := by
    rw [← AttnAlgebra.sum_coe]
    refine Finset.sum_congr rfl fun d _ => ?_
    rw [EReal.coe_mul, H.hq, H.key]
  have p : (0 : ℝ) < Real.sqrt 192 := Real.sqrt_pos.mpr (by norm_num)
  rw [e, s]
  unfold Step.score
  rw [EReal.coe_mul, EReal.coe_inv]
  have e2 : Ideal.sqrt ((192 : ℝ) : EReal) = ((Real.sqrt 192 : ℝ) : EReal) := by
    show (if (192 : ℝ) < 0 then (⊥ : EReal) else ((Real.sqrt 192 : ℝ) : EReal)) = _
    rw [if_neg (by norm_num)]
  rw [e2]
  unfold Ideal.div
  rw [if_neg (by exact_mod_cast p.ne')]

/-- The kernel's score is the real score in the base of two. -/
theorem Finite.score2 {q : FVec Ideal S8x8x8192x256 .f32} {kl : FVec Ideal S8x8x8192x256 .bf16} {kc : FVec Ideal S8x8x256x256 .bf16}
    (H : Finite q kl kc) (b h : Fin 8) (r : Fin 8192) (n : ℕ) :
    (∑ d : Fin 256, Step.key kl kc b h n d * (q (ix4 b h r d) * (((Real.sqrt 192)⁻¹ * (Real.log 2)⁻¹ : ℝ) : EReal)))
      = (Step.score2 q kl kc b h r n : EReal) := by
  have s : (∑ d : Fin 256, Step.key kl kc b h n d * (q (ix4 b h r d) * (((Real.sqrt 192)⁻¹ * (Real.log 2)⁻¹ : ℝ) : EReal)))
      = ((∑ d : Fin 256, (Step.key kl kc b h n d).toReal * ((q (ix4 b h r d)).toReal * ((Real.sqrt 192)⁻¹ * (Real.log 2)⁻¹)) : ℝ) : EReal) := by
    rw [← AttnAlgebra.sum_coe]
    refine Finset.sum_congr rfl fun d _ => ?_
    rw [EReal.coe_mul (Step.key kl kc b h n d).toReal, EReal.coe_mul (q (ix4 b h r d)).toReal, H.hq, H.key]
  rw [s]
  unfold Step.score2 Step.score
  rw [mul_assoc, Finset.sum_mul]
  congr 1
  refine Finset.sum_congr rfl fun d _ => ?_
  ring

end

end Cert.AttnIdeal.Step
-- ==== Proof.AttnPre.lean ====
module

public import proofs.«01_k».proof.Defs
public import proofs.«01_k».proof.Proof.Gen.Pre_finite_qk
public import proofs.«01_k».proof.Proof.AttnSpec
public import Idealize.ShloMosaic.Lib.ReduceAll
public import Idealize.ShloMosaic.Lib.Pointwise

@[expose] public section

set_option maxRecDepth 16384

noncomputable section

/-! The precondition of the attention, in words: queries and keys are finite. -/

namespace Cert.AttnPre

open Cert.Pre_finite_qk Idealize.ShloMosaic Idealize.ShloMosaic.TcCoe Idealize.SL.Sem

instance : Subsingleton S_.Idx := ⟨fun a b => funext fun i => i.elim0⟩

/-- The patterns of positive infinity. -/
theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- An extended real whose absolute value is below infinity is its real part. -/
theorem coe_toReal_of_abs (x : EReal) (h : max x (-x) < ⊤) : ((x.toReal : ℝ) : EReal) = x := by
  refine EReal.coe_toReal (fun e => ?_) (fun e => ?_)
  · rw [e] at h; simp at h
  · rw [e] at h; simp at h

/-- The predicate says that queries and keys are real numbers. -/
theorem finite (x0 : FVec Ideal S8x8x8192x256 .f32) (x1 : FVec Ideal S8x8x8192x256 .bf16) (x2 : FVec Ideal S8x8x16x128x512 .bf16)
    (x3 : FVec Ideal S8x8x256x256 .bf16) (x4 : FVec Ideal S8x8x1x128x256 .bf16)
    (h : Cert.Pre_finite_qk.fn (F := Ideal) x0 x1 x2 x3 x4 = fun _ => 1#1) : Cert.AttnIdeal.Step.Finite x0 x1 x3 := by
  have of1 : ∀ p : Bool, BitVec.ofBool p = 1#1 → p = true := by decide
  have h' := congrFun h (fun i => i.elim0)
  obtain ⟨hab, hc⟩ := IntOp.andi_eq_one.1 h'
  obtain ⟨ha, hb⟩ := IntOp.andi_eq_one.1 hab
  refine ⟨fun b h r d => ?_, fun b h r d => ?_, fun b h r d => ?_⟩
  · have a := Host.reduce_andi_all _ _ _ _ _ ha (ix4 b h r d)
    pointwise at a
    rw [inf32] at a
    exact coe_toReal_of_abs _ (of_decide_eq_true (of1 _ a))
  · have a := Host.reduce_andi_all _ _ _ _ _ hb (ix4 b h r d)
    pointwise at a
    rw [inf16] at a
    exact coe_toReal_of_abs _ (of_decide_eq_true (of1 _ a))
  · have a := Host.reduce_andi_all _ _ _ _ _ hc (ix4 b h r d)
    pointwise at a
    rw [inf16] at a
    exact coe_toReal_of_abs _ (of_decide_eq_true (of1 _ a))

end Cert.AttnPre
-- ==== Proof.AttnRef.lean ====
module

public import proofs.«01_k».proof.Proof.AttnSpec
public import proofs.«01_k».proof.Proof.Gen.AttnRefIdeal.Read
public import Idealize.ShloMosaic.Lib.Pointwise

@[expose] public section

set_option maxRecDepth 16384

noncomputable section

/-! The reference's attention, read at every coordinate. -/

namespace Cert.AttnRefIdeal.Value

open Cert.AttnRefIdeal Cert.AttnRefIdeal.Gen Cert.AttnRefIdeal.Read Idealize.ShloMosaic Idealize.ShloMosaic.TcCoe Idealize.SL.Sem
open Idealize.ShloMosaic.StableHlo
open Cert.AttnIdeal.Step (Finite key val score headAt attn)

/-- The scores, at an index. -/
theorem score_apply (x0 : FVec Ideal S8x8x8192x256 .f32) (x1 : FVec Ideal S8x8x8192x256 .bf16) (x3 : FVec Ideal S8x8x256x256 .bf16)
    (H : Finite x0 x1 x3) (b h : Fin 8) (n : Fin 8192) (k : Fin 8448) :
    val_main_v11 (F := Ideal) x0 x1 x3 (ix4 b h n k) = (score x0 x1 x3 b h n k.val : EReal) := by
  rw [← H.score]
  pointwise [val_main_v11, val_main_v10, val_main_v9, val_main_cst, val_main_v8, val_main_v1, val_main_v0]
  refine congrArg (fun z => Ideal.div z _) (Finset.sum_congr rfl fun d _ => congrArg (x0 (ix4 b h n d) * ·) ?_)
  unfold key
  by_cases h1 : k.val < 8192
  · rw [dif_pos h1, dif_pos h1]
  · have h2 : k.val - 8192 < 256 := by have := k.isLt; omega
    rw [dif_neg h1, dif_neg h1, dif_pos h2]

/-- The scores lose their last axis in a reduction. -/
theorem reduces : S8x8x8192x8448.Reduces [3] S8x8x8192 := by decide

/-- The pattern of minus infinity. -/
theorem ofBits_neg_inf : Ideal.ofBits FTy.f32 4286578688#32 = ⊥ := by simp [Ideal.ofBits, Ideal.ieee]

theorem cst_0 (i : S_.Idx) : val_main_cst_0 (F := Ideal) i = (⊥ : EReal) :=
  (val_main_cst_0_apply (F := Ideal) i).trans ofBits_neg_inf

theorem cst_1 (i : S_.Idx) : val_main_cst_1 (F := Ideal) i = (⊥ : EReal) :=
  (val_main_cst_1_apply (F := Ideal) i).trans ofBits_neg_inf

/-- The maximum over the keys is real. -/
theorem reduce_real (x0 : FVec Ideal S8x8x8192x256 .f32) (x1 : FVec Ideal S8x8x8192x256 .bf16) (x3 : FVec Ideal S8x8x256x256 .bf16)
    (H : Finite x0 x1 x3) (i : S8x8x8192.Idx) : ∃ M : ℝ, val_main_v12 (F := Ideal) x0 x1 x3 i = (M : EReal) := by
  have hx : ∀ i, ∃ r : ℝ, val_main_v11 (F := Ideal) x0 x1 x3 i = (r : EReal) :=
    fun i => ⟨_, (congrArg _ (eq_ix4 i)).trans (score_apply x0 x1 x3 H (i 0) (i 1) (i 2) (i 3))⟩
  unfold val_main_v12
  generalize val_main_v11 (F := Ideal) x0 x1 x3 = x at hx ⊢
  have hc := cst_0 (Shape.Idx.first h_S_)
  generalize val_main_cst_0 (F := Ideal) = y at hc ⊢
  exact AttnAlgebra.reduce_real x hx y reducesTo_S8x8x8192x8448_S8x8x8192_d3 reduces h_S_ hc (by show 0 < 8448; norm_num) i

/-- The reference's row maximum is real. -/
theorem max_real (x0 : FVec Ideal S8x8x8192x256 .f32) (x1 : FVec Ideal S8x8x8192x256 .bf16) (x3 : FVec Ideal S8x8x256x256 .bf16)
    (H : Finite x0 x1 x3) (i : S8x8x8192.Idx) :
    ∃ M : ℝ, val_main_v14 (F := Ideal) x0 x1 x3 i = (M : EReal) := by
  obtain ⟨r, hr⟩ := reduce_real x0 x1 x3 H i
  refine ⟨r, ?_⟩
  rw [val_main_v14_apply, hr, val_main_v13_apply, cst_1]
  exact max_eq_right bot_le

/-- The exponentials, at an index. -/
theorem exp_apply (x0 : FVec Ideal S8x8x8192x256 .f32) (x1 : FVec Ideal S8x8x8192x256 .bf16) (x3 : FVec Ideal S8x8x256x256 .bf16) (b h : Fin 8) (n : Fin 8192) (k : Fin 8448) :
    val_main_v18 (F := Ideal) x0 x1 x3 (ix4 b h n k)
      = Ideal.exp (val_main_v11 (F := Ideal) x0 x1 x3 (ix4 b h n k) - val_main_v14 (F := Ideal) x0 x1 x3 (ix3 b h n)) := by
  pointwise [val_main_v18, val_main_v17, val_main_v16, val_main_v15]

/-- The softmax, at an index. -/
theorem prob_apply (x0 : FVec Ideal S8x8x8192x256 .f32) (x1 : FVec Ideal S8x8x8192x256 .bf16) (x3 : FVec Ideal S8x8x256x256 .bf16) (b h : Fin 8) (n : Fin 8192) (k : Fin 8448) :
    val_main_v22 (F := Ideal) x0 x1 x3 (ix4 b h n k)
      = Ideal.div (val_main_v18 (F := Ideal) x0 x1 x3 (ix4 b h n k)) (∑ k : Fin 8448, val_main_v18 (F := Ideal) x0 x1 x3 (ix4 b h n k)) := by
  pointwise [val_main_v22, val_main_v21, val_main_v20, val_main_v19, val_main_cst_2]

/-- The values, at an index. -/
theorem val_apply (x2 : FVec Ideal S8x8x16x128x512 .bf16) (x4 : FVec Ideal S8x8x1x128x256 .bf16) (b h : Fin 8) (n : Fin 8448) (k : Fin 128) :
    val_main_v7 (F := Ideal) x2 x4 (ix4 b h n k) = val x2 x4 b h k n.val := by
  pointwise [val_main_v7, val_main_v6, val_main_v5, val_main_v4, val_main_v3, val_main_v2]
  unfold val
  by_cases h1 : n.val < 8192
  · rw [dif_pos h1, dif_pos h1]
  · have h2 : n.val - 8192 < 256 := by have := n.isLt; omega
    rw [dif_neg h1, dif_neg h1, dif_pos h2]

/-- The weighted sum, at an index. -/
theorem out_apply (x0 : FVec Ideal S8x8x8192x256 .f32) (x1 : FVec Ideal S8x8x8192x256 .bf16) (x2 : FVec Ideal S8x8x16x128x512 .bf16) (x3 : FVec Ideal S8x8x256x256 .bf16) (x4 : FVec Ideal S8x8x1x128x256 .bf16) (b : Fin 8) (n : Fin 8192) (j : Fin 1024) :
    val_main_v26 (F := Ideal) x0 x1 x2 x3 x4 (ix3 b n j)
      = ∑ k : Fin 8448, val_main_v7 (F := Ideal) x2 x4 (ix4 b ⟨j.val / 128, by omega⟩ k ⟨j.val % 128, by omega⟩) * val_main_v22 (F := Ideal) x0 x1 x3 (ix4 b ⟨j.val / 128, by omega⟩ n k) := by
  pointwise [val_main_v26, val_main_v25, val_main_v24, val_main_v23]

/-- The reference's result at an index. -/
theorem ref_apply (x0 : FVec Ideal S8x8x8192x256 .f32) (x1 : FVec Ideal S8x8x8192x256 .bf16) (x2 : FVec Ideal S8x8x16x128x512 .bf16) (x3 : FVec Ideal S8x8x256x256 .bf16) (x4 : FVec Ideal S8x8x1x128x256 .bf16)
    (H : Finite x0 x1 x3) (b : Fin 8) (n : Fin 8192) (j : Fin 1024) :
    val_main_v26 (F := Ideal) x0 x1 x2 x3 x4 (ix3 b n j) = headAt x0 x1 x2 x3 x4 b ⟨j.val / 128, by omega⟩ n ⟨j.val % 128, by omega⟩ := by
  obtain ⟨M, hM⟩ := max_real x0 x1 x3 H (ix3 b ⟨j.val / 128, by omega⟩ n)
  rw [out_apply]
  unfold headAt
  rw [← AttnAlgebra.softmax _ _ _ _ (by norm_num) 0 0 (Cert.AttnIdeal.Step.score2_log x0 x1 x3 b ⟨j.val / 128, by omega⟩ n),
    AttnAlgebra.softmax _ _ _ _ (by norm_num) 0 M (Cert.AttnIdeal.Step.score2_log x0 x1 x3 b ⟨j.val / 128, by omega⟩ n), Finset.sum_range]
  refine Finset.sum_congr rfl fun k _ => ?_
  rw [mul_comm, val_apply, prob_apply, Finset.sum_range]
  simp only [exp_apply, score_apply _ _ _ H, hM]

end Cert.AttnRefIdeal.Value
-- ==== Proof.AttnLoop.lean ====
module

public import proofs.«01_k».proof.Proof.Gen.AttnIdeal.Value
public import Idealize.ShloMosaic.Lib.Pipeline.ValueKit
public import Idealize.ShloMosaic.Lib.Pipeline.ReadBack
public import Idealize.ShloMosaic.Lib.VecWindow
public import Idealize.ShloMosaic.Lib.Pointwise

@[expose] public section

set_option maxRecDepth 16384

noncomputable section

/-! The chunk loop of the attention kernel: the running maximum, the running denominator and the running numerator before
    every trip, and what one trip makes of them. -/

namespace Cert.AttnIdeal.Step

open Cert.AttnIdeal Cert.AttnIdeal.Gen Idealize.ShloMosaic Idealize.ShloMosaic.TcCoe Idealize.SL.Sem

variable (m : (ℓ : Loc nD τ sig) → Buf (Elt Ideal) ℓ)

/-- The 512 latent keys of trip `k`. -/
def keys (c : Dev nD) (t : Fin cfg0.N) (k : Fin k0_t1_loop.trips) : Vec Ideal S1x1x1x512x256 .bf16 :=
  View.ld (iblk m c 1 t) (Rect.unit (s := S1x1x16x512x256) (k0_off1 k) S1x1x1x512x256.size (k0_off1_inb k))

/-- The 512 latent values of trip `k`, a column each. -/
def vals (c : Dev nD) (t : Fin cfg0.N) (k : Fin k0_t1_loop.trips) : Vec Ideal S1x1x1x128x512 .bf16 :=
  View.ld (iblk m c 2 t) (Rect.unit (s := S1x1x16x128x512) (k0_off2 k) S1x1x1x128x512.size (k0_off2_inb k))

/-- The context keys a grid point reads. -/
def ckeys (c : Dev nD) (t : Fin cfg0.N) : Vec Ideal S1x1x1x256x256 .bf16 := iblk m c 3 t

/-- The context values a grid point reads. -/
def cvals (c : Dev nD) (t : Fin cfg0.N) : Vec Ideal S1x1x1x128x256 .bf16 := iblk m c 4 t

/-- The stores of one trip: each running quantity is rewritten whole, from the trip's keys and values and the quantities
    read. -/
theorem pieces (c : Dev nD) (t : Fin cfg0.N) (k : Fin k0_t1_loop.trips) (f9 : BufTy.Contents (Elt Ideal) scM0_0.view.ty) (f10 : BufTy.Contents (Elt Ideal) scM0_1.view.ty) (f11 : BufTy.Contents (Elt Ideal) scM0_2.view.ty) :
    tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) ((hs0_1 t).unread (iblk m c 1 t)) ((hs0_2 t).unread (iblk m c 2 t)) k f9 f10 f11
      = ([⟨Rect.unit ![0, 0] ![1, 1024] inb_S1x1024_S1x1024_0_0,
            k0_pay12 (k0_pay3 (k0_pay8 (iblk m c 0 t)) (keys m c t k) (View.read (Elt Ideal) (View.whole cc0_scratch0) f9))⟩],
          [⟨Rect.unit ![0, 0] ![1, 1024] inb_S1x1024_S1x1024_0_0,
            k0_pay6 (k0_pay8 (iblk m c 0 t)) (keys m c t k) (View.read (Elt Ideal) (View.whole cc0_scratch0) f9) (View.read (Elt Ideal) (View.whole cc0_scratch1) f10)⟩],
          [⟨Rect.unit ![0, 0] ![128, 1024] inb_S128x1024_S128x1024_0_0,
            k0_pay7 (k0_pay8 (iblk m c 0 t)) (keys m c t k) (vals m c t k) (View.read (Elt Ideal) (View.whole cc0_scratch0) f9) (View.read (Elt Ideal) (View.whole cc0_scratch2) f11)⟩]) := by
  unfold tripL_k0_t1 trip_k0_t1
  dsimp only
  frame_open
  frame_out
  rfl

/-- The stores of the trips before `n`. -/
def stores (c : Dev nD) (t : Fin cfg0.N) (n : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) ((hs0_1 t).unread (iblk m c 1 t)) ((hs0_2 t).unread (iblk m c 2 t))
    ((View.whole cc0_scratch0).writes (Elt Ideal) (View.whole cc0_scratch0).junk [⟨Rect.unit ![0, 0] ![1, 1024] inb_S1x1024_S1x1024_0_0, k0_pay9 (F := Ideal)⟩])
    ((View.whole cc0_scratch1).writes (Elt Ideal) (View.whole cc0_scratch1).junk [⟨Rect.unit ![0, 0] ![1, 1024] inb_S1x1024_S1x1024_0_0, k0_pay10 (F := Ideal)⟩])
    ((View.whole cc0_scratch2).writes (Elt Ideal) (View.whole cc0_scratch2).junk [⟨Rect.unit ![0, 0] ![128, 1024] inb_S128x1024_S128x1024_0_0, k0_pay11 (F := Ideal)⟩]) n

/-- The running maximum before trip `n`. -/
def mx (c : Dev nD) (t : Fin cfg0.N) (n : ℕ) : Vec Ideal S1x1024 .f32 :=
  (View.whole cc0_scratch0).readCov ((stores m c t n).1 ++ [⟨Rect.unit ![0, 0] ![1, 1024] inb_S1x1024_S1x1024_0_0, k0_pay9 (F := Ideal)⟩]) (Rect.unit ![0, 0] ![1, 1024] inb_S1x1024_S1x1024_0_0).toLoadRect

/-- The running denominator before trip `n`. -/
def den (c : Dev nD) (t : Fin cfg0.N) (n : ℕ) : Vec Ideal S1x1024 .f32 :=
  (View.whole cc0_scratch1).readCov ((stores m c t n).2.1 ++ [⟨Rect.unit ![0, 0] ![1, 1024] inb_S1x1024_S1x1024_0_0, k0_pay10 (F := Ideal)⟩]) (Rect.unit ![0, 0] ![1, 1024] inb_S1x1024_S1x1024_0_0).toLoadRect

/-- The running numerator before trip `n`. -/
def num (c : Dev nD) (t : Fin cfg0.N) (n : ℕ) : Vec Ideal S128x1024 .f32 :=
  (View.whole cc0_scratch2).readCov ((stores m c t n).2.2 ++ [⟨Rect.unit ![0, 0] ![128, 1024] inb_S128x1024_S128x1024_0_0, k0_pay11 (F := Ideal)⟩]) (Rect.unit ![0, 0] ![128, 1024] inb_S128x1024_S128x1024_0_0).toLoadRect

theorem mx_zero (c : Dev nD) (t : Fin cfg0.N) : mx m c t 0 = k0_pay9 (F := Ideal) := by
  unfold mx stores pb_k0_t1
  exact View.readCov_cons_unit_lit' (S := S1x1024) _ _ _ _ [] (by decide) (by decide)

theorem den_zero (c : Dev nD) (t : Fin cfg0.N) : den m c t 0 = k0_pay10 (F := Ideal) := by
  unfold den stores pb_k0_t1
  exact View.readCov_cons_unit_lit' (S := S1x1024) _ _ _ _ [] (by decide) (by decide)

theorem num_zero (c : Dev nD) (t : Fin cfg0.N) : num m c t 0 = k0_pay11 (F := Ideal) := by
  unfold num stores pb_k0_t1
  exact View.readCov_cons_unit_lit' (S := S128x1024) _ _ _ _ [] (by decide) (by decide)

/-- Reading a whole buffer back. -/
theorem read_mx (c : Dev nD) (t : Fin cfg0.N) (n : ℕ) :
    View.read (Elt Ideal) (View.whole cc0_scratch0) ((View.whole cc0_scratch0).writes (Elt Ideal) ((View.whole cc0_scratch0).writes (Elt Ideal) (View.whole cc0_scratch0).junk [⟨Rect.unit ![0, 0] ![1, 1024] inb_S1x1024_S1x1024_0_0, k0_pay9 (F := Ideal)⟩]) (stores m c t n).1) = mx m c t n := by
  rw [← View.writes_append]
  exact (View.ld_unit_lit' (S := S1x1024) inb_S1x1024_S1x1024_0_0 _ (by decide)).symm

theorem read_den (c : Dev nD) (t : Fin cfg0.N) (n : ℕ) :
    View.read (Elt Ideal) (View.whole cc0_scratch1) ((View.whole cc0_scratch1).writes (Elt Ideal) ((View.whole cc0_scratch1).writes (Elt Ideal) (View.whole cc0_scratch1).junk [⟨Rect.unit ![0, 0] ![1, 1024] inb_S1x1024_S1x1024_0_0, k0_pay10 (F := Ideal)⟩]) (stores m c t n).2.1) = den m c t n := by
  rw [← View.writes_append]
  exact (View.ld_unit_lit' (S := S1x1024) inb_S1x1024_S1x1024_0_0 _ (by decide)).symm

theorem read_num (c : Dev nD) (t : Fin cfg0.N) (n : ℕ) :
    View.read (Elt Ideal) (View.whole cc0_scratch2) ((View.whole cc0_scratch2).writes (Elt Ideal) ((View.whole cc0_scratch2).writes (Elt Ideal) (View.whole cc0_scratch2).junk [⟨Rect.unit ![0, 0] ![128, 1024] inb_S128x1024_S128x1024_0_0, k0_pay11 (F := Ideal)⟩]) (stores m c t n).2.2) = num m c t n := by
  rw [← View.writes_append]
  exact (View.ld_unit_lit' (S := S128x1024) inb_S128x1024_S128x1024_0_0 _ (by decide)).symm

/-- One trip's stores in front of the earlier ones. -/
theorem stores_succ (c : Dev nD) (t : Fin cfg0.N) (k : Fin k0_t1_loop.trips) :
    stores m c t (k.val + 1)
      = ((⟨Rect.unit ![0, 0] ![1, 1024] inb_S1x1024_S1x1024_0_0, k0_pay12 (k0_pay3 (k0_pay8 (iblk m c 0 t)) (keys m c t k) (mx m c t k))⟩ : View.Piece (Elt Ideal) S1x1024 .f32) :: (stores m c t k).1,
          (⟨Rect.unit ![0, 0] ![1, 1024] inb_S1x1024_S1x1024_0_0, k0_pay6 (k0_pay8 (iblk m c 0 t)) (keys m c t k) (mx m c t k) (den m c t k)⟩ : View.Piece (Elt Ideal) S1x1024 .f32) :: (stores m c t k).2.1,
          (⟨Rect.unit ![0, 0] ![128, 1024] inb_S128x1024_S128x1024_0_0, k0_pay7 (k0_pay8 (iblk m c 0 t)) (keys m c t k) (vals m c t k) (mx m c t k) (num m c t k)⟩ : View.Piece (Elt Ideal) S128x1024 .f32) :: (stores m c t k).2.2) := by
  rw [← read_mx m c t k, ← read_den m c t k, ← read_num m c t k]
  refine (pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) ((hs0_1 t).unread (iblk m c 1 t)) ((hs0_2 t).unread (iblk m c 2 t)) _ _ _ k).trans ?_
  rw [pieces]
  rfl

theorem mx_succ (c : Dev nD) (t : Fin cfg0.N) (k : Fin k0_t1_loop.trips) :
    mx m c t (k.val + 1) = k0_pay12 (k0_pay3 (k0_pay8 (iblk m c 0 t)) (keys m c t k) (mx m c t k)) := by
  conv_lhs => unfold mx
  rw [stores_succ]
  exact View.readCov_cons_unit_lit' (S := S1x1024) _ _ _ _ _ (by decide) (by decide)

theorem den_succ (c : Dev nD) (t : Fin cfg0.N) (k : Fin k0_t1_loop.trips) :
    den m c t (k.val + 1) = k0_pay6 (k0_pay8 (iblk m c 0 t)) (keys m c t k) (mx m c t k) (den m c t k) := by
  conv_lhs => unfold den
  rw [stores_succ]
  exact View.readCov_cons_unit_lit' (S := S1x1024) _ _ _ _ _ (by decide) (by decide)

theorem num_succ (c : Dev nD) (t : Fin cfg0.N) (k : Fin k0_t1_loop.trips) :
    num m c t (k.val + 1) = k0_pay7 (k0_pay8 (iblk m c 0 t)) (keys m c t k) (vals m c t k) (mx m c t k) (num m c t k) := by
  conv_lhs => unfold num
  rw [stores_succ]
  exact View.readCov_cons_unit_lit' (S := S128x1024) _ _ _ _ _ (by decide) (by decide)

/-- The block the kernel writes at a point: the loop's quantities after all trips, with the context keys and values folded in,
    normalised and transposed. -/
theorem out (c : Dev nD) (t : Fin cfg0.N) :
    (dats m 0 c).after 5 t
      = k0_pay1 (k0_pay22 (k0_pay20 (k0_pay8 (iblk m c 0 t)) (k0_pay13 (ckeys m c t)) (k0_pay14 (cvals m c t)) (mx m c t 16) (num m c t 16))
          (k0_pay19 (k0_pay8 (iblk m c 0 t)) (k0_pay13 (ckeys m c t)) (mx m c t 16) (den m c t 16))) := by
  have h16 : Scf.trips 0#32 (Scalar.addi 0#32 16#32) 1#32 = 16 := by decide
  rw [after0_5]
  unfold outsAt0
  frame_out
  rw [h16]
  rfl

end Cert.AttnIdeal.Step
-- ==== Proof.AttnTerm.lean ====
module

public import proofs.«01_k».proof.Proof.AttnLoop
public import proofs.«01_k».proof.Proof.AttnSpec

@[expose] public section

set_option maxRecDepth 16384

noncomputable section

/-! The attention kernel's payloads and blocks, read at coordinates. -/

namespace Cert.AttnIdeal.Step

open Cert.AttnIdeal Cert.AttnIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin cfg0.N, win0_0.index t = ![t.val / 64, t.val / 8 % 8, t.val % 8, 0] ∧ win0_1.index t = ![t.val / 64, t.val / 8 % 8, 0, 0, 0]
    ∧ win0_2.index t = ![t.val / 64, t.val / 8 % 8, 0, 0, 0] ∧ win0_3.index t = ![t.val / 64, t.val / 8 % 8, 0, 0, 0]
    ∧ win0_4.index t = ![t.val / 64, t.val / 8 % 8, 0, 0, 0] ∧ win0_5.index t = ![t.val / 64, t.val % 8, t.val / 8 % 8] :=
  (by decide +kernel : ∀ t : Fin grid0.N, _)

/-- The pattern of minus infinity. -/
theorem ofBits_neg_inf : Ideal.ofBits FTy.f32 4286578688#32 = ⊥ := by simp [Ideal.ofBits, Ideal.ieee]

/-- The pattern the running maximum starts from is a real number. -/
theorem ofBits_start : ∃ r : ℝ, Ideal.ofBits FTy.f32 4048155338#32 = (r : EReal) := by
  refine ⟨-(13234890 * 2 ^ 76), ?_⟩
  simp [Ideal.ofBits, Ideal.ieee, -EReal.coe_mul]

/-- The scaled queries, a column each. -/
theorem pay8_apply (v : FVec Ideal S1x1x1024x256 .f32) (d : Fin 256) (r : Fin 1024) :
    k0_pay8 (F := Ideal) v (ix2 d r) = v (ix4 0 0 r d) * (((Real.sqrt 192)⁻¹ * (Real.log 2)⁻¹ : ℝ) : EReal) := by
  pointwise [k0_pay8]
  rfl

/-- The running maximum after a chunk. -/
theorem pay3_apply (q : FVec Ideal S256x1024 .bf16) (k : FVec Ideal S1x1x1x512x256 .bf16) (x : FVec Ideal S1x1024 .f32) (r : Fin 1024) :
    k0_pay3 (F := Ideal) q k x (ix2 0 r)
      = max (x (ix2 0 r)) (Finset.fold max (⊥ : EReal) (fun j : Fin 512 => ∑ d : Fin 256, k (ix5 0 0 0 j d) * q (ix2 d r)) Finset.univ) := by
  pointwise [k0_pay3, k0_pay2]
  rw [ofBits_neg_inf]

theorem pay12_apply (x : FVec Ideal S1x1024 .f32) : k0_pay12 (F := Ideal) x = x := by
  funext i
  idx_vars i
  pointwise [k0_pay12]

/-- The running denominator after a chunk. -/
theorem pay6_apply (q : FVec Ideal S256x1024 .bf16) (k : FVec Ideal S1x1x1x512x256 .bf16) (x : FVec Ideal S1x1024 .f32) (l : FVec Ideal S1x1024 .f32) (r : Fin 1024) :
    k0_pay6 (F := Ideal) q k x l (ix2 0 r)
      = Ideal.exp2 (x (ix2 0 r) - k0_pay3 (F := Ideal) q k x (ix2 0 r)) * l (ix2 0 r)
        + ∑ j : Fin 512, Ideal.exp2 ((∑ d : Fin 256, k (ix5 0 0 0 j d) * q (ix2 d r)) - k0_pay3 (F := Ideal) q k x (ix2 0 r)) := by
  pointwise [k0_pay6, k0_pay5, k0_pay4, k0_pay2]
  rfl

/-- The running numerator after a chunk. -/
theorem pay7_apply (q : FVec Ideal S256x1024 .bf16) (k : FVec Ideal S1x1x1x512x256 .bf16) (v : FVec Ideal S1x1x1x128x512 .bf16) (x : FVec Ideal S1x1024 .f32) (l : FVec Ideal S128x1024 .f32) (d : Fin 128) (r : Fin 1024) :
    k0_pay7 (F := Ideal) q k v x l (ix2 d r)
      = Ideal.exp2 (x (ix2 0 r) - k0_pay3 (F := Ideal) q k x (ix2 0 r)) * l (ix2 d r)
        + ∑ j : Fin 512, v (ix5 0 0 0 d j) * Ideal.exp2 ((∑ d : Fin 256, k (ix5 0 0 0 j d) * q (ix2 d r)) - k0_pay3 (F := Ideal) q k x (ix2 0 r)) := by
  pointwise [k0_pay7, k0_pay5, k0_pay4, k0_pay2]
  rfl

/-- The running maximum after the context. -/
theorem pay16_apply (q : FVec Ideal S256x1024 .bf16) (k : FVec Ideal S1x1x1x256x256 .bf16) (x : FVec Ideal S1x1024 .f32) (r : Fin 1024) :
    k0_pay16 (F := Ideal) q (k0_pay13 (F := Ideal) k) x (ix2 0 r)
      = max (x (ix2 0 r)) (Finset.fold max (⊥ : EReal) (fun j : Fin 256 => ∑ d : Fin 256, k (ix5 0 0 0 j d) * q (ix2 d r)) Finset.univ) := by
  pointwise [k0_pay16, k0_pay15, k0_pay13]
  rw [ofBits_neg_inf]

/-- The denominator after the context. -/
theorem pay19_apply (q : FVec Ideal S256x1024 .bf16) (k : FVec Ideal S1x1x1x256x256 .bf16) (x : FVec Ideal S1x1024 .f32) (l : FVec Ideal S1x1024 .f32) (r : Fin 1024) :
    k0_pay19 (F := Ideal) q (k0_pay13 (F := Ideal) k) x l (ix2 0 r)
      = Ideal.exp2 (x (ix2 0 r) - k0_pay16 (F := Ideal) q (k0_pay13 (F := Ideal) k) x (ix2 0 r)) * l (ix2 0 r)
        + ∑ j : Fin 256, Ideal.exp2 ((∑ d : Fin 256, k (ix5 0 0 0 j d) * q (ix2 d r)) - k0_pay16 (F := Ideal) q (k0_pay13 (F := Ideal) k) x (ix2 0 r)) := by
  pointwise [k0_pay19, k0_pay18, k0_pay17, k0_pay15, k0_pay13]
  rfl

/-- The numerator after the context. -/
theorem pay20_apply (q : FVec Ideal S256x1024 .bf16) (k : FVec Ideal S1x1x1x256x256 .bf16) (v : FVec Ideal S1x1x1x128x256 .bf16) (x : FVec Ideal S1x1024 .f32) (l : FVec Ideal S128x1024 .f32) (d : Fin 128) (r : Fin 1024) :
    k0_pay20 (F := Ideal) q (k0_pay13 (F := Ideal) k) (k0_pay14 (F := Ideal) v) x l (ix2 d r)
      = Ideal.exp2 (x (ix2 0 r) - k0_pay16 (F := Ideal) q (k0_pay13 (F := Ideal) k) x (ix2 0 r)) * l (ix2 d r)
        + ∑ j : Fin 256, v (ix5 0 0 0 d j) * Ideal.exp2 ((∑ d : Fin 256, k (ix5 0 0 0 j d) * q (ix2 d r)) - k0_pay16 (F := Ideal) q (k0_pay13 (F := Ideal) k) x (ix2 0 r)) := by
  pointwise [k0_pay20, k0_pay18, k0_pay17, k0_pay15, k0_pay13, k0_pay14]
  rfl

/-- The block written: numerator times inverse denominator, transposed. -/
theorem pay1_apply (l : FVec Ideal S1x1024 .f32) (a : FVec Ideal S128x1024 .f32) (z : Fin 1) (d : Fin 128) (r : Fin 1024) :
    k0_pay1 (F := Ideal) (k0_pay22 (F := Ideal) a l) (ix3 z r d) = a (ix2 d r) * Ideal.div 1 (l (ix2 0 r)) := by
  obtain rfl : z = 0 := Subsingleton.elim _ _
  pointwise [k0_pay1, k0_pay22]

end Cert.AttnIdeal.Step
-- ==== Proof.AttnBlocks.lean ====
module

public import proofs.«01_k».proof.Proof.AttnTerm

@[expose] public section

set_option maxRecDepth 16384

noncomputable section

/-! The blocks and chunks the attention kernel reads, at the arguments' own coordinates. -/

namespace Cert.AttnIdeal.Step

open Cert.AttnIdeal Cert.AttnIdeal.Gen Idealize.ShloMosaic Idealize.ShloMosaic.TcCoe Idealize.SL.Sem

variable (m : (ℓ : Loc nD τ sig) → Buf (Elt Ideal) ℓ)

/-- The queries a grid point reads. -/
theorem query_apply (c : Dev nD) (t : Fin cfg0.N) (r : Fin 1024) (d : Fin 256) (b h : Fin 8) (n : Fin 8192)
    (hb : t.val / 64 = b.val) (hh : t.val / 8 % 8 = h.val) (hn : t.val % 8 * 1024 + r.val = n.val) :
    (iblk m c 0 t) (ix4 0 0 r d) = (show FVec Ideal S8x8x8192x256 .f32 from m ((c : Thread nD τ).loc main_arg0)) (ix4 b h n d) := by
  blk_point [iblk, V, idx t]

/-- The chunk a trip reads. -/
theorem trip_val : ∀ k : Fin k0_t1_loop.trips, (Scalar.indexCast (Scf.iv 0#32 1#32 k.val)).toNat = k.val := by decide +kernel

/-- The latent keys a grid point reads. -/
theorem lkeys_apply (c : Dev nD) (t : Fin cfg0.N) (k : Fin 16) (j : Fin 512) (d : Fin 256) (b h : Fin 8)
    (hb : t.val / 64 = b.val) (hh : t.val / 8 % 8 = h.val) :
    (iblk m c 1 t) (ix5 0 0 k j d) = (show FVec Ideal S8x8x8192x256 .bf16 from m ((c : Thread nD τ).loc main_arg1)) (ix4 b h ⟨512 * k.val + j.val, by omega⟩ d) := by
  blk_point [iblk, V, idx t]

/-- The keys of a trip. -/
theorem keys_apply (c : Dev nD) (t : Fin cfg0.N) (k : Fin k0_t1_loop.trips) (j : Fin 512) (d : Fin 256) (b h : Fin 8)
    (hb : t.val / 64 = b.val) (hh : t.val / 8 % 8 = h.val) :
    keys m c t k (ix5 0 0 0 j d) = key (m ((c : Thread nD τ).loc main_arg1)) (m ((c : Thread nD τ).loc main_arg3)) b h (512 * k.val + j.val) d := by
  have hk : k.val < 16 := lt_of_lt_of_le k.isLt k0_t1_abs.2.1
  have h1 : 512 * k.val + j.val < 8192 := by have := j.isLt; omega
  unfold key keys
  rw [dif_pos h1]
  refine Eq.trans ?_ (lkeys_apply m c t ⟨k.val, hk⟩ j d b h hb hh)
  refine congrArg (iblk m c 1 t) ?_
  have hv := trip_val k
  blk_ext [k0_off1]
  · show (Scalar.indexCast (Scf.iv 0#32 1#32 k.val)).toNat + _ = k.val
    simp [hv]
  · show 0 + 1 * j.val = j.val
    omega
  · show 0 + 1 * d.val = d.val
    omega

/-- The values of a trip. -/
theorem vals_apply (c : Dev nD) (t : Fin cfg0.N) (k : Fin k0_t1_loop.trips) (j : Fin 512) (d : Fin 128) (b h : Fin 8)
    (hb : t.val / 64 = b.val) (hh : t.val / 8 % 8 = h.val) :
    vals m c t k (ix5 0 0 0 d j) = val (m ((c : Thread nD τ).loc main_arg2)) (m ((c : Thread nD τ).loc main_arg4)) b h d (512 * k.val + j.val) := by
  have hk : k.val < 16 := lt_of_lt_of_le k.isLt k0_t1_abs.2.1
  have h1 : 512 * k.val + j.val < 8192 := by have := j.isLt; omega
  have hv := trip_val k
  unfold val vals
  rw [dif_pos h1]
  blk_point [iblk, V, idx t, k0_off2]
  all_goals (try rw [hv]; omega)

/-- The context keys a grid point reads. -/
theorem ckeys_apply (c : Dev nD) (t : Fin cfg0.N) (j : Fin 256) (d : Fin 256) (b h : Fin 8)
    (hb : t.val / 64 = b.val) (hh : t.val / 8 % 8 = h.val) :
    ckeys m c t (ix5 0 0 0 j d) = key (m ((c : Thread nD τ).loc main_arg1)) (m ((c : Thread nD τ).loc main_arg3)) b h (8192 + j.val) d := by
  have h1 : ¬ 8192 + j.val < 8192 := by omega
  have h2 : 8192 + j.val - 8192 < 256 := by have := j.isLt; omega
  unfold key ckeys
  rw [dif_neg h1, dif_pos h2]
  blk_point [iblk, V, idx t]

/-- The context values a grid point reads. -/
theorem cvals_apply (c : Dev nD) (t : Fin cfg0.N) (j : Fin 256) (d : Fin 128) (b h : Fin 8)
    (hb : t.val / 64 = b.val) (hh : t.val / 8 % 8 = h.val) :
    cvals m c t (ix5 0 0 0 d j) = val (m ((c : Thread nD τ).loc main_arg2)) (m ((c : Thread nD τ).loc main_arg4)) b h d (8192 + j.val) := by
  have h1 : ¬ 8192 + j.val < 8192 := by omega
  have h2 : 8192 + j.val - 8192 < 256 := by have := j.isLt; omega
  unfold val cvals
  rw [dif_neg h1, dif_pos h2]
  blk_point [iblk, V, idx t]

end Cert.AttnIdeal.Step
-- ==== Proof.AttnKernel.lean ====
module

public import proofs.«01_k».proof.Proof.AttnBlocks
public import Idealize.ShloMosaic.Lib.Pipeline.Covers

@[expose] public section

set_option maxRecDepth 16384

noncomputable section

/-! The array the attention kernel leaves: the online softmax is the softmax. -/

namespace Cert.AttnIdeal.Step

open Cert.AttnIdeal Cert.AttnIdeal.Gen Idealize.ShloMosaic Idealize.ShloMosaic.TcCoe Idealize.SL.Sem

variable (m : (ℓ : Loc nD τ sig) → Buf (Elt Ideal) ℓ)

/-- The queries of the launch. -/
abbrev qA (c : Dev nD) : FVec Ideal S8x8x8192x256 .f32 := m ((c : Thread nD τ).loc main_arg0)
/-- The latent keys of the launch. -/
abbrev klA (c : Dev nD) : FVec Ideal S8x8x8192x256 .bf16 := m ((c : Thread nD τ).loc main_arg1)
/-- The latent values of the launch. -/
abbrev vlA (c : Dev nD) : FVec Ideal S8x8x16x128x512 .bf16 := m ((c : Thread nD τ).loc main_arg2)
/-- The context keys of the launch. -/
abbrev kcA (c : Dev nD) : FVec Ideal S8x8x256x256 .bf16 := m ((c : Thread nD τ).loc main_arg3)
/-- The context values of the launch. -/
abbrev vcA (c : Dev nD) : FVec Ideal S8x8x1x128x256 .bf16 := m ((c : Thread nD τ).loc main_arg4)

section
variable (c : Dev nD) (t : Fin cfg0.N) (r : Fin 1024) (b h : Fin 8) (n : Fin 8192)
  (hb : t.val / 64 = b.val) (hh : t.val / 8 % 8 = h.val) (hn : t.val % 8 * 1024 + r.val = n.val)
  (H : Finite (qA m c) (klA m c) (kcA m c))

include hb hh hn H in
/-- A key against the scaled query is the real score in the base of two. -/
theorem dot_score (k : Fin 256 → EReal) (N : ℕ) (hk : ∀ d, k d = key (klA m c) (kcA m c) b h N d) :
    ∑ d : Fin 256, k d * k0_pay8 (F := Ideal) (iblk m c 0 t) (ix2 d r) = (score2 (qA m c) (klA m c) (kcA m c) b h n N : EReal) := by
  rw [← H.score2]
  refine Finset.sum_congr rfl fun d _ => ?_
  rw [hk, pay8_apply, query_apply m c t r d b h n hb hh hn]

include hb hh hn H in
/-- Before every trip the running quantities hold the softmax's parts over the keys seen, under a real reference exponent. -/
theorem inv (N : ℕ) (hN : N ≤ 16) : ∃ μ : ℝ, mx m c t N (ix2 0 r) = (μ : EReal)
    ∧ den m c t N (ix2 0 r) = AttnAlgebra.part (score2 (qA m c) (klA m c) (kcA m c) b h n) (fun _ => 1) (512 * N) μ
    ∧ ∀ d : Fin 128, num m c t N (ix2 d r) = AttnAlgebra.part (score2 (qA m c) (klA m c) (kcA m c) b h n) (val (vlA m c) (vcA m c) b h d) (512 * N) μ := by
  induction N with
  | zero =>
    obtain ⟨s, hs⟩ := ofBits_start
    refine ⟨s, ?_, ?_, fun d => ?_⟩
    · rw [mx_zero, ← hs]
      pointwise [k0_pay9]
    · rw [den_zero]
      unfold AttnAlgebra.part
      pointwise [k0_pay10]
      simp
    · rw [num_zero]
      unfold AttnAlgebra.part
      pointwise [k0_pay11]
      simp
  | succ N ih =>
    obtain ⟨μ, h1, h2, h3⟩ := ih (by omega)
    have ht : N < k0_t1_loop.trips := lt_of_lt_of_eq (show N < 16 by omega) (by decide : 16 = k0_t1_loop.trips)
    have hs : ∀ j : Fin 512, ∑ d : Fin 256, keys m c t ⟨N, ht⟩ (ix5 0 0 0 j d) * k0_pay8 (F := Ideal) (iblk m c 0 t) (ix2 d r)
        = (score2 (qA m c) (klA m c) (kcA m c) b h n (512 * N + j.val) : EReal) :=
      fun j => dot_score m c t r b h n hb hh hn H _ _ fun d => keys_apply m c t ⟨N, ht⟩ j d b h hb hh
    obtain ⟨μ', hμ⟩ := AttnAlgebra.max_fold Finset.univ (fun j : Fin 512 => score2 (qA m c) (klA m c) (kcA m c) b h n (512 * N + j.val)) μ
    have e3 : k0_pay3 (F := Ideal) (k0_pay8 (F := Ideal) (iblk m c 0 t)) (keys m c t ⟨N, ht⟩) (mx m c t N) (ix2 0 r) = (μ' : EReal) := by
      rw [pay3_apply, h1, ← hμ]
      simp only [hs]
    have hstep : 512 * (N + 1) = 512 * N + 512 := by ring
    refine ⟨μ', ?_, ?_, fun d => ?_⟩
    · rw [mx_succ m c t ⟨N, ht⟩, pay12_apply]
      exact e3
    · rw [den_succ m c t ⟨N, ht⟩, pay6_apply, hstep, ← AttnAlgebra.part_step _ _ _ _ μ μ']
      show Ideal.exp2 (mx m c t N (ix2 0 r) - _) * den m c t N (ix2 0 r) + _ = _
      rw [e3, h1, h2]
      simp only [hs, one_mul]
    · rw [num_succ m c t ⟨N, ht⟩, pay7_apply, hstep, ← AttnAlgebra.part_step _ _ _ _ μ μ']
      show Ideal.exp2 (mx m c t N (ix2 0 r) - _) * num m c t N (ix2 d r) + _ = _
      rw [e3, h1, h3]
      simp only [hs]
      congr 1
      refine Finset.sum_congr rfl fun j _ => ?_
      rw [vals_apply m c t ⟨N, ht⟩ j d b h hb hh]

include hb hh hn H in
/-- The block written at a point, at coordinates. -/
theorem out_apply (z : Fin 1) (d : Fin 128) :
    (dats m 0 c).after 5 t (ix3 z r d) = headAt (qA m c) (klA m c) (vlA m c) (kcA m c) (vcA m c) b h n d := by
  obtain ⟨μ, h1, h2, h3⟩ := inv m c t r b h n hb hh hn H 16 le_rfl
  have hs : ∀ j : Fin 256, ∑ d : Fin 256, ckeys m c t (ix5 0 0 0 j d) * k0_pay8 (F := Ideal) (iblk m c 0 t) (ix2 d r)
      = (score2 (qA m c) (klA m c) (kcA m c) b h n (8192 + j.val) : EReal) :=
    fun j => dot_score m c t r b h n hb hh hn H _ _ fun d => ckeys_apply m c t j d b h hb hh
  obtain ⟨μ', hμ⟩ := AttnAlgebra.max_fold Finset.univ (fun j : Fin 256 => score2 (qA m c) (klA m c) (kcA m c) b h n (8192 + j.val)) μ
  have e3 : k0_pay16 (F := Ideal) (k0_pay8 (F := Ideal) (iblk m c 0 t)) (k0_pay13 (F := Ideal) (ckeys m c t)) (mx m c t 16) (ix2 0 r) = (μ' : EReal) := by
    rw [pay16_apply, h1, ← hμ]
    simp only [hs]
  rw [out, pay1_apply, pay20_apply, pay19_apply, e3, h1, h2, h3]
  simp only [hs, cvals_apply m c t _ _ b h hb hh]
  have p1 := AttnAlgebra.part_step (score2 (qA m c) (klA m c) (kcA m c) b h n) (fun _ => 1) 8192 256 μ μ'
  simp only [one_mul] at p1
  have p2 := AttnAlgebra.part_step (score2 (qA m c) (klA m c) (kcA m c) b h n) (val (vlA m c) (vcA m c) b h d) 8192 256 μ μ'
  refine (congrArg₂ (fun x y : EReal => x * Ideal.div 1 y) p2 p1).trans ?_
  exact AttnAlgebra.softmax _ _ _ _ (by norm_num) μ' 0 (score2_log (qA m c) (klA m c) (kcA m c) b h n)

end

/-- The blocks written back tile the result. -/
theorem covers : (cfg0.win 5).Covers := by
  refine (cfg0.win 5).covers_of_indexMap_surj rfl (by decide) fun β => ?_
  have h0 : (β ⟨0, by decide⟩).val < 8 := lt_of_lt_of_eq (β ⟨0, by decide⟩).isLt (by decide : (cfg0.win 5).nblk ⟨0, by decide⟩ = 8)
  have h1 : (β ⟨1, by decide⟩).val < 8 := lt_of_lt_of_eq (β ⟨1, by decide⟩).isLt (by decide : (cfg0.win 5).nblk ⟨1, by decide⟩ = 8)
  have h2 : (β ⟨2, by decide⟩).val < 8 := lt_of_lt_of_eq (β ⟨2, by decide⟩).isLt (by decide : (cfg0.win 5).nblk ⟨2, by decide⟩ = 8)
  refine ⟨fun a => match a with
      | ⟨0, _⟩ => (⟨(β ⟨0, by decide⟩).val, h0⟩ : Fin 8)
      | ⟨1, _⟩ => (⟨(β ⟨2, by decide⟩).val, h2⟩ : Fin 8)
      | ⟨2, _⟩ => (⟨(β ⟨1, by decide⟩).val, h1⟩ : Fin 8), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show (BitVec.ofNat 32 (β ⟨2, by decide⟩).val).toNat = (β ⟨2, by decide⟩).val
    rw [BitVec.toNat_ofNat]; exact Nat.mod_eq_of_lt (by omega)

/-- The result array after the run. -/
theorem final (c : Dev nD) (H : Finite (qA m c) (klA m c) (kcA m c)) :
    (dats m 0 c).arrAt 5 cfg0.N = attn (qA m c) (klA m c) (vlA m c) (kcA m c) (vcA m c) := by
  refine (dats m 0 c).arrAt_eq_of_covers 5 _ covers fun t hf y => ?_
  have hN : t.val < 512 := lt_of_lt_of_eq t.isLt (show cfg0.N = 512 from N_0)
  blk_simp
  idx_vars y
  have hb : t.val / 64 < 8 := by omega
  have hh : t.val / 8 % 8 < 8 := by omega
  have hn : t.val % 8 * 1024 + y1.val < 8192 := by have := y1.isLt; omega
  have hj : t.val / 8 % 8 * 128 + y2.val < 1024 := by have := y2.isLt; omega
  rw [out_apply m c t y1 ⟨_, hb⟩ ⟨_, hh⟩ ⟨_, hn⟩ rfl rfl rfl H y0 y2]
  have he : ((View.whole main_v2).slice (win0_5.rect t)).emb (ix3 y0 y1 y2) = (ix3 ⟨t.val / 64, hb⟩ ⟨_, hn⟩ ⟨_, hj⟩ : S8x8192x1024.Idx) := by
    blk_ext [idx t]
  rw [he]
  have hd : (⟨t.val / 8 % 8, hh⟩ : Fin 8) = ⟨(t.val / 8 % 8 * 128 + y2.val) / 128, by omega⟩ := Fin.ext (by have := y2.isLt; show t.val / 8 % 8 = (t.val / 8 % 8 * 128 + y2.val) / 128; omega)
  have hm : y2 = ⟨(t.val / 8 % 8 * 128 + y2.val) % 128, by omega⟩ := Fin.ext (by have := y2.isLt; show y2.val = (t.val / 8 % 8 * 128 + y2.val) % 128; omega)
  show _ = headAt _ _ _ _ _ ⟨t.val / 64, hb⟩ ⟨(t.val / 8 % 8 * 128 + y2.val) / 128, by omega⟩ ⟨_, hn⟩ ⟨(t.val / 8 % 8 * 128 + y2.val) % 128, by omega⟩
  rw [← hd, ← hm]

end Cert.AttnIdeal.Step
-- ==== Proof.AttnClaim.lean ====
module

public import proofs.«01_k».proof.Proof.AttnPre
public import proofs.«01_k».proof.Proof.AttnRef
public import proofs.«01_k».proof.Proof.AttnKernel
public import Idealize.ShloMosaic.Lib.Claim
public import Idealize.ShloMosaic.Lib.Quiescent

@[expose] public section

set_option maxRecDepth 16384

noncomputable section

/-! The claim about the attention: kernel and reference leave the same array. -/

namespace Cert.AttnRefIdeal

open Cert.AttnRefIdeal.Gen Idealize.ShloMosaic Idealize.ShloMosaic.TcCoe Idealize.SL.Sem Idealize.ShloMosaic.StableHlo

/-- The reference's run: its result is its operations' composed value over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (Value.run (F := Ideal) m ρ).mono fun r h c => ⟨(h c).1.trans (Read.val_main_v26_eq _ _ _ _ _), (h c).2⟩

end Cert.AttnRefIdeal

namespace Cert.AttnClaim

open Idealize.ShloMosaic Idealize.ShloMosaic.TcCoe Idealize.SL.Sem

set_option maxHeartbeats 1600000 in
/-- Over exact arithmetic the attention kernel and its reference, run on the same arguments whose queries and keys are
    finite, end with the same result. -/
theorem algebraic : Cert.algebraic_AttnIdeal_AttnRefIdeal_pre_finite_qk := by
  pair_intro
  · run_from Cert.AttnIdeal.Gen.run_main m g
  · run_from Cert.AttnRefIdeal.run m' g'
    have hp := Cert.AttnPre.finite _ _ _ _ _ (hpre c)
    rw [Cert.AttnIdeal.Step.final m c hp]
    funext i
    rw [eq_ix3 i]
    exact Cert.AttnRefIdeal.Value.ref_apply _ _ _ _ _ hp _ _ _

end Cert.AttnClaim
-- ==== Proof.MoePre.lean ====
module

public import proofs.«01_k».proof.Defs
public import proofs.«01_k».proof.Proof.Gen.Pre_gates
public import proofs.«01_k».proof.Proof.Gen.MoeIdeal
public import Idealize.ShloMosaic.Lib.ReduceAll
public import Idealize.ShloMosaic.Lib.Pointwise

@[expose] public section

set_option maxRecDepth 16384

noncomputable section

/-! The precondition of the expert feed-forward, in words: the weights of the eight experts are non-negative and finite. -/

namespace Cert.MoePre

open Cert.Pre_gates Idealize.ShloMosaic Idealize.ShloMosaic.TcCoe Idealize.SL.Sem

instance : Subsingleton S_.Idx := ⟨fun a b => funext fun i => i.elim0⟩

/-- The pattern of positive infinity. -/
theorem ofBits_inf : Ideal.ofBits .f32 0x7F800000#32 = ⊤ := by simp [Ideal.ofBits, Ideal.ieee]

/-- The predicate read at each weight. -/
theorem fn_iff (x0 : FVec Ideal S8x8192x1024 .bf16) (x1 : FVec Ideal S8x8192x128 .f32) (x2 : FVec Ideal S8x8192x1024 .f32)
    (x3 : FVec Ideal S8x1x1024 .f32) (x4 x5 : FVec Ideal S8x1024x3584 .f32) (x6 : FVec Ideal S8x3584x1024 .f32)
    (h : Cert.Pre_gates.fn (F := Ideal) x0 x1 x2 x3 x4 x5 x6 = fun _ => 1#1) (b : Fin 8) (n : Fin 8192) (e : Fin 8) :
    0 ≤ x1 (ix3 b n ⟨e.val, by omega⟩) ∧ x1 (ix3 b n ⟨e.val, by omega⟩) ≠ ⊤ := by
  have h' := congrFun h (fun i => i.elim0)
  obtain ⟨ha, hb⟩ := IntOp.andi_eq_one.1 h'
  have a := Host.reduce_andi_all _ _ _ _ _ ha (ix3 b n e)
  have a2 := Host.reduce_andi_all _ _ _ _ _ hb (ix3 b n e)
  pointwise at a
  pointwise at a2
  rw [ofBits_inf] at a2
  have of1 : ∀ p : Bool, BitVec.ofBool p = 1#1 → p = true := by decide
  exact ⟨of_decide_eq_true (of1 _ a), ne_of_lt (of_decide_eq_true (of1 _ a2))⟩

end Cert.MoePre
-- ==== Proof.MoeStep.lean ====
module

public import proofs.«01_k».proof.Proof.Gen.MoeIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! One grid point of the expert feed-forward: what it adds to the running sum, and what the last point of a token
block stores. -/

namespace Cert.MoeIdeal.Step

open Cert.MoeIdeal Cert.MoeIdeal.Gen Idealize.ShloMosaic Idealize.ShloMosaic.TcCoe Idealize.SL.Sem

variable (m : (ℓ : Loc nD τ sig) → Buf (Elt Ideal) ℓ)

/-- The weight a grid point gives its expert, of the rows of its block: the lane of the weights the point's third
    coordinate names. -/
abbrev cw (c : Dev nD) (t : Fin cfg0.N) : FVec Ideal S512x1 .f32 := k0_pay5 (grid0.coords t) (iblk m c 1 t)

/-- The gated hidden activation of a grid point's chunk. -/
abbrev act (c : Dev nD) (t : Fin cfg0.N) : FVec Ideal S512x896 .bf16 := k0_pay4 (iblk m c 0 t) (iblk m c 4 t) (iblk m c 5 t)

/-- What a grid point adds to the running sum: the expert's weight times its chunk of the second projection. -/
def term (c : Dev nD) (t : Fin cfg0.N) (y : S512x1024.Idx) : EReal :=
  cw m c t (ix2 (y 0) 0) * ∑ k : Fin 896, act m c t (ix2 (y 0) k) * (show FVec Ideal S1x896x1024 .bf16 from iblk m c 6 t) (ix3 0 k (y 1))

/-- The stored update is the old running sum plus the weighted product. -/
theorem pay1_apply (a : FVec Ideal S512x896 .bf16) (w : FVec Ideal S512x1 .f32) (v : FVec Ideal S512x1024 .f32)
    (b : FVec Ideal S1x896x1024 .bf16) (y : S512x1024.Idx) :
    k0_pay1 (F := Ideal) a w v b y = v y + w (ix2 (y 0) 0) * ∑ k : Fin 896, a (ix2 (y 0) k) * b (ix3 0 k (y 1)) := by
  idx_vars y
  pointwise [k0_pay1]

/-- The first point of a run starts from zero. -/
theorem first (c : Dev nD) (t : Fin cfg0.N) (h0 : t.val % 32 = 0) (y : S512x1024.Idx) :
    (outsAt0 m c t.val t.isLt).2 y = 0 + term m c t y := by
  rw [outsAt0_A m c t h0 (by omega)]
  frame_out
  refine (pay1_apply _ _ _ _ y).trans ?_
  have hz : k0_pay3 (F := Ideal) y = 0 := by pointwise [k0_pay3]
  rw [hz]
  rfl

/-- A later point adds its term. -/
theorem step (c : Dev nD) (t : Fin cfg0.N) (h0 : ¬t.val % 32 = 0) (y : S512x1024.Idx) :
    (outsAt0 m c t.val t.isLt).2 y
      = (outsAt0 m c (t.val - 1) (Nat.lt_of_le_of_lt (Nat.sub_le _ _) t.isLt)).2 y + term m c t y := by
  by_cases h1 : t.val % 32 = 31
  · rw [outsAt0_C m c t h0 h1]
    frame_out
    simp only [read_unread_whole]
    exact pay1_apply _ _ _ _ y
  · rw [outsAt0_B m c t h0 h1]
    frame_out
    simp only [read_unread_whole]
    exact pay1_apply _ _ _ _ y

/-- The last point of a run stores the residual plus the gate times the running sum. -/
theorem last (c : Dev nD) (t : Fin cfg0.N) (h1 : t.val % 32 = 31) :
    (outsAt0 m c t.val t.isLt).1 = k0_pay2 (iblk m c 2 t) (iblk m c 3 t) (outsAt0 m c t.val t.isLt).2 := by
  rw [outsAt0_C m c t (by omega) h1]
  frame_out

end Cert.MoeIdeal.Step
-- ==== Proof.MoeIdx.lean ====
module

public import proofs.«01_k».proof.Proof.MoeStep

@[expose] public section

set_option maxRecDepth 16384

noncomputable section

/-! The blocks the grid points of the expert feed-forward read and write, in closed form. -/

namespace Cert.MoeIdeal.Step

open Cert.MoeIdeal Cert.MoeIdeal.Gen Idealize.ShloMosaic Idealize.ShloMosaic.TcCoe Idealize.SL.Sem

/-- Which block of each array a grid point reads or writes. -/
theorem idx : ∀ t : Fin cfg0.N, win0_0.index t = ![t.val / 512, t.val / 32 % 16, 0] ∧ win0_1.index t = ![t.val / 512, t.val / 32 % 16, 0]
    ∧ win0_2.index t = ![t.val / 512, t.val / 32 % 16, 0] ∧ win0_3.index t = ![t.val / 512, 0, 0]
    ∧ win0_4.index t = ![t.val / 4 % 8, 0, t.val % 4] ∧ win0_5.index t = ![t.val / 4 % 8, 0, t.val % 4]
    ∧ win0_6.index t = ![t.val / 4 % 8, t.val % 4, 0] ∧ win0_7.index t = ![t.val / 512, t.val / 32 % 16, 0] :=
  (by decide +kernel : ∀ t : Fin grid0.N, _)

/-- The expert a grid point works on. -/
theorem coord2 : ∀ t : Fin cfg0.N, (grid0.coords t 2).val = t.val / 4 % 8 :=
  (by decide +kernel : ∀ t : Fin grid0.N, _)

end Cert.MoeIdeal.Step
-- ==== Proof.MoeTerm.lean ====
module

public import proofs.«01_k».proof.Proof.MoeStep
public import proofs.«01_k».proof.Proof.MoeIdx

@[expose] public section

set_option maxRecDepth 16384

noncomputable section

/-! A grid point's term of the expert feed-forward, read at the arguments' own coordinates. -/

namespace Cert.MoeIdeal.Step

open Cert.MoeIdeal Cert.MoeIdeal.Gen Idealize.ShloMosaic Idealize.ShloMosaic.TcCoe Idealize.SL.Sem

variable (m : (ℓ : Loc nD τ sig) → Buf (Elt Ideal) ℓ)

/-- One coordinate of a hidden projection of a token by an expert. -/
def pre (h : FVec Ideal S8x8192x1024 .bf16) (w : FVec Ideal S8x1024x3584 .f32) (b : Fin 8) (n : Fin 8192) (e : Fin 8) (f : Fin 3584) : EReal :=
  ∑ d : Fin 1024, h (ix3 b n d) * w (ix3 e d f)

/-- One coordinate of the gated hidden activation of a token by an expert. -/
def hid (h : FVec Ideal S8x8192x1024 .bf16) (w1 w3 : FVec Ideal S8x1024x3584 .f32) (b : Fin 8) (n : Fin 8192) (e : Fin 8) (f : Fin 3584) : EReal :=
  pre h w1 b n e f * Ideal.logistic (pre h w1 b n e f) * pre h w3 b n e f

/-- The weight payload picks the lane its coordinate names. -/
theorem pay5_apply (i : grid0.Coords) (v : FVec Ideal S1x512x128 .f32) (r : Fin 512) (e : Fin 128) (he : (i 2).val = e.val) :
    k0_pay5 (F := Ideal) i v (ix2 r 0) = v (ix3 0 r e) := by
  pointwise [k0_pay5]
  rw [he]
  rw [Finset.sum_eq_single e]
  · simp [Scalar.select, IntOp.cmpi]
  · intro x _ hx
    have h1 : BitVec.ofNat 32 x.val ≠ BitVec.ofNat 32 e.val := by
      intro h
      have := congrArg BitVec.toNat h
      simp only [BitVec.toNat_ofNat] at this
      have := x.isLt
      have := e.isLt
      exact hx (Fin.ext (by omega))
    simp [Scalar.select, IntOp.cmpi, beq_eq_false_iff_ne.mpr h1]
  · simp

/-- The activation payload at an index. -/
theorem pay4_apply (h : FVec Ideal S1x512x1024 .bf16) (w1 w3 : FVec Ideal S1x1024x896 .bf16) (r : Fin 512) (k : Fin 896) :
    k0_pay4 (F := Ideal) h w1 w3 (ix2 r k)
      = (∑ x : Fin 1024, h (ix3 0 r x) * w1 (ix3 0 x k)) * Ideal.logistic (∑ x : Fin 1024, h (ix3 0 r x) * w1 (ix3 0 x k))
        * ∑ x : Fin 1024, h (ix3 0 r x) * w3 (ix3 0 x k) := by
  pointwise [k0_pay4]

/-- The output payload at an index. -/
theorem pay2_apply (x : FVec Ideal S1x512x1024 .f32) (g : FVec Ideal S1x1x1024 .f32) (a : FVec Ideal S512x1024 .f32) (z : Fin 1) (r : Fin 512) (k : Fin 1024) :
    k0_pay2 (F := Ideal) x g a (ix3 z r k) = x (ix3 z r k) + g (ix3 0 0 k) * a (ix2 r k) := by
  obtain rfl : z = 0 := Subsingleton.elim _ _
  pointwise [k0_pay2]

/-- A grid point's term at the arguments' coordinates: the weight of its expert times the chunk of 896 hidden
    coordinates the point contracts. -/
theorem term_apply (c : Dev nD) (t : Fin cfg0.N) (r : Fin 512) (j : Fin 1024) (b : Fin 8) (n : Fin 8192) (e : Fin 8) (q : Fin 4)
    (hb : t.val / 512 = b.val) (hn : t.val / 32 % 16 * 512 + r.val = n.val) (he : t.val / 4 % 8 = e.val) (hq : t.val % 4 = q.val) :
    term m c t (ix2 r j)
      = (show FVec Ideal S8x8192x128 .f32 from m ((c : Thread nD τ).loc main_arg1)) (ix3 b n ⟨e.val, by omega⟩)
        * ∑ k : Fin 896, hid (m ((c : Thread nD τ).loc main_arg0)) (m ((c : Thread nD τ).loc main_arg4)) (m ((c : Thread nD τ).loc main_arg5)) b n e ⟨896 * q.val + k.val, by omega⟩
          * (show FVec Ideal S8x3584x1024 .f32 from m ((c : Thread nD τ).loc main_arg6)) (ix3 e ⟨896 * q.val + k.val, by omega⟩ j) := by
  unfold term cw act
  rw [show ((ix2 r j : S512x1024.Idx) 0) = r from rfl, show ((ix2 r j : S512x1024.Idx) 1) = j from rfl]
  rw [pay5_apply _ _ r ⟨e.val, by omega⟩ ((coord2 t).trans he)]
  simp only [pay4_apply, hid, pre]
  blk_point [iblk, V, idx t]

end Cert.MoeIdeal.Step
-- ==== Proof.MoeKernel.lean ====
module

public import proofs.«01_k».proof.Proof.MoeTerm
public import proofs.«01_k».proof.Proof.MoeAlgebra
public import Idealize.ShloMosaic.Lib.Pipeline.Covers

@[expose] public section

set_option maxRecDepth 16384

noncomputable section

/-! The array the expert feed-forward leaves, at every coordinate. -/

namespace Cert.MoeIdeal.Step

open Cert.MoeIdeal Cert.MoeIdeal.Gen Idealize.ShloMosaic Idealize.ShloMosaic.TcCoe Idealize.SL.Sem

variable (m : (ℓ : Loc nD τ sig) → Buf (Elt Ideal) ℓ)

/-- The expert feed-forward at coordinates: the residual plus the gate times the weighted sum over the experts of their
    second projection. -/
def moeAt (h : FVec Ideal S8x8192x1024 .bf16) (cb : FVec Ideal S8x8192x128 .f32) (x1 : FVec Ideal S8x8192x1024 .f32)
    (g : FVec Ideal S8x1x1024 .f32) (w1 w3 : FVec Ideal S8x1024x3584 .f32) (w2 : FVec Ideal S8x3584x1024 .f32)
    (b : Fin 8) (n : Fin 8192) (j : Fin 1024) : EReal :=
  x1 (ix3 b n j) + g (ix3 b 0 j) * ∑ e : Fin 8, cb (ix3 b n ⟨e.val, by omega⟩) * ∑ f : Fin 3584, hid h w1 w3 b n e f * w2 (ix3 e f j)

/-- The same as an array. -/
def moe (h : FVec Ideal S8x8192x1024 .bf16) (cb : FVec Ideal S8x8192x128 .f32) (x1 : FVec Ideal S8x8192x1024 .f32)
    (g : FVec Ideal S8x1x1024 .f32) (w1 w3 : FVec Ideal S8x1024x3584 .f32) (w2 : FVec Ideal S8x3584x1024 .f32) : FVec Ideal S8x8192x1024 .f32 :=
  fun i => moeAt h cb x1 g w1 w3 w2 (i 0) (i 1) (i 2)

/-- The running sum at the last point of a token block is the weighted sum over all experts. -/
theorem acc_last (c : Dev nD) (t : Fin cfg0.N) (h1 : t.val % 32 = 31) (r : Fin 512) (j : Fin 1024) (b : Fin 8) (n : Fin 8192)
    (hb : t.val / 512 = b.val) (hn : t.val / 32 % 16 * 512 + r.val = n.val)
    (h0 : ∀ (b : Fin 8) (n : Fin 8192) (e : Fin 8), 0 ≤ (show FVec Ideal S8x8192x128 .f32 from m ((c : Thread nD τ).loc main_arg1)) (ix3 b n ⟨e.val, by omega⟩))
    (ht : ∀ (b : Fin 8) (n : Fin 8192) (e : Fin 8), (show FVec Ideal S8x8192x128 .f32 from m ((c : Thread nD τ).loc main_arg1)) (ix3 b n ⟨e.val, by omega⟩) ≠ ⊤) :
    (outsAt0 m c t.val t.isLt).2 (ix2 r j)
      = ∑ e : Fin 8, (show FVec Ideal S8x8192x128 .f32 from m ((c : Thread nD τ).loc main_arg1)) (ix3 b n ⟨e.val, by omega⟩)
        * ∑ f : Fin 3584, hid (m ((c : Thread nD τ).loc main_arg0)) (m ((c : Thread nD τ).loc main_arg4)) (m ((c : Thread nD τ).loc main_arg5)) b n e f
          * (show FVec Ideal S8x3584x1024 .f32 from m ((c : Thread nD τ).loc main_arg6)) (ix3 e f j) := by
  have hN : t.val < 4096 := lt_of_lt_of_eq t.isLt (show cfg0.N = 4096 from N_0)
  have hs := Pipeline.eq_sum_fin_of_reset_step_apply_of_flush (M := EReal) (fun n h => (outsAt0 m c n h).2) 32 (fun _ => 0) (term m c)
    (first m c) (step m c) t h1 (ix2 r j)
  refine hs.trans ?_
  rw [zero_add]
  refine Eq.trans ?_ (MoeAlgebra.chunks
    (fun e => (show FVec Ideal S8x8192x128 .f32 from m ((c : Thread nD τ).loc main_arg1)) (ix3 b n ⟨e.val, by omega⟩))
    (fun e f => hid (m ((c : Thread nD τ).loc main_arg0)) (m ((c : Thread nD τ).loc main_arg4)) (m ((c : Thread nD τ).loc main_arg5)) b n e f
          * (show FVec Ideal S8x3584x1024 .f32 from m ((c : Thread nD τ).loc main_arg6)) (ix3 e f j))
    (h0 b n) (ht b n))
  refine Finset.sum_congr rfl fun s _ => ?_
  have hv : (32 * (t.val / 32) + s.val) / 512 = b.val := by omega
  exact term_apply m c _ r j b n ⟨s.val / 4, by omega⟩ ⟨s.val % 4, by omega⟩ hv
    (by show (32 * (t.val / 32) + s.val) / 32 % 16 * 512 + r.val = n.val; omega)
    (by show (32 * (t.val / 32) + s.val) / 4 % 8 = s.val / 4; omega)
    (by show (32 * (t.val / 32) + s.val) % 4 = s.val % 4; omega)

/-- The blocks written back tile the result. -/
theorem covers : (cfg0.win 7).Covers := by
  refine (cfg0.win 7).covers_of_indexMap_surj rfl (by decide) fun β => ?_
  have h0 : (β ⟨0, by decide⟩).val < 8 := lt_of_lt_of_eq (β ⟨0, by decide⟩).isLt (by decide : (cfg0.win 7).nblk ⟨0, by decide⟩ = 8)
  have h1 : (β ⟨1, by decide⟩).val < 16 := lt_of_lt_of_eq (β ⟨1, by decide⟩).isLt (by decide : (cfg0.win 7).nblk ⟨1, by decide⟩ = 16)
  have h2 : (β ⟨2, by decide⟩).val < 1 := lt_of_lt_of_eq (β ⟨2, by decide⟩).isLt (by decide : (cfg0.win 7).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16)
      | ⟨2, _⟩ => (0 : Fin 8)
      | ⟨3, _⟩ => (0 : Fin 4), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- The result array after the run. -/
theorem final (c : Dev nD)
    (h0 : ∀ (b : Fin 8) (n : Fin 8192) (e : Fin 8), 0 ≤ (show FVec Ideal S8x8192x128 .f32 from m ((c : Thread nD τ).loc main_arg1)) (ix3 b n ⟨e.val, by omega⟩))
    (ht : ∀ (b : Fin 8) (n : Fin 8192) (e : Fin 8), (show FVec Ideal S8x8192x128 .f32 from m ((c : Thread nD τ).loc main_arg1)) (ix3 b n ⟨e.val, by omega⟩) ≠ ⊤) :
    (dats m 0 c).arrAt 7 cfg0.N = moe (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ covers fun t hf y => ?_
  have h31 := (flush0_7 t).mp hf
  have hN : t.val < 4096 := lt_of_lt_of_eq t.isLt (show cfg0.N = 4096 from N_0)
  blk_simp
  rw [after0_7, last m c t h31]
  idx_vars y
  refine (pay2_apply _ _ _ _ _ _).trans ?_
  have hb : t.val / 512 < 8 := by omega
  have hn : t.val / 32 % 16 * 512 + y1.val < 8192 := by have := y1.isLt; omega
  rw [acc_last m c t h31 y1 y2 ⟨t.val / 512, hb⟩ ⟨_, hn⟩ rfl rfl h0 ht]
  have he : ((View.whole main_v3).slice (win0_7.rect t)).emb (ix3 y0 y1 y2) = (ix3 ⟨t.val / 512, hb⟩ ⟨_, hn⟩ y2 : S8x8192x1024.Idx) := by
    blk_ext [idx t]
  rw [he]
  show _ = moeAt _ _ _ _ _ _ _ ⟨t.val / 512, hb⟩ ⟨_, hn⟩ y2
  unfold moeAt
  blk_point [iblk, V, idx t]

end Cert.MoeIdeal.Step
-- ==== Proof.MoeRef.lean ====
module

public import proofs.«01_k».proof.Proof.MoeKernel
public import proofs.«01_k».proof.Proof.Gen.MoeRefIdeal.Read
public import Idealize.ShloMosaic.Lib.Pointwise

@[expose] public section

set_option maxRecDepth 16384

noncomputable section

/-! The reference's expert feed-forward, read at every coordinate. -/

namespace Cert.MoeRefIdeal.Value

open Cert.MoeRefIdeal Cert.MoeRefIdeal.Gen Cert.MoeRefIdeal.Read Idealize.ShloMosaic Idealize.ShloMosaic.TcCoe Idealize.SL.Sem
open Idealize.ShloMosaic.StableHlo

/-- One hidden projection by one expert, as the reference writes it. -/
def proj (x0 : FVec Ideal S8x8192x1024 .bf16) (w : FVec Ideal S8x1024x3584 .f32) (e : Nat) (h : S8x1024x3584.Slices ![e, 0, 0] S1x1024x3584) :
    FVec Ideal S8x8192x3584 .f32 :=
  Host.dotGeneral dot_S8x8192x1024_S1024x3584_S8x8192x3584_2_0_01_1_n_n none (extf .f32 x0 bitsLt_bf16_f32)
    (shapeCast S1024x3584 (extractStridedSlice S1x1024x3584 ![e, 0, 0] w h) shapeCasts_S1x1024x3584_S1024x3584)

/-- The product of a projection with its logistic, as the reference writes it. -/
def silu (p : FVec Ideal S8x8192x3584 .f32) : FVec Ideal S8x8192x3584 .f32 :=
  mulf p (Host.divf (broadcastInDim S8x8192x3584 ![] bcast_S_S8x8192x3584 (constant S_ .f32 0x3F800000#32))
    (addf (broadcastInDim S8x8192x3584 ![] bcast_S_S8x8192x3584 (constant S_ .f32 0x3F800000#32)) (Host.exp (Host.negf p))))

/-- One expert's weighted output, as the reference writes it. -/
def expert (x0 : FVec Ideal S8x8192x1024 .bf16) (x1 : FVec Ideal S8x8192x128 .f32) (x4 x5 : FVec Ideal S8x1024x3584 .f32)
    (x6 : FVec Ideal S8x3584x1024 .f32) (e : Nat) (h : S8x1024x3584.Slices ![e, 0, 0] S1x1024x3584)
    (h1 : S8x8192x128.Slices ![0, 0, e] S8x8192x1) (h6 : S8x3584x1024.Slices ![e, 0, 0] S1x3584x1024) : FVec Ideal S8x8192x1024 .f32 :=
  mulf (broadcastInDim S8x8192x1024 ![0, 1, 2] bcast_S8x8192x1_S8x8192x1024_0_1_2 (extractStridedSlice S8x8192x1 ![0, 0, e] x1 h1))
    (Host.dotGeneral dot_S8x8192x3584_S3584x1024_S8x8192x1024_2_0_01_1_n_n none (mulf (silu (proj x0 x4 e h)) (proj x0 x5 e h))
      (shapeCast S3584x1024 (extractStridedSlice S1x3584x1024 ![e, 0, 0] x6 h6) shapeCasts_S1x3584x1024_S3584x1024))

/-- A projection at an index. -/
theorem proj_apply (x0 : FVec Ideal S8x8192x1024 .bf16) (w : FVec Ideal S8x1024x3584 .f32) (e : Fin 8) (h : S8x1024x3584.Slices ![e.val, 0, 0] S1x1024x3584)
    (b : Fin 8) (n : Fin 8192) (f : Fin 3584) : proj x0 w e.val h (ix3 b n f) = Cert.MoeIdeal.Step.pre x0 w b n e f := by
  unfold Cert.MoeIdeal.Step.pre
  pointwise [proj]

/-- One expert's weighted output at an index. -/
theorem expert_apply (x0 : FVec Ideal S8x8192x1024 .bf16) (x1 : FVec Ideal S8x8192x128 .f32) (x4 x5 : FVec Ideal S8x1024x3584 .f32)
    (x6 : FVec Ideal S8x3584x1024 .f32) (e : Fin 8) (h : S8x1024x3584.Slices ![e.val, 0, 0] S1x1024x3584)
    (h1 : S8x8192x128.Slices ![0, 0, e.val] S8x8192x1) (h6 : S8x3584x1024.Slices ![e.val, 0, 0] S1x3584x1024) (b : Fin 8) (n : Fin 8192) (j : Fin 1024) :
    expert x0 x1 x4 x5 x6 e.val h h1 h6 (ix3 b n j)
      = x1 (ix3 b n ⟨e.val, by omega⟩) * ∑ f : Fin 3584, Cert.MoeIdeal.Step.hid x0 x4 x5 b n e f * x6 (ix3 e f j) := by
  unfold Cert.MoeIdeal.Step.hid
  pointwise [expert, silu, proj_apply]
  rfl

/-- The reference's result at an index. -/
theorem ref_apply (x0 : FVec Ideal S8x8192x1024 .bf16) (x1 : FVec Ideal S8x8192x128 .f32) (x2 : FVec Ideal S8x8192x1024 .f32)
    (x3 : FVec Ideal S8x1x1024 .f32) (x4 x5 : FVec Ideal S8x1024x3584 .f32) (x6 : FVec Ideal S8x3584x1024 .f32) (b : Fin 8) (n : Fin 8192) (j : Fin 1024) :
    val_main_v124 (F := Ideal) x0 x1 x2 x3 x4 x5 x6 (ix3 b n j) = Cert.MoeIdeal.Step.moeAt x0 x1 x2 x3 x4 x5 x6 b n j := by
  have e0 := expert_apply x0 x1 x4 x5 x6 0 slices_S8x1024x3584_S1x1024x3584_0_0_0 slices_S8x8192x128_S8x8192x1_0_0_0 slices_S8x3584x1024_S1x3584x1024_0_0_0 b n j
  have e1 := expert_apply x0 x1 x4 x5 x6 1 slices_S8x1024x3584_S1x1024x3584_1_0_0 slices_S8x8192x128_S8x8192x1_0_0_1 slices_S8x3584x1024_S1x3584x1024_1_0_0 b n j
  have e2 := expert_apply x0 x1 x4 x5 x6 2 slices_S8x1024x3584_S1x1024x3584_2_0_0 slices_S8x8192x128_S8x8192x1_0_0_2 slices_S8x3584x1024_S1x3584x1024_2_0_0 b n j
  have e3 := expert_apply x0 x1 x4 x5 x6 3 slices_S8x1024x3584_S1x1024x3584_3_0_0 slices_S8x8192x128_S8x8192x1_0_0_3 slices_S8x3584x1024_S1x3584x1024_3_0_0 b n j
  have e4 := expert_apply x0 x1 x4 x5 x6 4 slices_S8x1024x3584_S1x1024x3584_4_0_0 slices_S8x8192x128_S8x8192x1_0_0_4 slices_S8x3584x1024_S1x3584x1024_4_0_0 b n j
  have e5 := expert_apply x0 x1 x4 x5 x6 5 slices_S8x1024x3584_S1x1024x3584_5_0_0 slices_S8x8192x128_S8x8192x1_0_0_5 slices_S8x3584x1024_S1x3584x1024_5_0_0 b n j
  have e6 := expert_apply x0 x1 x4 x5 x6 6 slices_S8x1024x3584_S1x1024x3584_6_0_0 slices_S8x8192x128_S8x8192x1_0_0_6 slices_S8x3584x1024_S1x3584x1024_6_0_0 b n j
  have e7 := expert_apply x0 x1 x4 x5 x6 7 slices_S8x1024x3584_S1x1024x3584_7_0_0 slices_S8x8192x128_S8x8192x1_0_0_7 slices_S8x3584x1024_S1x3584x1024_7_0_0 b n j
  unfold Cert.MoeIdeal.Step.moeAt
  rw [Fin.sum_univ_eight, ← e0, ← e1, ← e2, ← e3, ← e4, ← e5, ← e6, ← e7]
  pointwise [val_main_v124, val_main_v123, val_main_v122, val_main_v121, val_main_v106, val_main_v91, val_main_v76, val_main_v61, val_main_v46, val_main_v31, val_main_v16, val_main_v1, val_main_cst]
  rfl

end Cert.MoeRefIdeal.Value
-- ==== Proof.MoeClaim.lean ====
module

public import proofs.«01_k».proof.Proof.MoePre
public import proofs.«01_k».proof.Proof.MoeRef
public import Idealize.ShloMosaic.Lib.Claim
public import Idealize.ShloMosaic.Lib.Quiescent

@[expose] public section

set_option maxRecDepth 16384

noncomputable section

/-! The claim about the expert feed-forward: kernel and reference leave the same array. -/

namespace Cert.MoeRefIdeal

open Cert.MoeRefIdeal.Gen Idealize.ShloMosaic Idealize.ShloMosaic.TcCoe Idealize.SL.Sem Idealize.ShloMosaic.StableHlo

/-- The reference's run: its result is its operations' composed value over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (Value.run (F := Ideal) m ρ).mono fun r h c => ⟨(h c).1.trans (Read.val_main_v124_eq (launchContents m c)), (h c).2⟩

end Cert.MoeRefIdeal

namespace Cert.MoeClaim

open Idealize.ShloMosaic Idealize.ShloMosaic.TcCoe Idealize.SL.Sem

set_option maxHeartbeats 1600000 in
/-- Over exact arithmetic the expert feed-forward kernel and its reference, run on the same arguments whose expert
    weights are non-negative and finite, end with the same result. -/
theorem algebraic : Cert.algebraic_MoeIdeal_MoeRefIdeal_pre_gates := by
  pair_intro
  · run_from Cert.MoeIdeal.Gen.run_main m g
  · run_from Cert.MoeRefIdeal.run m' g'
    have hp := fun b n e => Cert.MoePre.fn_iff _ _ _ _ _ _ _ (hpre c) b n e
    rw [Cert.MoeIdeal.Step.final m c (fun b n e => (hp b n e).1) (fun b n e => (hp b n e).2)]
    funext i
    rw [eq_ix3 i]
    exact Cert.MoeRefIdeal.Value.ref_apply _ _ _ _ _ _ _ _ _ _

end Cert.MoeClaim
-- ==== Proof.FfnSpec.lean ====
module

public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The output projection and the dense feed-forward of one token, and the array they make. -/

namespace Cert.FfnIdeal.Step

open Cert.FfnIdeal Cert.FfnIdeal.Gen Idealize.ShloMosaic Idealize.ShloMosaic.TcCoe Idealize.SL.Sem

/-- A token's residual stream after the attention's output projection: `x` plus the gate times the projected heads. -/
def resid (x o g : Fin 1024 → EReal) (wo : Fin 1024 → Fin 1024 → EReal) (j : Fin 1024) : EReal :=
  x j + g j * ∑ k : Fin 1024, o k * wo k j

/-- A token's normalised and modulated stream: divided by the root of its mean square, times gain and scale, shifted. -/
def modulated (r g sc sh : Fin 1024 → EReal) (j : Fin 1024) : EReal :=
  r j * Ideal.rsqrt (Ideal.div (∑ k : Fin 1024, r k * r k) (Ideal.ofBits FTy.f32 1149239296#32) + Ideal.ofBits FTy.f32 897988541#32)
    * g j * (1 + sc j) + sh j

/-- A coordinate of the gated hidden activation. -/
def hidden (h : Fin 1024 → EReal) (w1 w3 : Fin 1024 → Fin 2816 → EReal) (f : Fin 2816) : EReal :=
  (∑ k : Fin 1024, h k * w1 k f) * Ideal.logistic (∑ k : Fin 1024, h k * w1 k f) * ∑ k : Fin 1024, h k * w3 k f

/-- The token's result: its residual stream plus the gate times the feed-forward of the modulated stream. -/
def token (r g sc sh g2 : Fin 1024 → EReal) (w1 w3 : Fin 1024 → Fin 2816 → EReal) (w2 : Fin 2816 → Fin 1024 → EReal) (j : Fin 1024) : EReal :=
  r j + g2 j * ∑ f : Fin 2816, hidden (modulated r g sc sh) w1 w3 f * w2 f j

/-- A sum over the hidden width is the sum over its two halves. -/
theorem halves (F : Fin 2816 → EReal) :
    ∑ f : Fin 2816, F f = (∑ k : Fin 1408, F ⟨k.val, by omega⟩) + ∑ k : Fin 1408, F ⟨1408 + k.val, by omega⟩ := by
  rw [show (∑ f : Fin 2816, F f) = ∑ f : Fin (1408 + 1408), F f from rfl, Fin.sum_univ_add]
  rfl

/-- The residual stream at the arguments' coordinates. -/
def residAt (x : FVec Ideal S8x8192x1024 .f32) (o : FVec Ideal S8x8192x1024 .bf16) (g1 : FVec Ideal S8x1x1024 .f32) (wo : FVec Ideal S1024x1024 .f32)
    (b : Fin 8) (n : Fin 8192) : Fin 1024 → EReal :=
  resid (fun j => x (ix3 b n j)) (fun k => o (ix3 b n k)) (fun j => g1 (ix3 b 0 j)) (fun k j => wo (ix2 k j))

/-- The result at the arguments' coordinates. -/
def ffnAt (x : FVec Ideal S8x8192x1024 .f32) (o : FVec Ideal S8x8192x1024 .bf16) (g1 sh sc g2 : FVec Ideal S8x1x1024 .f32) (ng : FVec Ideal S1024 .f32)
    (wo : FVec Ideal S1024x1024 .f32) (w1 w3 : FVec Ideal S1024x2816 .f32) (w2 : FVec Ideal S2816x1024 .f32) (b : Fin 8) (n : Fin 8192) (j : Fin 1024) : EReal :=
  token (residAt x o g1 wo b n) (fun j => ng (ix1 j)) (fun j => sc (ix3 b 0 j)) (fun j => sh (ix3 b 0 j)) (fun j => g2 (ix3 b 0 j))
    (fun k f => w1 (ix2 k f)) (fun k f => w3 (ix2 k f)) (fun f j => w2 (ix2 f j)) j

/-- The same as an array. -/
def ffn (x : FVec Ideal S8x8192x1024 .f32) (o : FVec Ideal S8x8192x1024 .bf16) (g1 sh sc g2 : FVec Ideal S8x1x1024 .f32) (ng : FVec Ideal S1024 .f32)
    (wo : FVec Ideal S1024x1024 .f32) (w1 w3 : FVec Ideal S1024x2816 .f32) (w2 : FVec Ideal S2816x1024 .f32) : FVec Ideal S8x8192x1024 .f32 :=
  fun i => ffnAt x o g1 sh sc g2 ng wo w1 w3 w2 (i 0) (i 1) (i 2)

end Cert.FfnIdeal.Step
-- ==== Proof.FfnBlock.lean ====
module

public import proofs.«01_k».proof.Proof.FfnSpec

@[expose] public section

set_option maxRecDepth 16384

noncomputable section

/-! One block of the output projection and feed-forward kernel, in terms of the loads' contents. -/

namespace Cert.FfnIdeal.Step

open Cert.FfnIdeal Cert.FfnIdeal.Gen Idealize.ShloMosaic Idealize.ShloMosaic.TcCoe Idealize.SL.Sem

/-- The residual payload at an index. -/
theorem pay2_apply (x : Vec Ideal S1x512x1024 .f32) (g : Vec Ideal S1x1x1024 .f32) (o : Vec Ideal S1x512x1024 .bf16) (w : Vec Ideal S1024x1024 .bf16) (r : Fin 512) (j : Fin 1024) :
    k0_pay2 (F := Ideal) x g o w (ix2 r j)
      = resid (fun j => x (ix3 0 r j)) (fun k => o (ix3 0 r k)) (fun j => g (ix3 0 0 j)) (fun k j => w (ix2 k j)) j := by
  unfold resid
  pointwise [k0_pay2]

/-- The normalised payload, shifted, at an index. -/
theorem pay4_apply (x : Vec Ideal S1x512x1024 .f32) (g : Vec Ideal S1x1x1024 .f32) (o : Vec Ideal S1x512x1024 .bf16) (w : Vec Ideal S1024x1024 .bf16)
    (ng : Vec Ideal S1x1024 .f32) (sc sh : Vec Ideal S1x1x1024 .f32) (r : Fin 512) (j : Fin 1024) :
    k0_pay4 (F := Ideal) x g o w ng sc (ix2 r j) + k0_pay3 (F := Ideal) sh (ix2 0 j)
      = modulated (fun j => k0_pay2 (F := Ideal) x g o w (ix2 r j)) (fun j => ng (ix2 0 j)) (fun j => sc (ix3 0 0 j)) (fun j => sh (ix3 0 0 j)) j := by
  unfold modulated
  pointwise [k0_pay4, k0_pay3]

/-- The body's last payload at an index, the two halves of the hidden width apart. -/
theorem pay5_apply (x : FVec Ideal S512x1024 .f32) (sh : FVec Ideal S1x1024 .f32) (h : FVec Ideal S512x1024 .f32)
    (a1 a3 : Vec Ideal S1024x1408 .bf16) (a2 : Vec Ideal S1408x1024 .bf16) (b1 b3 : Vec Ideal S1024x1408 .bf16) (b2 : Vec Ideal S1408x1024 .bf16)
    (g : Vec Ideal S1x1x1024 .f32) (r : Fin 512) (j : Fin 1024) (w1 w3 : Fin 1024 → Fin 2816 → EReal) (w2 : Fin 2816 → Fin 1024 → EReal)
    (ha1 : ∀ k f, a1 (ix2 k f) = w1 k ⟨f.val, by omega⟩) (ha3 : ∀ k f, a3 (ix2 k f) = w3 k ⟨f.val, by omega⟩) (ha2 : ∀ f k, a2 (ix2 f k) = w2 ⟨f.val, by omega⟩ k)
    (hb1 : ∀ k f, b1 (ix2 k f) = w1 k ⟨1408 + f.val, by omega⟩) (hb3 : ∀ k f, b3 (ix2 k f) = w3 k ⟨1408 + f.val, by omega⟩)
    (hb2 : ∀ f k, b2 (ix2 f k) = w2 ⟨1408 + f.val, by omega⟩ k) :
    k0_pay5 (F := Ideal) x sh h a1 a3 a2 b1 b3 b2 g (ix2 r j)
      = x (ix2 r j) + g (ix3 0 0 j) * ∑ f : Fin 2816, hidden (fun k => h (ix2 r k) + sh (ix2 0 k)) w1 w3 f * w2 f j := by
  rw [halves]
  unfold hidden
  simp only [← ha1, ← ha3, ← ha2, ← hb1, ← hb3, ← hb2]
  pointwise [k0_pay5]

/-- Two coordinates with the values of an index make that index. -/
theorem idx2 (n0 n1 : Nat) (i : (⟨2, ![n0, n1]⟩ : Shape).Idx) (a : Fin n0) (b : Fin n1) (h0 : (i 0).val = a.val) (h1 : (i 1).val = b.val) : i = ix2 a b := by
  funext k
  match k with
  | ⟨0, _⟩ => exact Fin.ext h0
  | ⟨1, _⟩ => exact Fin.ext h1

/-- The stored block at an index, from the contents of the input blocks. -/
theorem block_apply (x : Vec Ideal S1x512x1024 .f32) (o : Vec Ideal S1x512x1024 .bf16) (g1 sh sc g2 : Vec Ideal S1x1x1024 .f32) (ng : Vec Ideal S1x1024 .f32)
    (wo : Vec Ideal S1024x1024 .bf16) (w1 w3 : Vec Ideal S1024x2816 .bf16) (w2 : Vec Ideal S2816x1024 .bf16) (z : Fin 1) (r : Fin 512) (j : Fin 1024) :
    out0_11 (F := Ideal) x o g1 sh sc g2 ng wo w1 w3 w2 (ix3 z r j)
      = token (resid (fun j => x (ix3 0 r j)) (fun k => o (ix3 0 r k)) (fun j => g1 (ix3 0 0 j)) (fun k j => wo (ix2 k j)))
        (fun j => ng (ix2 0 j)) (fun j => sc (ix3 0 0 j)) (fun j => sh (ix3 0 0 j)) (fun j => g2 (ix3 0 0 j))
        (fun k f => w1 (ix2 k f)) (fun k f => w3 (ix2 k f)) (fun f j => w2 (ix2 f j)) j := by
  unfold out0_11
  frame_out
  have h1 : ∀ v : FVec Ideal S512x1024 .f32, k0_pay1 (F := Ideal) v (ix3 z r j) = v (ix2 r j) := fun v => by pointwise [k0_pay1]
  rw [h1]
  refine (pay5_apply _ _ _ _ _ _ _ _ _ _ r j (fun k f => w1 (ix2 k f)) (fun k f => w3 (ix2 k f)) (fun f j => w2 (ix2 f j)) ?_ ?_ ?_ ?_ ?_ ?_).trans ?_
  · intro a b
    exact congrArg w1 (idx2 _ _ _ _ _ (by show 0 + 1 * a.val = a.val; omega) (by show 0 + 1 * b.val = b.val; omega))
  · intro a b
    exact congrArg w3 (idx2 _ _ _ _ _ (by show 0 + 1 * a.val = a.val; omega) (by show 0 + 1 * b.val = b.val; omega))
  · intro a b
    exact congrArg w2 (idx2 _ _ _ _ _ (by show 0 + 1 * a.val = a.val; omega) (by show 0 + 1 * b.val = b.val; omega))
  · intro a b
    exact congrArg w1 (idx2 _ _ _ _ _ (by show 0 + 1 * a.val = a.val; omega) (by show 1408 + 1 * b.val = 1408 + b.val; omega))
  · intro a b
    exact congrArg w3 (idx2 _ _ _ _ _ (by show 0 + 1 * a.val = a.val; omega) (by show 1408 + 1 * b.val = 1408 + b.val; omega))
  · intro a b
    exact congrArg w2 (idx2 _ _ _ _ _ (by show 1408 + 1 * a.val = 1408 + a.val; omega) (by show 0 + 1 * b.val = b.val; omega))
  unfold token
  simp only [pay4_apply, pay2_apply]

end Cert.FfnIdeal.Step
-- ==== Proof.FfnKernel.lean ====
module

public import proofs.«01_k».proof.Proof.FfnBlock
public import Idealize.ShloMosaic.Lib.Pipeline.Covers

@[expose] public section

set_option maxRecDepth 16384

noncomputable section

/-! The array that the output projection and feed-forward kernel leaves, at every coordinate. -/

namespace Cert.FfnIdeal.Step

open Cert.FfnIdeal Cert.FfnIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin cfg0.N, win0_0.index t = ![t.val / 16, t.val % 16, 0] ∧ win0_1.index t = ![t.val / 16, t.val % 16, 0]
    ∧ win0_2.index t = ![t.val / 16, 0, 0] ∧ win0_3.index t = ![t.val / 16, 0, 0] ∧ win0_4.index t = ![t.val / 16, 0, 0]
    ∧ win0_5.index t = ![t.val / 16, 0, 0] ∧ win0_6.index t = ![0, 0] ∧ win0_7.index t = ![0, 0] ∧ win0_8.index t = ![0, 0]
    ∧ win0_9.index t = ![0, 0] ∧ win0_10.index t = ![0, 0] ∧ win0_11.index t = ![t.val / 16, t.val % 16, 0] :=
  (by decide +kernel : ∀ t : Fin grid0.N, _)

/-- The blocks written back tile the result. -/
theorem covers : (cfg0.win 11).Covers := by
  refine (cfg0.win 11).covers_of_indexMap_surj rfl (by decide) fun β => ?_
  have h0 : (β ⟨0, by decide⟩).val < 8 := lt_of_lt_of_eq (β ⟨0, by decide⟩).isLt (by decide : (cfg0.win 11).nblk ⟨0, by decide⟩ = 8)
  have h1 : (β ⟨1, by decide⟩).val < 16 := lt_of_lt_of_eq (β ⟨1, by decide⟩).isLt (by decide : (cfg0.win 11).nblk ⟨1, by decide⟩ = 16)
  have h2 : (β ⟨2, by decide⟩).val < 1 := lt_of_lt_of_eq (β ⟨2, by decide⟩).isLt (by decide : (cfg0.win 11).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- The result array after the run. -/
theorem final (c : Dev nD) :
    (dats m 0 c).arrAt 11 cfg0.N = ffn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  refine (dats m 0 c).arrAt_eq_of_covers 11 _ covers fun t hf y => ?_
  have hN : t.val < 128 := lt_of_lt_of_eq t.isLt (show cfg0.N = 128 from N_0)
  blk_simp
  rw [after0_11]
  idx_vars y
  rw [block_apply]
  have hb : t.val / 16 < 8 := by omega
  have hn : t.val % 16 * 512 + y1.val < 8192 := by have := y1.isLt; omega
  have he : ((View.whole main_v5).slice (win0_11.rect t)).emb (ix3 y0 y1 y2) = (ix3 ⟨t.val / 16, hb⟩ ⟨_, hn⟩ y2 : S8x8192x1024.Idx) := by
    blk_ext [idx t]
  rw [he]
  show _ = ffnAt _ _ _ _ _ _ _ _ _ _ _ ⟨t.val / 16, hb⟩ ⟨_, hn⟩ y2
  have e0 : ∀ j, (show FVec Ideal S1x512x1024 .f32 from iblk m c 0 t) (ix3 0 y1 j) = (show FVec Ideal S8x8192x1024 .f32 from m ((c : Thread nD τ).loc main_arg0)) (ix3 ⟨t.val / 16, hb⟩ ⟨_, hn⟩ j) := fun j => by
    blk_point [iblk, V, idx t]
  have e1 : ∀ j, (show FVec Ideal S1x512x1024 .bf16 from iblk m c 1 t) (ix3 0 y1 j) = (show FVec Ideal S8x8192x1024 .bf16 from m ((c : Thread nD τ).loc main_arg1)) (ix3 ⟨t.val / 16, hb⟩ ⟨_, hn⟩ j) := fun j => by
    blk_point [iblk, V, idx t]
  have e2 : ∀ j, (show FVec Ideal S1x1x1024 .f32 from iblk m c 2 t) (ix3 0 0 j) = (show FVec Ideal S8x1x1024 .f32 from m ((c : Thread nD τ).loc main_arg2)) (ix3 ⟨t.val / 16, hb⟩ 0 j) := fun j => by
    blk_point [iblk, V, idx t]
  have e3 : ∀ j, (show FVec Ideal S1x1x1024 .f32 from iblk m c 3 t) (ix3 0 0 j) = (show FVec Ideal S8x1x1024 .f32 from m ((c : Thread nD τ).loc main_arg3)) (ix3 ⟨t.val / 16, hb⟩ 0 j) := fun j => by
    blk_point [iblk, V, idx t]
  have e4 : ∀ j, (show FVec Ideal S1x1x1024 .f32 from iblk m c 4 t) (ix3 0 0 j) = (show FVec Ideal S8x1x1024 .f32 from m ((c : Thread nD τ).loc main_arg4)) (ix3 ⟨t.val / 16, hb⟩ 0 j) := fun j => by
    blk_point [iblk, V, idx t]
  have e5 : ∀ j, (show FVec Ideal S1x1x1024 .f32 from iblk m c 5 t) (ix3 0 0 j) = (show FVec Ideal S8x1x1024 .f32 from m ((c : Thread nD τ).loc main_arg5)) (ix3 ⟨t.val / 16, hb⟩ 0 j) := fun j => by
    blk_point [iblk, V, idx t]
  have e6 : ∀ j, (show FVec Ideal S1x1024 .f32 from iblk m c 6 t) (ix2 0 j) = (show FVec Ideal S1024 .f32 from m ((c : Thread nD τ).loc main_arg6)) (ix1 j) := fun j => by
    blk_point [iblk, V, idx t]
  have e7 : ∀ k j, (show FVec Ideal S1024x1024 .bf16 from iblk m c 7 t) (ix2 k j) = (show FVec Ideal S1024x1024 .f32 from m ((c : Thread nD τ).loc main_arg7)) (ix2 k j) := fun k j => by
    blk_point [iblk, V, idx t]
  have e8 : ∀ k j, (show FVec Ideal S1024x2816 .bf16 from iblk m c 8 t) (ix2 k j) = (show FVec Ideal S1024x2816 .f32 from m ((c : Thread nD τ).loc main_arg8)) (ix2 k j) := fun k j => by
    blk_point [iblk, V, idx t]
  have e9 : ∀ k j, (show FVec Ideal S1024x2816 .bf16 from iblk m c 9 t) (ix2 k j) = (show FVec Ideal S1024x2816 .f32 from m ((c : Thread nD τ).loc main_arg9)) (ix2 k j) := fun k j => by
    blk_point [iblk, V, idx t]
  have e10 : ∀ k j, (show FVec Ideal S2816x1024 .bf16 from iblk m c 10 t) (ix2 k j) = (show FVec Ideal S2816x1024 .f32 from m ((c : Thread nD τ).loc main_arg10)) (ix2 k j) := fun k j => by
    blk_point [iblk, V, idx t]
  unfold ffnAt residAt
  exact congr (congr (congr (congr (congr (congr (congr (congr (congrArg token
    (congr (congr (congr (congrArg resid (funext e0)) (funext e1)) (funext e2)) (funext fun k => funext (e7 k)))) (funext e6)) (funext e4)) (funext e3)) (funext e5))
    (funext fun k => funext (e8 k))) (funext fun k => funext (e9 k))) (funext fun k => funext (e10 k))) rfl

end Cert.FfnIdeal.Step
-- ==== Proof.FfnRef.lean ====
module

public import proofs.«01_k».proof.Proof.FfnSpec
public import proofs.«01_k».proof.Proof.Gen.FfnRefIdeal.Read

@[expose] public section

set_option maxRecDepth 16384

noncomputable section

/-! The reference's output projection and feed-forward, read at every coordinate. -/

namespace Cert.FfnRefIdeal.Value

open Cert.FfnRefIdeal Cert.FfnRefIdeal.Gen Cert.FfnRefIdeal.Read Idealize.ShloMosaic Idealize.ShloMosaic.TcCoe Idealize.SL.Sem
open Idealize.ShloMosaic.StableHlo Cert.FfnIdeal.Step

variable (x0 : FVec Ideal S8x8192x1024 .f32) (x1 : FVec Ideal S8x8192x1024 .bf16) (x2 x3 x4 x5 : FVec Ideal S8x1x1024 .f32) (x6 : FVec Ideal S1024 .f32)
    (x7 : FVec Ideal S1024x1024 .f32) (x8 x9 : FVec Ideal S1024x2816 .f32) (x10 : FVec Ideal S2816x1024 .f32)

/-- The residual stream at an index. -/
theorem v4 (b : Fin 8) (n : Fin 8192) (j : Fin 1024) : val_main_v4 (F := Ideal) x0 x1 x2 x7 (ix3 b n j) = residAt x0 x1 x2 x7 b n j := by
  unfold residAt resid
  pointwise [val_main_v4, val_main_v3, val_main_v2, val_main_v1, val_main_v0]

/-- The modulated stream at an index. -/
theorem v23 (b : Fin 8) (n : Fin 8192) (j : Fin 1024) : val_main_v23 (F := Ideal) x0 x1 x2 x3 x4 x6 x7 (ix3 b n j)
    = modulated (residAt x0 x1 x2 x7 b n) (fun j => x6 (ix1 j)) (fun j => x4 (ix3 b 0 j)) (fun j => x3 (ix3 b 0 j)) j := by
  unfold modulated
  pointwise [val_main_v23, val_main_v22, val_main_v21, val_main_v20, val_main_v19, val_main_v18, val_main_cst_2, val_main_v17, val_main_v16, val_main_v15,
    val_main_v14, val_main_v13, val_main_v12, val_main_v11, val_main_v10, val_main_cst_1, val_main_v9, val_main_v8, val_main_cst_0, val_main_v7, val_main_v6,
    val_main_cst, val_main_v5, v4]

/-- The gated hidden value at an index. -/
theorem v27 (b : Fin 8) (n : Fin 8192) (f : Fin 2816) : val_main_v27 (F := Ideal) x0 x1 x2 x3 x4 x6 x7 x8 x9 (ix3 b n f)
    = Cert.FfnIdeal.Step.hidden (modulated (residAt x0 x1 x2 x7 b n) (fun j => x6 (ix1 j)) (fun j => x4 (ix3 b 0 j)) (fun j => x3 (ix3 b 0 j)))
        (fun k f => x8 (ix2 k f)) (fun k f => x9 (ix2 k f)) f := by
  unfold Cert.FfnIdeal.Step.hidden
  pointwise [val_main_v27, val_main_v26, val_main_v25, val_main_call0_v5, val_main_call0_v4, val_main_call0_cst_0, val_main_call0_v3, val_main_call0_v2,
    val_main_call0_cst, val_main_call0_v1, val_main_call0_v0, val_main_v24, v23]
  rfl

/-- The reference's result at an index. -/
theorem ref_apply (b : Fin 8) (n : Fin 8192) (j : Fin 1024) : val_main_v31 (F := Ideal) x0 x1 x2 x3 x4 x5 x6 x7 x8 x9 x10 (ix3 b n j)
    = ffnAt x0 x1 x2 x3 x4 x5 x6 x7 x8 x9 x10 b n j := by
  unfold ffnAt token
  pointwise [val_main_v31, val_main_v30, val_main_v29, val_main_v28, v27, v4]

end Cert.FfnRefIdeal.Value
-- ==== Proof.FfnClaim.lean ====
module

public import proofs.«01_k».proof.Defs
public import proofs.«01_k».proof.Proof.FfnKernel
public import proofs.«01_k».proof.Proof.FfnRef
public import Idealize.ShloMosaic.Lib.Claim
public import Idealize.ShloMosaic.Lib.Quiescent

@[expose] public section

set_option maxRecDepth 16384

noncomputable section

/-! The claim about the output projection and the dense feed-forward: kernel and reference leave the same array. -/

namespace Cert.FfnRefIdeal

open Cert.FfnRefIdeal.Gen Idealize.ShloMosaic Idealize.ShloMosaic.TcCoe Idealize.SL.Sem Idealize.ShloMosaic.StableHlo

/-- The reference's run: its result is its operations' composed value over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (Value.run (F := Ideal) m ρ).mono fun r h c => ⟨(h c).1.trans (Read.val_main_v31_eq m c), (h c).2⟩

end Cert.FfnRefIdeal

namespace Cert.FfnClaim

open Idealize.ShloMosaic Idealize.ShloMosaic.TcCoe Idealize.SL.Sem

set_option maxHeartbeats 1600000 in
/-- Over exact arithmetic the output projection and feed-forward kernel and its reference, run on the same arguments,
    end with the same result. -/
theorem algebraic : Cert.algebraic_FfnIdeal_FfnRefIdeal := by
  pair_intro
  · run_from Cert.FfnIdeal.Gen.run_main m g
  · run_from Cert.FfnRefIdeal.run m' g'
    rw [Cert.FfnIdeal.Step.final m c]
    funext i
    rw [eq_ix3 i]
    exact Cert.FfnRefIdeal.Value.ref_apply _ _ _ _ _ _ _ _ _ _ _ _ _ _

end Cert.FfnClaim
-- ==== Proof.RgInSpec.lean ====
module

public import proofs.«01_k».proof.Proof.FfnSpec
public import proofs.«01_k».proof.Proof.Gen.RgInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The recurrent block's two projections of a token, the convolution over neighbouring tokens, and the arrays they make. -/

namespace Cert.RgInIdeal.Step

open Cert.RgInIdeal Cert.RgInIdeal.Gen Idealize.ShloMosaic Idealize.ShloMosaic.TcCoe Idealize.SL.Sem
open Cert.FfnIdeal.Step (modulated)

/-- A column of a token's projection. -/
def proj (h : Fin 1024 → EReal) (w : Fin 1024 → Fin 1024 → EReal) (c : Fin 1024) : EReal := ∑ k : Fin 1024, h k * w k c

/-- The gate's activation: the Gaussian error linear unit by the hyperbolic tangent. -/
def gelu (v : EReal) : EReal :=
  v * (Ideal.ofBits FTy.f32 1056964608#32 * (1 + Ideal.tanh (Ideal.ofBits FTy.f32 1061962282#32 * (v + Ideal.ofBits FTy.f32 1027024659#32 * (v * (v * v))))))

/-- A token's normalised and modulated stream, at the arguments' coordinates. -/
def tokAt (x : FVec Ideal S8x8192x1024 .f32) (sh sc : FVec Ideal S8x1x1024 .f32) (g : FVec Ideal S1024 .f32) (b : Fin 8) (n : Fin 8192) : Fin 1024 → EReal :=
  modulated (fun j => x (ix3 b n j)) (fun j => g (ix1 j)) (fun j => sc (ix3 b 0 j)) (fun j => sh (ix3 b 0 j))

/-- The projection at row `q` of the tokens with two rows of zeros before them and one after. -/
def tap (x : FVec Ideal S8x8192x1024 .f32) (sh sc : FVec Ideal S8x1x1024 .f32) (g : FVec Ideal S1024 .f32) (w : FVec Ideal S1024x1024 .f32)
    (b : Fin 8) (q : Nat) (c : Fin 1024) : EReal :=
  if h : 2 ≤ q ∧ q - 2 < 8192 then proj (tokAt x sh sc g b ⟨q - 2, h.2⟩) (fun k c => w (ix2 k c)) c else 0

/-- The convolution of the projected tokens, with its bias, at the arguments' coordinates. -/
def convAt (x : FVec Ideal S8x8192x1024 .f32) (sh sc : FVec Ideal S8x1x1024 .f32) (g : FVec Ideal S1024 .f32) (w : FVec Ideal S1024x1024 .f32)
    (cw : FVec Ideal S4x1024 .f32) (cb : FVec Ideal S1024 .f32) (b : Fin 8) (n : Fin 8192) (c : Fin 1024) : EReal :=
  cb (ix1 c) + cw (ix2 0 c) * tap x sh sc g w b n.val c + cw (ix2 1 c) * tap x sh sc g w b (n.val + 1) c
    + cw (ix2 2 c) * tap x sh sc g w b (n.val + 2) c + cw (ix2 3 c) * tap x sh sc g w b (n.val + 3) c

/-- The gate at the arguments' coordinates. -/
def gateAt (x : FVec Ideal S8x8192x1024 .f32) (sh sc : FVec Ideal S8x1x1024 .f32) (g : FVec Ideal S1024 .f32) (w : FVec Ideal S1024x1024 .f32)
    (b : Fin 8) (n : Fin 8192) (c : Fin 1024) : EReal :=
  gelu (proj (tokAt x sh sc g b n) (fun k c => w (ix2 k c)) c)

/-- The convolved projection as an array. -/
def conv (x : FVec Ideal S8x8192x1024 .f32) (sh sc : FVec Ideal S8x1x1024 .f32) (g : FVec Ideal S1024 .f32) (w : FVec Ideal S1024x1024 .f32)
    (cw : FVec Ideal S4x1024 .f32) (cb : FVec Ideal S1024 .f32) : FVec Ideal S8x8192x1024 .bf16 :=
  fun i => convAt x sh sc g w cw cb (i 0) (i 1) (i 2)

/-- The gate as an array. -/
def gate (x : FVec Ideal S8x8192x1024 .f32) (sh sc : FVec Ideal S8x1x1024 .f32) (g : FVec Ideal S1024 .f32) (w : FVec Ideal S1024x1024 .f32) :
    FVec Ideal S8x8192x1024 .bf16 :=
  fun i => gateAt x sh sc g w (i 0) (i 1) (i 2)

end Cert.RgInIdeal.Step
-- ==== Proof.RgInBlock.lean ====
module

public import proofs.«01_k».proof.Proof.RgInSpec

@[expose] public section

set_option maxRecDepth 16384

noncomputable section

/-! One block of the recurrent block's input kernel, in terms of the input blocks' contents. -/

namespace Cert.RgInIdeal.Step

open Cert.RgInIdeal Cert.RgInIdeal.Gen Idealize.ShloMosaic Idealize.ShloMosaic.TcCoe Idealize.SL.Sem
open Cert.FfnIdeal.Step (modulated)

/-- A row of the block with the eight rows before it and the eight after. -/
def row (x0 : Vec Ideal S1x8x1024 .f32) (x1 : Vec Ideal S1x512x1024 .f32) (x2 : Vec Ideal S1x8x1024 .f32) (q : Fin 528) (c : Fin 1024) : EReal :=
  if h : q.val < 8 then x0 (ix3 0 ⟨q.val, h⟩ c) else if h : q.val - 8 < 512 then x1 (ix3 0 ⟨q.val - 8, h⟩ c)
  else x2 (ix3 0 ⟨q.val - 8 - 512, by have := q.isLt; omega⟩ c)

/-- A value of row `q` of grid step `i`, zero where that row lies before the first token or after the last. -/
def inside (i q : Nat) (a : EReal) : EReal := if (8 ≤ q ∨ 0 < i) ∧ (q < 520 ∨ i < 15) then a else 0

/-- The body's mask as a condition on numbers. -/
theorem mask : ∀ (i : Fin 16) (q : Fin 528), IntOp.andi
    (IntOp.ori (IntOp.cmpi CmpIPredicate.sge (BitVec.ofNat 32 q.val) 8#32) (Scalar.cmpi CmpIPredicate.sgt (BitVec.ofNat 32 i.val) 0#32))
    (IntOp.ori (IntOp.cmpi CmpIPredicate.slt (BitVec.ofNat 32 q.val) 520#32) (Scalar.cmpi CmpIPredicate.slt (BitVec.ofNat 32 i.val) 15#32))
    = if (8 ≤ q.val ∨ 0 < i.val) ∧ (q.val < 520 ∨ i.val < 15) then 1#1 else 0#1 := by
  decide +kernel

/-- The body's masked value, as a condition on numbers. -/
theorem select_mask (i q : Nat) (hi : i < 16) (hq : q < 528) (a : EReal) : Scalar.select (IntOp.andi
    (IntOp.ori (IntOp.cmpi CmpIPredicate.sge (BitVec.ofNat 32 q) 8#32) (Scalar.cmpi CmpIPredicate.sgt (BitVec.ofNat 32 i) 0#32))
    (IntOp.ori (IntOp.cmpi CmpIPredicate.slt (BitVec.ofNat 32 q) 520#32) (Scalar.cmpi CmpIPredicate.slt (BitVec.ofNat 32 i) 15#32))) a 0
    = inside i q a := by
  have h := mask ⟨i, hi⟩ ⟨q, hq⟩
  simp only at h
  rw [h]
  unfold inside
  split <;> rfl

/-- The normalised payload at an index. -/
theorem pay3_apply (x0 : Vec Ideal S1x8x1024 .f32) (x1 : Vec Ideal S1x512x1024 .f32) (x2 : Vec Ideal S1x8x1024 .f32) (g : Vec Ideal S1x1024 .f32)
    (sh sc : Vec Ideal S1x1x1024 .f32) (q : Fin 528) (c : Fin 1024) : k0_pay3 (F := Ideal) x0 x1 x2 g sh sc (ix2 q c)
      = modulated (row x0 x1 x2 q) (fun j => g (ix2 0 j)) (fun j => sc (ix3 0 0 j)) (fun j => sh (ix3 0 0 j)) c := by
  unfold modulated row
  pointwise [k0_pay3]

/-- The gate's payload at an index. -/
theorem pay2_apply (h : FVec Ideal S528x1024 .bf16) (w : Vec Ideal S1024x1024 .bf16) (z : Fin 1) (r : Fin 512) (c : Fin 1024) :
    k0_pay2 (F := Ideal) h w (ix3 z r c) = gelu (proj (fun k => h (ix2 ⟨8 + r.val, by have := r.isLt; omega⟩ k)) (fun k c => w (ix2 k c)) c) := by
  unfold gelu proj
  pointwise [k0_pay2]

/-- The convolution's payload at an index. -/
theorem pay5_apply (i : Nat) (hi : i < 16) (h : FVec Ideal S528x1024 .bf16) (w : FVec Ideal S1024x1024 .bf16) (cb w0 w1 w2 w3 : Vec Ideal S1x1024 .f32)
    (r : Fin 512) (c : Fin 1024) : k0_pay5 (F := Ideal) (BitVec.ofNat 32 i) h w (constant S528x1024 .f32 0x00000000#32) cb w0 w1 w2 w3 (ix2 r c)
      = cb (ix2 0 c) + inside i (6 + r.val) (w0 (ix2 0 c) * proj (fun k => h (ix2 ⟨6 + r.val, by have := r.isLt; omega⟩ k)) (fun k c => w (ix2 k c)) c)
        + inside i (7 + r.val) (w1 (ix2 0 c) * proj (fun k => h (ix2 ⟨7 + r.val, by have := r.isLt; omega⟩ k)) (fun k c => w (ix2 k c)) c)
        + inside i (8 + r.val) (w2 (ix2 0 c) * proj (fun k => h (ix2 ⟨8 + r.val, by have := r.isLt; omega⟩ k)) (fun k c => w (ix2 k c)) c)
        + inside i (9 + r.val) (w3 (ix2 0 c) * proj (fun k => h (ix2 ⟨9 + r.val, by have := r.isLt; omega⟩ k)) (fun k c => w (ix2 k c)) c) := by
  have hr := r.isLt
  unfold proj
  pointwise [k0_pay5]
  rw [select_mask i _ hi (by omega), select_mask i _ hi (by omega), select_mask i _ hi (by omega), select_mask i _ hi (by omega)]

/-- Two coordinates with the values of an index make that index. -/
theorem idx2 (n0 n1 : Nat) (i : (⟨2, ![n0, n1]⟩ : Shape).Idx) (a : Fin n0) (b : Fin n1) (h0 : (i 0).val = a.val) (h1 : (i 1).val = b.val) : i = ix2 a b := by
  funext k
  match k with
  | ⟨0, _⟩ => exact Fin.ext h0
  | ⟨1, _⟩ => exact Fin.ext h1

variable (i : grid0.Coords) (x0 : Vec Ideal S1x8x1024 .f32) (x1 : Vec Ideal S1x512x1024 .f32) (x2 : Vec Ideal S1x8x1024 .f32) (x3 x4 : Vec Ideal S1x1x1024 .f32)
    (x5 : Vec Ideal S1x1024 .f32) (x6 x7 : Vec Ideal S1024x1024 .bf16) (x8 : Vec Ideal S4x1024 .f32) (x9 : Vec Ideal S1x1024 .f32)

/-- A row's normalised and modulated stream, from the input blocks. -/
def hrow (q : Fin 528) : Fin 1024 → EReal :=
  modulated (row x0 x1 x2 q) (fun j => x5 (ix2 0 j)) (fun j => x4 (ix3 0 0 j)) (fun j => x3 (ix3 0 0 j))

/-- The normalised rows of a block, from the input blocks. -/
theorem pay6_apply (q : Fin 528) : (fun k => k0_pay6 (F := Ideal) i x0 x1 x2 x3 x4 x5 x6 x7 x8 x9 (ix2 q k)) = hrow x0 x1 x2 x3 x4 x5 q := by
  funext k
  have e : k0_pay6 (F := Ideal) i x0 x1 x2 x3 x4 x5 x6 x7 x8 x9 = k0_pay3 (F := Ideal) x0 x1 x2 x5 x3 x4 := by
    unfold k0_pay6
    frame_out
  rw [e, pay3_apply]
  rfl

/-- The stored block of the gate at an index. -/
theorem gate_block (z : Fin 1) (r : Fin 512) (c : Fin 1024) : out0_11 (F := Ideal) i x0 x1 x2 x3 x4 x5 x6 x7 x8 x9 (ix3 z r c)
    = gelu (proj (hrow x0 x1 x2 x3 x4 x5 ⟨8 + r.val, by have := r.isLt; omega⟩) (fun k c => x7 (ix2 k c)) c) := by
  unfold out0_11
  frame_out
  rw [pay2_apply, pay6_apply]

/-- The stored block of the convolution at an index. -/
theorem conv_block (hi : (i 1).val < 16) (z : Fin 1) (r : Fin 512) (c : Fin 1024) : out0_10 (F := Ideal) i x0 x1 x2 x3 x4 x5 x6 x7 x8 x9 (ix3 z r c)
    = x9 (ix2 0 c)
      + inside (i 1).val (6 + r.val) (x8 (ix2 0 c) * proj (hrow x0 x1 x2 x3 x4 x5 ⟨6 + r.val, by have := r.isLt; omega⟩) (fun k c => x6 (ix2 k c)) c)
      + inside (i 1).val (7 + r.val) (x8 (ix2 1 c) * proj (hrow x0 x1 x2 x3 x4 x5 ⟨7 + r.val, by have := r.isLt; omega⟩) (fun k c => x6 (ix2 k c)) c)
      + inside (i 1).val (8 + r.val) (x8 (ix2 2 c) * proj (hrow x0 x1 x2 x3 x4 x5 ⟨8 + r.val, by have := r.isLt; omega⟩) (fun k c => x6 (ix2 k c)) c)
      + inside (i 1).val (9 + r.val) (x8 (ix2 3 c) * proj (hrow x0 x1 x2 x3 x4 x5 ⟨9 + r.val, by have := r.isLt; omega⟩) (fun k c => x6 (ix2 k c)) c) := by
  unfold out0_10
  frame_out
  have h1 : ∀ v : FVec Ideal S512x1024 .bf16, k0_pay1 (F := Ideal) v (ix3 z r c) = v (ix2 r c) := fun v => by pointwise [k0_pay1]
  have h4 : k0_pay4 (F := Ideal) x6 = x6 := by
    funext y
    rw [eq_ix2 y]
    pointwise [k0_pay4]
  rw [h1, h4, pay5_apply _ hi]
  simp only [pay6_apply]
  have c0 : View.ld x8 r0_5 (ix2 0 c) = x8 (ix2 0 c) :=
    congrArg x8 (idx2 _ _ _ _ _ (by show 0 + 1 * 0 = 0; omega) (by show 0 + 1 * c.val = c.val; omega))
  have c1 : View.ld x8 r0_6 (ix2 0 c) = x8 (ix2 1 c) :=
    congrArg x8 (idx2 _ _ _ _ _ (by show 1 + 1 * 0 = 1; omega) (by show 0 + 1 * c.val = c.val; omega))
  have c2 : View.ld x8 r0_7 (ix2 0 c) = x8 (ix2 2 c) :=
    congrArg x8 (idx2 _ _ _ _ _ (by show 2 + 1 * 0 = 2; omega) (by show 0 + 1 * c.val = c.val; omega))
  have c3 : View.ld x8 r0_8 (ix2 0 c) = x8 (ix2 3 c) :=
    congrArg x8 (idx2 _ _ _ _ _ (by show 3 + 1 * 0 = 3; omega) (by show 0 + 1 * c.val = c.val; omega))
  rw [c0, c1, c2, c3]

end Cert.RgInIdeal.Step
-- ==== Proof.RgInKernel.lean ====
module

public import proofs.«01_k».proof.Proof.RgInBlock
public import Idealize.ShloMosaic.Lib.Pipeline.Covers

@[expose] public section

set_option maxRecDepth 16384

noncomputable section

/-! The arrays that the recurrent block's input kernel leaves, at every coordinate. -/

namespace Cert.RgInIdeal.Step

open Cert.RgInIdeal Cert.RgInIdeal.Gen Idealize.ShloMosaic Idealize.ShloMosaic.TcCoe Idealize.SL.Sem
open Cert.FfnIdeal.Step (modulated)

variable (m : (ℓ : Loc nD τ sig) → Buf (Elt Ideal) ℓ)

/-- Which block of each array a grid point reads or writes. -/
theorem idx : ∀ t : Fin cfg0.N, win0_0.index t = ![t.val / 16, t.val % 16 * 64 - 1, 0] ∧ win0_1.index t = ![t.val / 16, t.val % 16, 0]
    ∧ win0_2.index t = ![t.val / 16, min (t.val % 16 * 64 + 64) 1023, 0] ∧ win0_3.index t = ![t.val / 16, 0, 0] ∧ win0_4.index t = ![t.val / 16, 0, 0]
    ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] ∧ win0_11.index t = ![t.val / 16, t.val % 16, 0] :=
  (by decide +kernel : ∀ t : Fin grid0.N, _)

/-- A grid point's second coordinate. -/
theorem coord1 : ∀ t : Fin cfg0.N, (grid0.coords t 1).val = t.val % 16 :=
  (by decide +kernel : ∀ t : Fin grid0.N, _)

/-- The blocks written back tile each result. -/
theorem covers10 : (cfg0.win 10).Covers := by
  refine (cfg0.win 10).covers_of_indexMap_surj rfl (by decide) fun β => ?_
  have h0 : (β ⟨0, by decide⟩).val < 8 := lt_of_lt_of_eq (β ⟨0, by decide⟩).isLt (by decide : (cfg0.win 10).nblk ⟨0, by decide⟩ = 8)
  have h1 : (β ⟨1, by decide⟩).val < 16 := lt_of_lt_of_eq (β ⟨1, by decide⟩).isLt (by decide : (cfg0.win 10).nblk ⟨1, by decide⟩ = 16)
  have h2 : (β ⟨2, by decide⟩).val < 1 := lt_of_lt_of_eq (β ⟨2, by decide⟩).isLt (by decide : (cfg0.win 10).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

@[inherit_doc covers10]
theorem covers11 : (cfg0.win 11).Covers := by
  refine (cfg0.win 11).covers_of_indexMap_surj rfl (by decide) fun β => ?_
  have h0 : (β ⟨0, by decide⟩).val < 8 := lt_of_lt_of_eq (β ⟨0, by decide⟩).isLt (by decide : (cfg0.win 11).nblk ⟨0, by decide⟩ = 8)
  have h1 : (β ⟨1, by decide⟩).val < 16 := lt_of_lt_of_eq (β ⟨1, by decide⟩).isLt (by decide : (cfg0.win 11).nblk ⟨1, by decide⟩ = 16)
  have h2 : (β ⟨2, by decide⟩).val < 1 := lt_of_lt_of_eq (β ⟨2, by decide⟩).isLt (by decide : (cfg0.win 11).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- The rows that a grid point sees are the tokens around its block. -/
theorem row_eq (c : Dev nD) (t : Fin cfg0.N) (q : Fin 528) (b : Fin 8) (n : Fin 8192) (hb : t.val / 16 = b.val) (hn : t.val % 16 * 512 + q.val = n.val + 8)
    (h0 : 8 ≤ q.val ∨ 0 < t.val % 16) (h1 : q.val < 520 ∨ t.val % 16 < 15) :
    row (iblk m c 0 t) (iblk m c 1 t) (iblk m c 2 t) q = fun j => (show FVec Ideal S8x8192x1024 .f32 from m ((c : Thread nD τ).loc main_arg0)) (ix3 b n j) := by
  funext j
  have hN : t.val < 128 := lt_of_lt_of_eq t.isLt (show cfg0.N = 128 from N_0)
  have hq := q.isLt
  unfold row
  split
  · next h => blk_point [iblk, V, idx t]
  · next h =>
    split
    · next h' => blk_point [iblk, V, idx t]
    · next h' => blk_point [iblk, V, idx t]

/-- A row's stream is its token's. -/
theorem hrow_eq (c : Dev nD) (t : Fin cfg0.N) (q : Fin 528) (b : Fin 8) (n : Fin 8192) (hb : t.val / 16 = b.val) (hn : t.val % 16 * 512 + q.val = n.val + 8)
    (h0 : 8 ≤ q.val ∨ 0 < t.val % 16) (h1 : q.val < 520 ∨ t.val % 16 < 15) :
    hrow (iblk m c 0 t) (iblk m c 1 t) (iblk m c 2 t) (iblk m c 3 t) (iblk m c 4 t) (iblk m c 5 t) q
      = tokAt (m ((c : Thread nD τ).loc main_arg0)) (m ((c : Thread nD τ).loc main_arg1)) (m ((c : Thread nD τ).loc main_arg2)) (m ((c : Thread nD τ).loc main_arg3)) b n := by
  have e3 : ∀ j, (show FVec Ideal S1x1x1024 .f32 from iblk m c 3 t) (ix3 0 0 j) = (show FVec Ideal S8x1x1024 .f32 from m ((c : Thread nD τ).loc main_arg1)) (ix3 b 0 j) := fun j => by
    blk_point [iblk, V, idx t]
  have e4 : ∀ j, (show FVec Ideal S1x1x1024 .f32 from iblk m c 4 t) (ix3 0 0 j) = (show FVec Ideal S8x1x1024 .f32 from m ((c : Thread nD τ).loc main_arg2)) (ix3 b 0 j) := fun j => by
    blk_point [iblk, V, idx t]
  have e5 : ∀ j, (show FVec Ideal S1x1024 .f32 from iblk m c 5 t) (ix2 0 j) = (show FVec Ideal S1024 .f32 from m ((c : Thread nD τ).loc main_arg3)) (ix1 j) := fun j => by
    blk_point [iblk, V, idx t]
  unfold hrow tokAt
  exact congr (congr (congr (congrArg modulated (row_eq m c t q b n hb hn h0 h1)) (funext e5)) (funext e4)) (funext e3)

/-- The gate's array after the run. -/
theorem final_gate (c : Dev nD) :
    (dats m 0 c).arrAt 11 cfg0.N = gate (m ((c : Thread nD τ).loc main_arg0)) (m ((c : Thread nD τ).loc main_arg1)) (m ((c : Thread nD τ).loc main_arg2))
      (m ((c : Thread nD τ).loc main_arg3)) (m ((c : Thread nD τ).loc main_arg5)) := by
  refine (dats m 0 c).arrAt_eq_of_covers 11 _ covers11 fun t hf y => ?_
  have hN : t.val < 128 := lt_of_lt_of_eq t.isLt (show cfg0.N = 128 from N_0)
  blk_simp
  rw [after0_11]
  idx_vars y
  rw [gate_block]
  have hb : t.val / 16 < 8 := by omega
  have hn : t.val % 16 * 512 + y1.val < 8192 := by have := y1.isLt; omega
  have he : ((View.whole main_v4_1).slice (win0_11.rect t)).emb (ix3 y0 y1 y2) = (ix3 ⟨t.val / 16, hb⟩ ⟨_, hn⟩ y2 : S8x8192x1024.Idx) := by
    blk_ext [idx t]
  rw [he]
  show _ = gateAt _ _ _ _ _ ⟨t.val / 16, hb⟩ ⟨_, hn⟩ y2
  have e7 : ∀ k j, (show FVec Ideal S1024x1024 .bf16 from iblk m c 7 t) (ix2 k j) = (show FVec Ideal S1024x1024 .f32 from m ((c : Thread nD τ).loc main_arg5)) (ix2 k j) := fun k j => by
    blk_point [iblk, V, idx t]
  unfold gateAt
  exact congrArg gelu (congr (congr (congrArg proj (hrow_eq m c t _ _ _ rfl (by show _ + (8 + y1.val) = _ + y1.val + 8; omega) (.inl (by show 8 ≤ 8 + y1.val; omega))
    (.inl (by have := y1.isLt; show 8 + y1.val < 520; omega)))) (funext fun k => funext (e7 k))) rfl)

/-- A masked row of the projection times its weight is the padded projection times it. -/
theorem tap_eq (c : Dev nD) (t : Fin cfg0.N) (q : Nat) (hq : q < 528) (p : Nat) (b : Fin 8) (hb : t.val / 16 = b.val) (hp : t.val % 16 * 512 + q = p + 6) (h6 : 6 ≤ q) (h9 : q ≤ 520)
    (a : EReal) (w : Fin 1024 → Fin 1024 → EReal) (hw : w = fun k j => (show FVec Ideal S1024x1024 .f32 from m ((c : Thread nD τ).loc main_arg4)) (ix2 k j)) (j : Fin 1024) :
    inside (t.val % 16) q (a * proj (hrow (iblk m c 0 t) (iblk m c 1 t) (iblk m c 2 t) (iblk m c 3 t) (iblk m c 4 t) (iblk m c 5 t) ⟨q, hq⟩) w j)
      = a * tap (m ((c : Thread nD τ).loc main_arg0)) (m ((c : Thread nD τ).loc main_arg1)) (m ((c : Thread nD τ).loc main_arg2)) (m ((c : Thread nD τ).loc main_arg3))
          (m ((c : Thread nD τ).loc main_arg4)) b p j := by
  have hN : t.val < 128 := lt_of_lt_of_eq t.isLt (show cfg0.N = 128 from N_0)
  unfold inside tap
  by_cases h : (8 ≤ q ∨ 0 < t.val % 16) ∧ (q < 520 ∨ t.val % 16 < 15)
  · have h' : 2 ≤ p ∧ p - 2 < 8192 := by omega
    rw [if_pos h, dif_pos h', hrow_eq m c t ⟨q, hq⟩ b ⟨p - 2, h'.2⟩ hb (by show _ + q = p - 2 + 8; omega) h.1 h.2, hw]
  · have h' : ¬(2 ≤ p ∧ p - 2 < 8192) := by omega
    rw [if_neg h, dif_neg h', mul_zero]

/-- The convolution's array after the run. -/
theorem final_conv (c : Dev nD) :
    (dats m 0 c).arrAt 10 cfg0.N = conv (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) (m ((c : Thread nD τ).loc main_arg7)) := by
  refine (dats m 0 c).arrAt_eq_of_covers 10 _ covers10 fun t hf y => ?_
  have hN : t.val < 128 := lt_of_lt_of_eq t.isLt (show cfg0.N = 128 from N_0)
  blk_simp
  rw [after0_10]
  idx_vars y
  rw [conv_block _ _ _ _ _ _ _ _ _ _ _ (by rw [coord1]; omega), coord1]
  have hy := y1.isLt
  have hb : t.val / 16 < 8 := by omega
  have hn : t.val % 16 * 512 + y1.val < 8192 := by omega
  have he : ((View.whole main_v4_0).slice (win0_10.rect t)).emb (ix3 y0 y1 y2) = (ix3 ⟨t.val / 16, hb⟩ ⟨_, hn⟩ y2 : S8x8192x1024.Idx) := by
    blk_ext [idx t]
  rw [he]
  show _ = convAt _ _ _ _ _ _ _ ⟨t.val / 16, hb⟩ ⟨_, hn⟩ y2
  have e6 : ∀ k j, (show FVec Ideal S1024x1024 .bf16 from iblk m c 6 t) (ix2 k j) = (show FVec Ideal S1024x1024 .f32 from m ((c : Thread nD τ).loc main_arg4)) (ix2 k j) := fun k j => by
    blk_point [iblk, V, idx t]
  have e8 : ∀ k : Fin 4, (show FVec Ideal S4x1024 .f32 from iblk m c 8 t) (ix2 k y2) = (show FVec Ideal S4x1024 .f32 from m ((c : Thread nD τ).loc main_arg6)) (ix2 k y2) := fun k => by
    blk_point [iblk, V, idx t]
  have e9 : (show FVec Ideal S1x1024 .f32 from iblk m c 9 t) (ix2 0 y2) = (show FVec Ideal S1024 .f32 from m ((c : Thread nD τ).loc main_arg7)) (ix1 y2) := by
    blk_point [iblk, V, idx t]
  have ew := funext fun k => funext (e6 k)
  unfold convAt
  rw [tap_eq m c t _ _ (t.val % 16 * 512 + y1.val) ⟨_, hb⟩ rfl (by omega) (by omega) (by omega) _ _ ew,
    tap_eq m c t _ _ (t.val % 16 * 512 + y1.val + 1) ⟨_, hb⟩ rfl (by omega) (by omega) (by omega) _ _ ew,
    tap_eq m c t _ _ (t.val % 16 * 512 + y1.val + 2) ⟨_, hb⟩ rfl (by omega) (by omega) (by omega) _ _ ew,
    tap_eq m c t _ _ (t.val % 16 * 512 + y1.val + 3) ⟨_, hb⟩ rfl (by omega) (by omega) (by omega) _ _ ew]
  exact congr (congrArg _ (congr (congrArg _ (congr (congrArg _ (congr (congrArg _ e9) (congr (congrArg _ (e8 0)) rfl))) (congr (congrArg _ (e8 1)) rfl))) (congr (congrArg _ (e8 2)) rfl))) (congr (congrArg _ (e8 3)) rfl)

end Cert.RgInIdeal.Step
-- ==== Proof.RgInRef.lean ====
module

public import proofs.«01_k».proof.Proof.RgInSpec
public import proofs.«01_k».proof.Proof.Gen.RgInRefIdeal.Read

@[expose] public section

set_option maxRecDepth 16384

noncomputable section

/-! The reference's input projections and convolution of the recurrent block, read at every coordinate. -/

namespace Cert.RgInRefIdeal.Value

open Cert.RgInRefIdeal Cert.RgInRefIdeal.Gen Cert.RgInRefIdeal.Read Idealize.ShloMosaic Idealize.ShloMosaic.TcCoe Idealize.SL.Sem
open Idealize.ShloMosaic.StableHlo Cert.RgInIdeal.Step
open Cert.FfnIdeal.Step (modulated)

variable (x0 : FVec Ideal S8x8192x1024 .f32) (x1 x2 : FVec Ideal S8x1x1024 .f32) (x3 : FVec Ideal S1024 .f32)
    (x4 x5 : FVec Ideal S1024x1024 .f32) (x6 : FVec Ideal S4x1024 .f32) (x7 : FVec Ideal S1024 .f32)

/-- The modulated stream at an index. -/
theorem v18 (b : Fin 8) (n : Fin 8192) (j : Fin 1024) : val_main_v18 (F := Ideal) x0 x1 x2 x3 (ix3 b n j) = tokAt x0 x1 x2 x3 b n j := by
  unfold tokAt modulated
  pointwise [val_main_v18, val_main_v17, val_main_v16, val_main_v15, val_main_v14, val_main_v13, val_main_cst_2, val_main_v12, val_main_v11, val_main_v10,
    val_main_v9, val_main_v8, val_main_v7, val_main_v6, val_main_v5, val_main_cst_1, val_main_v4, val_main_v3, val_main_cst_0, val_main_v2, val_main_v1,
    val_main_cst, val_main_v0]

/-- The first projection at an index. -/
theorem v19 (b : Fin 8) (n : Fin 8192) (c : Fin 1024) :
    val_main_v19 (F := Ideal) x0 x1 x2 x3 x4 (ix3 b n c) = proj (tokAt x0 x1 x2 x3 b n) (fun k c => x4 (ix2 k c)) c := by
  unfold proj
  pointwise [val_main_v19, v18]

/-- The padded projection at an index. -/
theorem v20 (b : Fin 8) (n : Fin 8195) (c : Fin 1024) : val_main_v20 (F := Ideal) x0 x1 x2 x3 x4 (ix3 b n c) = tap x0 x1 x2 x3 x4 b n.val c := by
  unfold tap
  pointwise [val_main_v20, val_main_call0_v0, val_main_c, v19]
  split
  · rfl
  · show (((0#32 : BitVec 32).toInt : ℝ) : EReal) = 0
    simp

/-- The convolution at an index. -/
theorem conv_apply (b : Fin 8) (n : Fin 8192) (c : Fin 1024) :
    val_main_v51 (F := Ideal) x0 x1 x2 x3 x4 x6 x7 (ix3 b n c) = convAt x0 x1 x2 x3 x4 x6 x7 b n c := by
  unfold convAt
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v21, v20]
  simp only [Nat.add_comm _ n.val, mul_comm (tap _ _ _ _ _ _ _ _)]

/-- The gate at an index. -/
theorem gate_apply (b : Fin 8) (n : Fin 8192) (c : Fin 1024) : val_main_v66 (F := Ideal) x0 x1 x2 x3 x5 (ix3 b n c) = gateAt x0 x1 x2 x3 x5 b n c := by
  have h : val_main_v52 (F := Ideal) x0 x1 x2 x3 x5 (ix3 b n c) = proj (tokAt x0 x1 x2 x3 b n) (fun k c => x5 (ix2 k c)) c := by
    unfold proj
    pointwise [val_main_v52, v18]
  unfold gateAt gelu
  rw [← h]
  pointwise [val_main_v66, val_main_v65, val_main_v64, val_main_v63, val_main_cst_6, val_main_v62, val_main_v61, val_main_cst_5, val_main_v60, val_main_v59,
    val_main_v58, val_main_cst_4, val_main_v57, val_main_v56, val_main_v55, val_main_cst_3, val_main_v54, val_main_v53]
  rw [mul_assoc (val_main_v52 (F := Ideal) x0 x1 x2 x3 x5 (ix3 b n c))]

end Cert.RgInRefIdeal.Value
-- ==== Proof.RgInClaim.lean ====
module

public import proofs.«01_k».proof.Defs
public import proofs.«01_k».proof.Proof.RgInKernel
public import proofs.«01_k».proof.Proof.RgInRef
public import Idealize.ShloMosaic.Lib.Claim
public import Idealize.ShloMosaic.Lib.Quiescent

@[expose] public section

set_option maxRecDepth 16384

noncomputable section

/-! The claim about the recurrent block's input projections: kernel and reference leave the same two arrays. -/

namespace Cert.RgInRefIdeal

open Cert.RgInRefIdeal.Gen Idealize.ShloMosaic Idealize.ShloMosaic.TcCoe Idealize.SL.Sem Idealize.ShloMosaic.StableHlo

/-- The reference's run: its results are its operations' composed values over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v66) = Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (Value.run (F := Ideal) m ρ).mono fun r h c => ⟨(h c).1.trans (Read.val_main_v51_eq m c), (h c).2.1.trans (Read.val_main_v66_eq m c), (h c).2.2⟩

end Cert.RgInRefIdeal

namespace Cert.RgInClaim

open Idealize.ShloMosaic Idealize.ShloMosaic.TcCoe Idealize.SL.Sem

set_option maxHeartbeats 1600000 in
/-- Over exact arithmetic the recurrent block's input kernel and its reference, run on the same arguments, end with the
    same two results. -/
theorem algebraic : Cert.algebraic_RgInIdeal_RgInRefIdeal := by
  pair_intro
  · run_from Cert.RgInIdeal.Gen.run_main m g
  · run_from Cert.RgInRefIdeal.run m' g'
    · rw [Cert.RgInIdeal.Step.final_conv m c]
      funext i
      rw [eq_ix3 i]
      exact Cert.RgInRefIdeal.Value.conv_apply _ _ _ _ _ _ _ _ _ _
    · rw [Cert.RgInIdeal.Step.final_gate m c]
      funext i
      rw [eq_ix3 i]
      exact Cert.RgInRefIdeal.Value.gate_apply _ _ _ _ _ _ _ _

end Cert.RgInClaim
-- ==== Proof.RgOutSpec.lean ====
module

public import proofs.«01_k».proof.Proof.FfnSpec
public import proofs.«01_k».proof.Proof.Gen.RgOutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The recurrent block's output projection of a token and the norm after it, and the arrays they make. -/

namespace Cert.RgOutIdeal.Step

open Cert.RgOutIdeal Cert.RgOutIdeal.Gen Idealize.ShloMosaic Idealize.ShloMosaic.TcCoe Idealize.SL.Sem
open Cert.FfnIdeal.Step (resid modulated)

/-- The residual stream at the arguments' coordinates: the two directions' states, summed and gated, are projected. -/
def residAt (x : FVec Ideal S8x8192x1024 .f32) (hf hb gl : FVec Ideal S8x8192x1024 .bf16) (g1 : FVec Ideal S8x1x1024 .f32)
    (w : FVec Ideal S1024x1024 .f32) (b : Fin 8) (n : Fin 8192) : Fin 1024 → EReal :=
  resid (fun j => x (ix3 b n j)) (fun k => (hf (ix3 b n k) + hb (ix3 b n k)) * gl (ix3 b n k)) (fun j => g1 (ix3 b 0 j)) (fun k j => w (ix2 k j))

/-- The modulated stream at the arguments' coordinates. -/
def normAt (x : FVec Ideal S8x8192x1024 .f32) (hf hb gl : FVec Ideal S8x8192x1024 .bf16) (g1 : FVec Ideal S8x1x1024 .f32)
    (sh sc : FVec Ideal S8x1x1024 .f32) (ng : FVec Ideal S1024 .f32) (w : FVec Ideal S1024x1024 .f32) (b : Fin 8) (n : Fin 8192) : Fin 1024 → EReal :=
  modulated (residAt x hf hb gl g1 w b n) (fun j => ng (ix1 j)) (fun j => sc (ix3 b 0 j)) (fun j => sh (ix3 b 0 j))

/-- The residual stream as an array. -/
def stream (x : FVec Ideal S8x8192x1024 .f32) (hf hb gl : FVec Ideal S8x8192x1024 .bf16) (g1 : FVec Ideal S8x1x1024 .f32)
    (w : FVec Ideal S1024x1024 .f32) : FVec Ideal S8x8192x1024 .f32 :=
  fun i => residAt x hf hb gl g1 w (i 0) (i 1) (i 2)

/-- The modulated stream as an array. -/
def norm (x : FVec Ideal S8x8192x1024 .f32) (hf hb gl : FVec Ideal S8x8192x1024 .bf16) (g1 : FVec Ideal S8x1x1024 .f32)
    (sh sc : FVec Ideal S8x1x1024 .f32) (ng : FVec Ideal S1024 .f32) (w : FVec Ideal S1024x1024 .f32) : FVec Ideal S8x8192x1024 .bf16 :=
  fun i => normAt x hf hb gl g1 sh sc ng w (i 0) (i 1) (i 2)

end Cert.RgOutIdeal.Step
-- ==== Proof.RgOutBlock.lean ====
module

public import proofs.«01_k».proof.Proof.RgOutSpec

@[expose] public section

set_option maxRecDepth 16384

noncomputable section

/-! One block of the recurrent block's output kernel, in terms of the input blocks' contents. -/

namespace Cert.RgOutIdeal.Step

open Cert.RgOutIdeal Cert.RgOutIdeal.Gen Idealize.ShloMosaic Idealize.ShloMosaic.TcCoe Idealize.SL.Sem
open Cert.FfnIdeal.Step (resid modulated)

/-- The residual payload at an index. -/
theorem pay2_apply (hf hb gl : Vec Ideal S1x512x1024 .bf16) (x : Vec Ideal S1x512x1024 .f32) (g : Vec Ideal S1x1x1024 .f32) (w : Vec Ideal S1024x1024 .bf16)
    (r : Fin 512) (j : Fin 1024) : k0_pay2 (F := Ideal) hf hb gl x g w (ix2 r j)
      = resid (fun j => x (ix3 0 r j)) (fun k => (hf (ix3 0 r k) + hb (ix3 0 r k)) * gl (ix3 0 r k)) (fun j => g (ix3 0 0 j)) (fun k j => w (ix2 k j)) j := by
  unfold resid
  pointwise [k0_pay2]

/-- The modulated payload at an index. -/
theorem pay6_apply (v : FVec Ideal S512x1024 .f32) (ng : Vec Ideal S1x1024 .f32) (sh sc : Vec Ideal S1x1x1024 .f32) (r : Fin 512) (j : Fin 1024) :
    k0_pay6 (F := Ideal) v (k0_pay4 (F := Ideal) ng) (k0_pay5 (F := Ideal) sh) sc (ix2 r j)
      = modulated (fun j => v (ix2 r j)) (fun j => ng (ix2 0 j)) (fun j => sc (ix3 0 0 j)) (fun j => sh (ix3 0 0 j)) j := by
  unfold modulated
  pointwise [k0_pay6, k0_pay5, k0_pay4]

variable (x0 : Vec Ideal S1x512x1024 .f32) (x1 x2 x3 : Vec Ideal S1x512x1024 .bf16) (x4 x5 x6 : Vec Ideal S1x1x1024 .f32) (x7 : Vec Ideal S1x1024 .f32)
    (x8 : Vec Ideal S1024x1024 .bf16) (x9 : Vec Ideal S1024x128 .f32)

/-- A row of the block's residual stream, from the input blocks. -/
def rrow (r : Fin 512) : Fin 1024 → EReal :=
  resid (fun j => x0 (ix3 0 r j)) (fun k => (x1 (ix3 0 r k) + x2 (ix3 0 r k)) * x3 (ix3 0 r k)) (fun j => x4 (ix3 0 0 j)) (fun k j => x8 (ix2 k j))

/-- The stored block of the residual stream at an index. -/
theorem stream_block (z : Fin 1) (r : Fin 512) (j : Fin 1024) :
    out0_10 (F := Ideal) x0 x1 x2 x3 x4 x5 x6 x7 x8 x9 (ix3 z r j) = rrow x0 x1 x2 x3 x4 x8 r j := by
  unfold out0_10
  frame_out
  have h3 : k0_pay3 (F := Ideal) x1 x2 x3 x0 x4 x8 (ix3 z r j) = k0_pay2 (F := Ideal) x1 x2 x3 x0 x4 x8 (ix2 r j) := by pointwise [k0_pay3]
  rw [h3, pay2_apply]
  rfl

/-- The stored block of the modulated stream at an index. -/
theorem norm_block (z : Fin 1) (r : Fin 512) (j : Fin 1024) :
    out0_11 (F := Ideal) x0 x1 x2 x3 x4 x5 x6 x7 x8 x9 (ix3 z r j)
      = modulated (rrow x0 x1 x2 x3 x4 x8 r) (fun j => x7 (ix2 0 j)) (fun j => x6 (ix3 0 0 j)) (fun j => x5 (ix3 0 0 j)) j := by
  unfold_out out0_11
  frame_out
  have h7 : ∀ v a b c, k0_pay7 (F := Ideal) v a b c (ix3 z r j) = k0_pay6 (F := Ideal) v a b c (ix2 r j) := fun v a b c => by pointwise [k0_pay7]
  rw [h7, pay6_apply]
  exact congrFun (congrArg (fun f => modulated f _ _ _) (funext fun k => pay2_apply x1 x2 x3 x0 x4 x8 r k)) j

end Cert.RgOutIdeal.Step
-- ==== Proof.RgOutKernel.lean ====
module

public import proofs.«01_k».proof.Proof.RgOutBlock
public import Idealize.ShloMosaic.Lib.Pipeline.Covers

@[expose] public section

set_option maxRecDepth 16384

noncomputable section

/-! The arrays that the recurrent block's output kernel leaves, at every coordinate. -/

namespace Cert.RgOutIdeal.Step

open Cert.RgOutIdeal Cert.RgOutIdeal.Gen Idealize.ShloMosaic Idealize.ShloMosaic.TcCoe Idealize.SL.Sem
open Cert.FfnIdeal.Step (resid modulated)

variable (m : (ℓ : Loc nD τ sig) → Buf (Elt Ideal) ℓ)

/-- Which block of each array a grid point reads or writes. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, 0, 0]
    ∧ win0_5.index t = ![t.val / 16, 0, 0] ∧ win0_6.index t = ![t.val / 16, 0, 0] ∧ win0_7.index t = ![0, 0] ∧ win0_8.index t = ![0, 0]
    ∧ win0_9.index t = ![0, 0] ∧ win0_10.index t = ![t.val / 16, t.val % 16, 0] ∧ win0_11.index t = ![t.val / 16, t.val % 16, 0] :=
  (by decide +kernel : ∀ t : Fin grid0.N, _)

/-- The blocks written back tile each result. -/
theorem covers10 : (cfg0.win 10).Covers := by
  refine (cfg0.win 10).covers_of_indexMap_surj rfl (by decide) fun β => ?_
  have h0 : (β ⟨0, by decide⟩).val < 8 := lt_of_lt_of_eq (β ⟨0, by decide⟩).isLt (by decide : (cfg0.win 10).nblk ⟨0, by decide⟩ = 8)
  have h1 : (β ⟨1, by decide⟩).val < 16 := lt_of_lt_of_eq (β ⟨1, by decide⟩).isLt (by decide : (cfg0.win 10).nblk ⟨1, by decide⟩ = 16)
  have h2 : (β ⟨2, by decide⟩).val < 1 := lt_of_lt_of_eq (β ⟨2, by decide⟩).isLt (by decide : (cfg0.win 10).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

@[inherit_doc covers10]
theorem covers11 : (cfg0.win 11).Covers := by
  refine (cfg0.win 11).covers_of_indexMap_surj rfl (by decide) fun β => ?_
  have h0 : (β ⟨0, by decide⟩).val < 8 := lt_of_lt_of_eq (β ⟨0, by decide⟩).isLt (by decide : (cfg0.win 11).nblk ⟨0, by decide⟩ = 8)
  have h1 : (β ⟨1, by decide⟩).val < 16 := lt_of_lt_of_eq (β ⟨1, by decide⟩).isLt (by decide : (cfg0.win 11).nblk ⟨1, by decide⟩ = 16)
  have h2 : (β ⟨2, by decide⟩).val < 1 := lt_of_lt_of_eq (β ⟨2, by decide⟩).isLt (by decide : (cfg0.win 11).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 16), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- A row of a grid point's residual stream is its token's. -/
theorem rrow_eq (c : Dev nD) (t : Fin cfg0.N) (r : Fin 512) (b : Fin 8) (n : Fin 8192) (hb : t.val / 16 = b.val) (hn : t.val % 16 * 512 + r.val = n.val) :
    rrow (iblk m c 0 t) (iblk m c 1 t) (iblk m c 2 t) (iblk m c 3 t) (iblk m c 4 t) (iblk m c 8 t) r
      = residAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) b n := by
  have hN : t.val < 128 := lt_of_lt_of_eq t.isLt (show cfg0.N = 128 from N_0)
  have hr := r.isLt
  have e0 : ∀ j, (show FVec Ideal S1x512x1024 .f32 from iblk m c 0 t) (ix3 0 r j) = (show FVec Ideal S8x8192x1024 .f32 from m ((c : Thread nD τ).loc main_arg0)) (ix3 b n j) := fun j => by
    blk_point [iblk, V, idx t]
  have e1 : ∀ j, (show FVec Ideal S1x512x1024 .bf16 from iblk m c 1 t) (ix3 0 r j) = (show FVec Ideal S8x8192x1024 .bf16 from m ((c : Thread nD τ).loc main_arg1)) (ix3 b n j) := fun j => by
    blk_point [iblk, V, idx t]
  have e2 : ∀ j, (show FVec Ideal S1x512x1024 .bf16 from iblk m c 2 t) (ix3 0 r j) = (show FVec Ideal S8x8192x1024 .bf16 from m ((c : Thread nD τ).loc main_arg2)) (ix3 b n j) := fun j => by
    blk_point [iblk, V, idx t]
  have e3 : ∀ j, (show FVec Ideal S1x512x1024 .bf16 from iblk m c 3 t) (ix3 0 r j) = (show FVec Ideal S8x8192x1024 .bf16 from m ((c : Thread nD τ).loc main_arg3)) (ix3 b n j) := fun j => by
    blk_point [iblk, V, idx t]
  have e4 : ∀ j, (show FVec Ideal S1x1x1024 .f32 from iblk m c 4 t) (ix3 0 0 j) = (show FVec Ideal S8x1x1024 .f32 from m ((c : Thread nD τ).loc main_arg4)) (ix3 b 0 j) := fun j => by
    blk_point [iblk, V, idx t]
  have e8 : ∀ k j, (show FVec Ideal S1024x1024 .bf16 from iblk m c 8 t) (ix2 k j) = (show FVec Ideal S1024x1024 .f32 from m ((c : Thread nD τ).loc main_arg8)) (ix2 k j) := fun k j => by
    blk_point [iblk, V, idx t]
  unfold rrow residAt
  exact congr (congr (congr (congrArg resid (funext e0)) (funext fun k => congr (congrArg _ (congr (congrArg _ (e1 k)) (e2 k))) (e3 k))) (funext e4)) (funext fun k => funext (e8 k))

/-- The residual stream's array after the run. -/
theorem final_stream (c : Dev nD) : (dats m 0 c).arrAt 10 cfg0.N = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 10 _ covers10 fun t hf y => ?_
  have hN : t.val < 128 := lt_of_lt_of_eq t.isLt (show cfg0.N = 128 from N_0)
  blk_simp
  rw [after0_10]
  idx_vars y
  rw [stream_block]
  have hb : t.val / 16 < 8 := by omega
  have hn : t.val % 16 * 512 + y1.val < 8192 := by have := y1.isLt; omega
  have he : ((View.whole main_v4_0).slice (win0_10.rect t)).emb (ix3 y0 y1 y2) = (ix3 ⟨t.val / 16, hb⟩ ⟨_, hn⟩ y2 : S8x8192x1024.Idx) := by
    blk_ext [idx t]
  rw [he]
  exact congrFun (rrow_eq m c t y1 ⟨t.val / 16, hb⟩ ⟨_, hn⟩ rfl rfl) y2

/-- The modulated stream's array after the run. -/
theorem final_norm (c : Dev nD) : (dats m 0 c).arrAt 11 cfg0.N = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ covers11 fun t hf y => ?_
  have hN : t.val < 128 := lt_of_lt_of_eq t.isLt (show cfg0.N = 128 from N_0)
  blk_simp
  rw [after0_11]
  idx_vars y
  rw [norm_block]
  have hb : t.val / 16 < 8 := by omega
  have hn : t.val % 16 * 512 + y1.val < 8192 := by have := y1.isLt; omega
  have he : ((View.whole main_v4_1).slice (win0_11.rect t)).emb (ix3 y0 y1 y2) = (ix3 ⟨t.val / 16, hb⟩ ⟨_, hn⟩ y2 : S8x8192x1024.Idx) := by
    blk_ext [idx t]
  rw [he]
  show _ = normAt _ _ _ _ _ _ _ _ _ ⟨t.val / 16, hb⟩ ⟨_, hn⟩ y2
  have e5 : ∀ j, (show FVec Ideal S1x1x1024 .f32 from iblk m c 5 t) (ix3 0 0 j) = (show FVec Ideal S8x1x1024 .f32 from m ((c : Thread nD τ).loc main_arg5)) (ix3 ⟨t.val / 16, hb⟩ 0 j) := fun j => by
    blk_point [iblk, V, idx t]
  have e6 : ∀ j, (show FVec Ideal S1x1x1024 .f32 from iblk m c 6 t) (ix3 0 0 j) = (show FVec Ideal S8x1x1024 .f32 from m ((c : Thread nD τ).loc main_arg6)) (ix3 ⟨t.val / 16, hb⟩ 0 j) := fun j => by
    blk_point [iblk, V, idx t]
  have e7 : ∀ j, (show FVec Ideal S1x1024 .f32 from iblk m c 7 t) (ix2 0 j) = (show FVec Ideal S1024 .f32 from m ((c : Thread nD τ).loc main_arg7)) (ix1 j) := fun j => by
    blk_point [iblk, V, idx t]
  unfold normAt
  exact congr (congr (congr (congr (congrArg modulated (rrow_eq m c t y1 ⟨t.val / 16, hb⟩ ⟨_, hn⟩ rfl rfl)) (funext e7)) (funext e6)) (funext e5)) rfl

end Cert.RgOutIdeal.Step
-- ==== Proof.RgOutRef.lean ====
module

public import proofs.«01_k».proof.Proof.RgOutSpec
public import proofs.«01_k».proof.Proof.Gen.RgOutRefIdeal.Read

@[expose] public section

set_option maxRecDepth 16384

noncomputable section

/-! The reference's output projection of the recurrent block and the norm after it, read at every coordinate. -/

namespace Cert.RgOutRefIdeal.Value

open Cert.RgOutRefIdeal Cert.RgOutRefIdeal.Gen Cert.RgOutRefIdeal.Read Idealize.ShloMosaic Idealize.ShloMosaic.TcCoe Idealize.SL.Sem
open Idealize.ShloMosaic.StableHlo Cert.RgOutIdeal.Step
open Cert.FfnIdeal.Step (resid modulated)

variable (x0 : FVec Ideal S8x8192x1024 .f32) (x1 x2 x3 : FVec Ideal S8x8192x1024 .bf16) (x4 x5 x6 : FVec Ideal S8x1x1024 .f32) (x7 : FVec Ideal S1024 .f32)
    (x8 : FVec Ideal S1024x1024 .f32)

/-- The residual stream at an index. -/
theorem stream_apply (b : Fin 8) (n : Fin 8192) (j : Fin 1024) : val_main_v8 (F := Ideal) x0 x1 x2 x3 x4 x8 (ix3 b n j) = residAt x0 x1 x2 x3 x4 x8 b n j := by
  unfold residAt resid
  pointwise [val_main_v8, val_main_v7, val_main_v6, val_main_v5, val_main_v4, val_main_v3, val_main_v2, val_main_v1, val_main_v0]

/-- The modulated stream at an index. -/
theorem norm_apply (b : Fin 8) (n : Fin 8192) (j : Fin 1024) : val_main_v28 (F := Ideal) x0 x1 x2 x3 x4 x5 x6 x7 x8 (ix3 b n j)
    = normAt x0 x1 x2 x3 x4 x5 x6 x7 x8 b n j := by
  unfold normAt modulated
  pointwise [val_main_v28, val_main_v27, val_main_v26, val_main_v25, val_main_v24, val_main_v23, val_main_v22, val_main_cst_2, val_main_v21, val_main_v20,
    val_main_v19, val_main_v18, val_main_v17, val_main_v16, val_main_v15, val_main_v14, val_main_cst_1, val_main_v13, val_main_v12, val_main_cst_0, val_main_v11,
    val_main_v10, val_main_cst, val_main_v9, stream_apply]

end Cert.RgOutRefIdeal.Value
-- ==== Proof.RgOutClaim.lean ====
module

public import proofs.«01_k».proof.Defs
public import proofs.«01_k».proof.Proof.RgOutKernel
public import proofs.«01_k».proof.Proof.RgOutRef
public import Idealize.ShloMosaic.Lib.Claim
public import Idealize.ShloMosaic.Lib.Quiescent

@[expose] public section

set_option maxRecDepth 16384

noncomputable section

/-! The claim about the recurrent block's output projection and the norm after it: kernel and reference leave the same two arrays. -/

namespace Cert.RgOutRefIdeal

open Cert.RgOutRefIdeal.Gen Idealize.ShloMosaic Idealize.ShloMosaic.TcCoe Idealize.SL.Sem Idealize.ShloMosaic.StableHlo

/-- The reference's run: its results are its operations' composed values over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = Read.val_main_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v28) = Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (Value.run (F := Ideal) m ρ).mono fun r h c => ⟨(h c).1.trans (Read.val_main_v8_eq _ _ _ _ _ _), (h c).2.1.trans (Read.val_main_v28_eq _ _ _ _ _ _ _ _ _), (h c).2.2⟩

end Cert.RgOutRefIdeal

namespace Cert.RgOutClaim

open Idealize.ShloMosaic Idealize.ShloMosaic.TcCoe Idealize.SL.Sem

set_option maxHeartbeats 1600000 in
/-- Over exact arithmetic the recurrent block's output kernel and its reference, run on the same arguments, end with the
    same two results. -/
theorem algebraic : Cert.algebraic_RgOutIdeal_RgOutRefIdeal := by
  pair_intro
  · run_from Cert.RgOutIdeal.Gen.run_main m g
  · run_from Cert.RgOutRefIdeal.run m' g'
    · rw [Cert.RgOutIdeal.Step.final_stream m c]
      funext i
      rw [eq_ix3 i]
      exact Cert.RgOutRefIdeal.Value.stream_apply _ _ _ _ _ _ _ _ _
    · rw [Cert.RgOutIdeal.Step.final_norm m c]
      funext i
      rw [eq_ix3 i]
      exact Cert.RgOutRefIdeal.Value.norm_apply _ _ _ _ _ _ _ _ _ _ _ _

end Cert.RgOutClaim
-- ==== Proof.MoeCtxPre.lean ====
module

public import proofs.«01_k».proof.Defs
public import proofs.«01_k».proof.Proof.Gen.Pre_gates_ctx
public import proofs.«01_k».proof.Proof.Gen.MoeCtxIdeal
public import Idealize.ShloMosaic.Lib.ReduceAll
public import Idealize.ShloMosaic.Lib.Pointwise

@[expose] public section

set_option maxRecDepth 16384

noncomputable section

/-! For the context's tokens. The precondition of the expert feed-forward, in words: the weights of the eight experts are non-negative and finite. -/

namespace Cert.MoeCtxPre

open Cert.Pre_gates_ctx Idealize.ShloMosaic Idealize.ShloMosaic.TcCoe Idealize.SL.Sem

instance : Subsingleton S_.Idx := ⟨fun a b => funext fun i => i.elim0⟩

/-- The pattern of positive infinity. -/
theorem ofBits_inf : Ideal.ofBits .f32 0x7F800000#32 = ⊤ := by simp [Ideal.ofBits, Ideal.ieee]

/-- The predicate read at each weight. -/
theorem fn_iff (x0 : FVec Ideal S8x256x1024 .bf16) (x1 : FVec Ideal S8x256x128 .f32) (x2 : FVec Ideal S8x256x1024 .f32)
    (x3 : FVec Ideal S8x1x1024 .f32) (x4 x5 : FVec Ideal S8x1024x3584 .f32) (x6 : FVec Ideal S8x3584x1024 .f32)
    (h : Cert.Pre_gates_ctx.fn (F := Ideal) x0 x1 x2 x3 x4 x5 x6 = fun _ => 1#1) (b : Fin 8) (n : Fin 256) (e : Fin 8) :
    0 ≤ x1 (ix3 b n ⟨e.val, by omega⟩) ∧ x1 (ix3 b n ⟨e.val, by omega⟩) ≠ ⊤ := by
  have h' := congrFun h (fun i => i.elim0)
  obtain ⟨ha, hb⟩ := IntOp.andi_eq_one.1 h'
  have a := Host.reduce_andi_all _ _ _ _ _ ha (ix3 b n e)
  have a2 := Host.reduce_andi_all _ _ _ _ _ hb (ix3 b n e)
  pointwise at a
  pointwise at a2
  rw [ofBits_inf] at a2
  have of1 : ∀ p : Bool, BitVec.ofBool p = 1#1 → p = true := by decide
  exact ⟨of_decide_eq_true (of1 _ a), ne_of_lt (of_decide_eq_true (of1 _ a2))⟩

end Cert.MoeCtxPre
-- ==== Proof.MoeCtxStep.lean ====
module

public import proofs.«01_k».proof.Proof.Gen.MoeCtxIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! For the context's tokens. One grid point of the expert feed-forward: what it adds to the running sum, and what the last point of a token
block stores. -/

namespace Cert.MoeCtxIdeal.Step

open Cert.MoeCtxIdeal Cert.MoeCtxIdeal.Gen Idealize.ShloMosaic Idealize.ShloMosaic.TcCoe Idealize.SL.Sem

variable (m : (ℓ : Loc nD τ sig) → Buf (Elt Ideal) ℓ)

/-- The weight a grid point gives its expert, of the rows of its block: the lane of the weights the point's third
    coordinate names. -/
abbrev cw (c : Dev nD) (t : Fin cfg0.N) : FVec Ideal S256x1 .f32 := k0_pay5 (grid0.coords t) (iblk m c 1 t)

/-- The gated hidden activation of a grid point's chunk. -/
abbrev act (c : Dev nD) (t : Fin cfg0.N) : FVec Ideal S256x896 .bf16 := k0_pay4 (iblk m c 0 t) (iblk m c 4 t) (iblk m c 5 t)

/-- What a grid point adds to the running sum: the expert's weight times its chunk of the second projection. -/
def term (c : Dev nD) (t : Fin cfg0.N) (y : S256x1024.Idx) : EReal :=
  cw m c t (ix2 (y 0) 0) * ∑ k : Fin 896, act m c t (ix2 (y 0) k) * (show FVec Ideal S1x896x1024 .bf16 from iblk m c 6 t) (ix3 0 k (y 1))

/-- The stored update is the old running sum plus the weighted product. -/
theorem pay1_apply (a : FVec Ideal S256x896 .bf16) (w : FVec Ideal S256x1 .f32) (v : FVec Ideal S256x1024 .f32)
    (b : FVec Ideal S1x896x1024 .bf16) (y : S256x1024.Idx) :
    k0_pay1 (F := Ideal) a w v b y = v y + w (ix2 (y 0) 0) * ∑ k : Fin 896, a (ix2 (y 0) k) * b (ix3 0 k (y 1)) := by
  idx_vars y
  pointwise [k0_pay1]

/-- The first point of a run starts from zero. -/
theorem first (c : Dev nD) (t : Fin cfg0.N) (h0 : t.val % 32 = 0) (y : S256x1024.Idx) :
    (outsAt0 m c t.val t.isLt).2 y = 0 + term m c t y := by
  rw [outsAt0_A m c t h0 (by omega)]
  frame_out
  refine (pay1_apply _ _ _ _ y).trans ?_
  have hz : k0_pay3 (F := Ideal) y = 0 := by pointwise [k0_pay3]
  rw [hz]
  rfl

/-- A later point adds its term. -/
theorem step (c : Dev nD) (t : Fin cfg0.N) (h0 : ¬t.val % 32 = 0) (y : S256x1024.Idx) :
    (outsAt0 m c t.val t.isLt).2 y
      = (outsAt0 m c (t.val - 1) (Nat.lt_of_le_of_lt (Nat.sub_le _ _) t.isLt)).2 y + term m c t y := by
  by_cases h1 : t.val % 32 = 31
  · rw [outsAt0_C m c t h0 h1]
    frame_out
    simp only [read_unread_whole]
    exact pay1_apply _ _ _ _ y
  · rw [outsAt0_B m c t h0 h1]
    frame_out
    simp only [read_unread_whole]
    exact pay1_apply _ _ _ _ y

/-- The last point of a run stores the residual plus the gate times the running sum. -/
theorem last (c : Dev nD) (t : Fin cfg0.N) (h1 : t.val % 32 = 31) :
    (outsAt0 m c t.val t.isLt).1 = k0_pay2 (iblk m c 2 t) (iblk m c 3 t) (outsAt0 m c t.val t.isLt).2 := by
  rw [outsAt0_C m c t (by omega) h1]
  frame_out

end Cert.MoeCtxIdeal.Step
-- ==== Proof.MoeCtxIdx.lean ====
module

public import proofs.«01_k».proof.Proof.MoeCtxStep

@[expose] public section

set_option maxRecDepth 16384

noncomputable section

/-! For the context's tokens. The blocks the grid points of the expert feed-forward read and write, in closed form. -/

namespace Cert.MoeCtxIdeal.Step

open Cert.MoeCtxIdeal Cert.MoeCtxIdeal.Gen Idealize.ShloMosaic Idealize.ShloMosaic.TcCoe Idealize.SL.Sem

/-- Which block of each array a grid point reads or writes. -/
theorem idx : ∀ t : Fin cfg0.N, win0_0.index t = ![t.val / 32, 0, 0] ∧ win0_1.index t = ![t.val / 32, 0, 0]
    ∧ win0_2.index t = ![t.val / 32, 0, 0] ∧ win0_3.index t = ![t.val / 32, 0, 0]
    ∧ win0_4.index t = ![t.val / 4 % 8, 0, t.val % 4] ∧ win0_5.index t = ![t.val / 4 % 8, 0, t.val % 4]
    ∧ win0_6.index t = ![t.val / 4 % 8, t.val % 4, 0] ∧ win0_7.index t = ![t.val / 32, 0, 0] :=
  (by decide +kernel : ∀ t : Fin grid0.N, _)

/-- The expert a grid point works on. -/
theorem coord2 : ∀ t : Fin cfg0.N, (grid0.coords t 2).val = t.val / 4 % 8 :=
  (by decide +kernel : ∀ t : Fin grid0.N, _)

end Cert.MoeCtxIdeal.Step
-- ==== Proof.MoeCtxTerm.lean ====
module

public import proofs.«01_k».proof.Proof.MoeCtxStep
public import proofs.«01_k».proof.Proof.MoeCtxIdx

@[expose] public section

set_option maxRecDepth 16384

noncomputable section

/-! For the context's tokens. A grid point's term of the expert feed-forward, read at the arguments' own coordinates. -/

namespace Cert.MoeCtxIdeal.Step

open Cert.MoeCtxIdeal Cert.MoeCtxIdeal.Gen Idealize.ShloMosaic Idealize.ShloMosaic.TcCoe Idealize.SL.Sem

variable (m : (ℓ : Loc nD τ sig) → Buf (Elt Ideal) ℓ)

/-- One coordinate of a hidden projection of a token by an expert. -/
def pre (h : FVec Ideal S8x256x1024 .bf16) (w : FVec Ideal S8x1024x3584 .f32) (b : Fin 8) (n : Fin 256) (e : Fin 8) (f : Fin 3584) : EReal :=
  ∑ d : Fin 1024, h (ix3 b n d) * w (ix3 e d f)

/-- One coordinate of the gated hidden activation of a token by an expert. -/
def hid (h : FVec Ideal S8x256x1024 .bf16) (w1 w3 : FVec Ideal S8x1024x3584 .f32) (b : Fin 8) (n : Fin 256) (e : Fin 8) (f : Fin 3584) : EReal :=
  pre h w1 b n e f * Ideal.logistic (pre h w1 b n e f) * pre h w3 b n e f

/-- The weight payload picks the lane its coordinate names. -/
theorem pay5_apply (i : grid0.Coords) (v : FVec Ideal S1x256x128 .f32) (r : Fin 256) (e : Fin 128) (he : (i 2).val = e.val) :
    k0_pay5 (F := Ideal) i v (ix2 r 0) = v (ix3 0 r e) := by
  pointwise [k0_pay5]
  rw [he]
  rw [Finset.sum_eq_single e]
  · simp [Scalar.select, IntOp.cmpi]
  · intro x _ hx
    have h1 : BitVec.ofNat 32 x.val ≠ BitVec.ofNat 32 e.val := by
      intro h
      have := congrArg BitVec.toNat h
      simp only [BitVec.toNat_ofNat] at this
      have := x.isLt
      have := e.isLt
      exact hx (Fin.ext (by omega))
    simp [Scalar.select, IntOp.cmpi, beq_eq_false_iff_ne.mpr h1]
  · simp

/-- The activation payload at an index. -/
theorem pay4_apply (h : FVec Ideal S1x256x1024 .bf16) (w1 w3 : FVec Ideal S1x1024x896 .bf16) (r : Fin 256) (k : Fin 896) :
    k0_pay4 (F := Ideal) h w1 w3 (ix2 r k)
      = (∑ x : Fin 1024, h (ix3 0 r x) * w1 (ix3 0 x k)) * Ideal.logistic (∑ x : Fin 1024, h (ix3 0 r x) * w1 (ix3 0 x k))
        * ∑ x : Fin 1024, h (ix3 0 r x) * w3 (ix3 0 x k) := by
  pointwise [k0_pay4]

/-- The output payload at an index. -/
theorem pay2_apply (x : FVec Ideal S1x256x1024 .f32) (g : FVec Ideal S1x1x1024 .f32) (a : FVec Ideal S256x1024 .f32) (z : Fin 1) (r : Fin 256) (k : Fin 1024) :
    k0_pay2 (F := Ideal) x g a (ix3 z r k) = x (ix3 z r k) + g (ix3 0 0 k) * a (ix2 r k) := by
  obtain rfl : z = 0 := Subsingleton.elim _ _
  pointwise [k0_pay2]

/-- A grid point's term at the arguments' coordinates: the weight of its expert times the chunk of 896 hidden
    coordinates the point contracts. -/
theorem term_apply (c : Dev nD) (t : Fin cfg0.N) (r : Fin 256) (j : Fin 1024) (b : Fin 8) (n : Fin 256) (e : Fin 8) (q : Fin 4)
    (hb : t.val / 32 = b.val) (hn : r.val = n.val) (he : t.val / 4 % 8 = e.val) (hq : t.val % 4 = q.val) :
    term m c t (ix2 r j)
      = (show FVec Ideal S8x256x128 .f32 from m ((c : Thread nD τ).loc main_arg1)) (ix3 b n ⟨e.val, by omega⟩)
        * ∑ k : Fin 896, hid (m ((c : Thread nD τ).loc main_arg0)) (m ((c : Thread nD τ).loc main_arg4)) (m ((c : Thread nD τ).loc main_arg5)) b n e ⟨896 * q.val + k.val, by omega⟩
          * (show FVec Ideal S8x3584x1024 .f32 from m ((c : Thread nD τ).loc main_arg6)) (ix3 e ⟨896 * q.val + k.val, by omega⟩ j) := by
  unfold term cw act
  rw [show ((ix2 r j : S256x1024.Idx) 0) = r from rfl, show ((ix2 r j : S256x1024.Idx) 1) = j from rfl]
  rw [pay5_apply _ _ r ⟨e.val, by omega⟩ ((coord2 t).trans he)]
  simp only [pay4_apply, hid, pre]
  blk_point [iblk, V, idx t]

end Cert.MoeCtxIdeal.Step
-- ==== Proof.MoeCtxKernel.lean ====
module

public import proofs.«01_k».proof.Proof.MoeCtxTerm
public import proofs.«01_k».proof.Proof.MoeAlgebra
public import Idealize.ShloMosaic.Lib.Pipeline.Covers

@[expose] public section

set_option maxRecDepth 16384

noncomputable section

/-! For the context's tokens. The array the expert feed-forward leaves, at every coordinate. -/

namespace Cert.MoeCtxIdeal.Step

open Cert.MoeCtxIdeal Cert.MoeCtxIdeal.Gen Idealize.ShloMosaic Idealize.ShloMosaic.TcCoe Idealize.SL.Sem

variable (m : (ℓ : Loc nD τ sig) → Buf (Elt Ideal) ℓ)

/-- The expert feed-forward at coordinates: the residual plus the gate times the weighted sum over the experts of their
    second projection. -/
def moeAt (h : FVec Ideal S8x256x1024 .bf16) (cb : FVec Ideal S8x256x128 .f32) (x1 : FVec Ideal S8x256x1024 .f32)
    (g : FVec Ideal S8x1x1024 .f32) (w1 w3 : FVec Ideal S8x1024x3584 .f32) (w2 : FVec Ideal S8x3584x1024 .f32)
    (b : Fin 8) (n : Fin 256) (j : Fin 1024) : EReal :=
  x1 (ix3 b n j) + g (ix3 b 0 j) * ∑ e : Fin 8, cb (ix3 b n ⟨e.val, by omega⟩) * ∑ f : Fin 3584, hid h w1 w3 b n e f * w2 (ix3 e f j)

/-- The same as an array. -/
def moe (h : FVec Ideal S8x256x1024 .bf16) (cb : FVec Ideal S8x256x128 .f32) (x1 : FVec Ideal S8x256x1024 .f32)
    (g : FVec Ideal S8x1x1024 .f32) (w1 w3 : FVec Ideal S8x1024x3584 .f32) (w2 : FVec Ideal S8x3584x1024 .f32) : FVec Ideal S8x256x1024 .f32 :=
  fun i => moeAt h cb x1 g w1 w3 w2 (i 0) (i 1) (i 2)

/-- The running sum at the last point of a token block is the weighted sum over all experts. -/
theorem acc_last (c : Dev nD) (t : Fin cfg0.N) (h1 : t.val % 32 = 31) (r : Fin 256) (j : Fin 1024) (b : Fin 8) (n : Fin 256)
    (hb : t.val / 32 = b.val) (hn : r.val = n.val)
    (h0 : ∀ (b : Fin 8) (n : Fin 256) (e : Fin 8), 0 ≤ (show FVec Ideal S8x256x128 .f32 from m ((c : Thread nD τ).loc main_arg1)) (ix3 b n ⟨e.val, by omega⟩))
    (ht : ∀ (b : Fin 8) (n : Fin 256) (e : Fin 8), (show FVec Ideal S8x256x128 .f32 from m ((c : Thread nD τ).loc main_arg1)) (ix3 b n ⟨e.val, by omega⟩) ≠ ⊤) :
    (outsAt0 m c t.val t.isLt).2 (ix2 r j)
      = ∑ e : Fin 8, (show FVec Ideal S8x256x128 .f32 from m ((c : Thread nD τ).loc main_arg1)) (ix3 b n ⟨e.val, by omega⟩)
        * ∑ f : Fin 3584, hid (m ((c : Thread nD τ).loc main_arg0)) (m ((c : Thread nD τ).loc main_arg4)) (m ((c : Thread nD τ).loc main_arg5)) b n e f
          * (show FVec Ideal S8x3584x1024 .f32 from m ((c : Thread nD τ).loc main_arg6)) (ix3 e f j) := by
  have hN : t.val < 256 := lt_of_lt_of_eq t.isLt (show cfg0.N = 256 from N_0)
  have hs := Pipeline.eq_sum_fin_of_reset_step_apply_of_flush (M := EReal) (fun n h => (outsAt0 m c n h).2) 32 (fun _ => 0) (term m c)
    (first m c) (step m c) t h1 (ix2 r j)
  refine hs.trans ?_
  rw [zero_add]
  refine Eq.trans ?_ (MoeAlgebra.chunks
    (fun e => (show FVec Ideal S8x256x128 .f32 from m ((c : Thread nD τ).loc main_arg1)) (ix3 b n ⟨e.val, by omega⟩))
    (fun e f => hid (m ((c : Thread nD τ).loc main_arg0)) (m ((c : Thread nD τ).loc main_arg4)) (m ((c : Thread nD τ).loc main_arg5)) b n e f
          * (show FVec Ideal S8x3584x1024 .f32 from m ((c : Thread nD τ).loc main_arg6)) (ix3 e f j))
    (h0 b n) (ht b n))
  refine Finset.sum_congr rfl fun s _ => ?_
  have hv : (32 * (t.val / 32) + s.val) / 32 = b.val := by omega
  exact term_apply m c _ r j b n ⟨s.val / 4, by omega⟩ ⟨s.val % 4, by omega⟩ hv
    (by show r.val = n.val; omega)
    (by show (32 * (t.val / 32) + s.val) / 4 % 8 = s.val / 4; omega)
    (by show (32 * (t.val / 32) + s.val) % 4 = s.val % 4; omega)

/-- The blocks written back tile the result. -/
theorem covers : (cfg0.win 7).Covers := by
  refine (cfg0.win 7).covers_of_indexMap_surj rfl (by decide) fun β => ?_
  have h0 : (β ⟨0, by decide⟩).val < 8 := lt_of_lt_of_eq (β ⟨0, by decide⟩).isLt (by decide : (cfg0.win 7).nblk ⟨0, by decide⟩ = 8)
  have h1 : (β ⟨1, by decide⟩).val < 1 := lt_of_lt_of_eq (β ⟨1, by decide⟩).isLt (by decide : (cfg0.win 7).nblk ⟨1, by decide⟩ = 1)
  have h2 : (β ⟨2, by decide⟩).val < 1 := lt_of_lt_of_eq (β ⟨2, by decide⟩).isLt (by decide : (cfg0.win 7).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 1)
      | ⟨2, _⟩ => (0 : Fin 8)
      | ⟨3, _⟩ => (0 : Fin 4), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- The result array after the run. -/
theorem final (c : Dev nD)
    (h0 : ∀ (b : Fin 8) (n : Fin 256) (e : Fin 8), 0 ≤ (show FVec Ideal S8x256x128 .f32 from m ((c : Thread nD τ).loc main_arg1)) (ix3 b n ⟨e.val, by omega⟩))
    (ht : ∀ (b : Fin 8) (n : Fin 256) (e : Fin 8), (show FVec Ideal S8x256x128 .f32 from m ((c : Thread nD τ).loc main_arg1)) (ix3 b n ⟨e.val, by omega⟩) ≠ ⊤) :
    (dats m 0 c).arrAt 7 cfg0.N = moe (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ covers fun t hf y => ?_
  have h31 := (flush0_7 t).mp hf
  have hN : t.val < 256 := lt_of_lt_of_eq t.isLt (show cfg0.N = 256 from N_0)
  blk_simp
  rw [after0_7, last m c t h31]
  idx_vars y
  refine (pay2_apply _ _ _ _ _ _).trans ?_
  have hb : t.val / 32 < 8 := by omega
  have hn : y1.val < 256 := by have := y1.isLt; omega
  rw [acc_last m c t h31 y1 y2 ⟨t.val / 32, hb⟩ ⟨_, hn⟩ rfl rfl h0 ht]
  have he : ((View.whole main_v3).slice (win0_7.rect t)).emb (ix3 y0 y1 y2) = (ix3 ⟨t.val / 32, hb⟩ ⟨_, hn⟩ y2 : S8x256x1024.Idx) := by
    blk_ext [idx t]
  rw [he]
  show _ = moeAt _ _ _ _ _ _ _ ⟨t.val / 32, hb⟩ ⟨_, hn⟩ y2
  unfold moeAt
  blk_point [iblk, V, idx t]

end Cert.MoeCtxIdeal.Step
-- ==== Proof.MoeCtxRef.lean ====
module

public import proofs.«01_k».proof.Proof.MoeCtxKernel
public import proofs.«01_k».proof.Proof.Gen.MoeCtxRefIdeal.Read
public import Idealize.ShloMosaic.Lib.Pointwise

@[expose] public section

set_option maxRecDepth 16384

noncomputable section

/-! For the context's tokens. The reference's expert feed-forward, read at every coordinate. -/

namespace Cert.MoeCtxRefIdeal.Value

open Cert.MoeCtxRefIdeal Cert.MoeCtxRefIdeal.Gen Cert.MoeCtxRefIdeal.Read Idealize.ShloMosaic Idealize.ShloMosaic.TcCoe Idealize.SL.Sem
open Idealize.ShloMosaic.StableHlo

/-- One hidden projection by one expert, as the reference writes it. -/
def proj (x0 : FVec Ideal S8x256x1024 .bf16) (w : FVec Ideal S8x1024x3584 .f32) (e : Nat) (h : S8x1024x3584.Slices ![e, 0, 0] S1x1024x3584) :
    FVec Ideal S8x256x3584 .f32 :=
  Host.dotGeneral dot_S8x256x1024_S1024x3584_S8x256x3584_2_0_01_1_n_n none (extf .f32 x0 bitsLt_bf16_f32)
    (shapeCast S1024x3584 (extractStridedSlice S1x1024x3584 ![e, 0, 0] w h) shapeCasts_S1x1024x3584_S1024x3584)

/-- The product of a projection with its logistic, as the reference writes it. -/
def silu (p : FVec Ideal S8x256x3584 .f32) : FVec Ideal S8x256x3584 .f32 :=
  mulf p (Host.divf (broadcastInDim S8x256x3584 ![] bcast_S_S8x256x3584 (constant S_ .f32 0x3F800000#32))
    (addf (broadcastInDim S8x256x3584 ![] bcast_S_S8x256x3584 (constant S_ .f32 0x3F800000#32)) (Host.exp (Host.negf p))))

/-- One expert's weighted output, as the reference writes it. -/
def expert (x0 : FVec Ideal S8x256x1024 .bf16) (x1 : FVec Ideal S8x256x128 .f32) (x4 x5 : FVec Ideal S8x1024x3584 .f32)
    (x6 : FVec Ideal S8x3584x1024 .f32) (e : Nat) (h : S8x1024x3584.Slices ![e, 0, 0] S1x1024x3584)
    (h1 : S8x256x128.Slices ![0, 0, e] S8x256x1) (h6 : S8x3584x1024.Slices ![e, 0, 0] S1x3584x1024) : FVec Ideal S8x256x1024 .f32 :=
  mulf (broadcastInDim S8x256x1024 ![0, 1, 2] bcast_S8x256x1_S8x256x1024_0_1_2 (extractStridedSlice S8x256x1 ![0, 0, e] x1 h1))
    (Host.dotGeneral dot_S8x256x3584_S3584x1024_S8x256x1024_2_0_01_1_n_n none (mulf (silu (proj x0 x4 e h)) (proj x0 x5 e h))
      (shapeCast S3584x1024 (extractStridedSlice S1x3584x1024 ![e, 0, 0] x6 h6) shapeCasts_S1x3584x1024_S3584x1024))

/-- A projection at an index. -/
theorem proj_apply (x0 : FVec Ideal S8x256x1024 .bf16) (w : FVec Ideal S8x1024x3584 .f32) (e : Fin 8) (h : S8x1024x3584.Slices ![e.val, 0, 0] S1x1024x3584)
    (b : Fin 8) (n : Fin 256) (f : Fin 3584) : proj x0 w e.val h (ix3 b n f) = Cert.MoeCtxIdeal.Step.pre x0 w b n e f := by
  unfold Cert.MoeCtxIdeal.Step.pre
  pointwise [proj]

/-- One expert's weighted output at an index. -/
theorem expert_apply (x0 : FVec Ideal S8x256x1024 .bf16) (x1 : FVec Ideal S8x256x128 .f32) (x4 x5 : FVec Ideal S8x1024x3584 .f32)
    (x6 : FVec Ideal S8x3584x1024 .f32) (e : Fin 8) (h : S8x1024x3584.Slices ![e.val, 0, 0] S1x1024x3584)
    (h1 : S8x256x128.Slices ![0, 0, e.val] S8x256x1) (h6 : S8x3584x1024.Slices ![e.val, 0, 0] S1x3584x1024) (b : Fin 8) (n : Fin 256) (j : Fin 1024) :
    expert x0 x1 x4 x5 x6 e.val h h1 h6 (ix3 b n j)
      = x1 (ix3 b n ⟨e.val, by omega⟩) * ∑ f : Fin 3584, Cert.MoeCtxIdeal.Step.hid x0 x4 x5 b n e f * x6 (ix3 e f j) := by
  unfold Cert.MoeCtxIdeal.Step.hid
  pointwise [expert, silu, proj_apply]
  rfl

/-- The reference's result at an index. -/
theorem ref_apply (x0 : FVec Ideal S8x256x1024 .bf16) (x1 : FVec Ideal S8x256x128 .f32) (x2 : FVec Ideal S8x256x1024 .f32)
    (x3 : FVec Ideal S8x1x1024 .f32) (x4 x5 : FVec Ideal S8x1024x3584 .f32) (x6 : FVec Ideal S8x3584x1024 .f32) (b : Fin 8) (n : Fin 256) (j : Fin 1024) :
    val_main_v124 (F := Ideal) x0 x1 x2 x3 x4 x5 x6 (ix3 b n j) = Cert.MoeCtxIdeal.Step.moeAt x0 x1 x2 x3 x4 x5 x6 b n j := by
  have e0 := expert_apply x0 x1 x4 x5 x6 0 slices_S8x1024x3584_S1x1024x3584_0_0_0 slices_S8x256x128_S8x256x1_0_0_0 slices_S8x3584x1024_S1x3584x1024_0_0_0 b n j
  have e1 := expert_apply x0 x1 x4 x5 x6 1 slices_S8x1024x3584_S1x1024x3584_1_0_0 slices_S8x256x128_S8x256x1_0_0_1 slices_S8x3584x1024_S1x3584x1024_1_0_0 b n j
  have e2 := expert_apply x0 x1 x4 x5 x6 2 slices_S8x1024x3584_S1x1024x3584_2_0_0 slices_S8x256x128_S8x256x1_0_0_2 slices_S8x3584x1024_S1x3584x1024_2_0_0 b n j
  have e3 := expert_apply x0 x1 x4 x5 x6 3 slices_S8x1024x3584_S1x1024x3584_3_0_0 slices_S8x256x128_S8x256x1_0_0_3 slices_S8x3584x1024_S1x3584x1024_3_0_0 b n j
  have e4 := expert_apply x0 x1 x4 x5 x6 4 slices_S8x1024x3584_S1x1024x3584_4_0_0 slices_S8x256x128_S8x256x1_0_0_4 slices_S8x3584x1024_S1x3584x1024_4_0_0 b n j
  have e5 := expert_apply x0 x1 x4 x5 x6 5 slices_S8x1024x3584_S1x1024x3584_5_0_0 slices_S8x256x128_S8x256x1_0_0_5 slices_S8x3584x1024_S1x3584x1024_5_0_0 b n j
  have e6 := expert_apply x0 x1 x4 x5 x6 6 slices_S8x1024x3584_S1x1024x3584_6_0_0 slices_S8x256x128_S8x256x1_0_0_6 slices_S8x3584x1024_S1x3584x1024_6_0_0 b n j
  have e7 := expert_apply x0 x1 x4 x5 x6 7 slices_S8x1024x3584_S1x1024x3584_7_0_0 slices_S8x256x128_S8x256x1_0_0_7 slices_S8x3584x1024_S1x3584x1024_7_0_0 b n j
  unfold Cert.MoeCtxIdeal.Step.moeAt
  rw [Fin.sum_univ_eight, ← e0, ← e1, ← e2, ← e3, ← e4, ← e5, ← e6, ← e7]
  pointwise [val_main_v124, val_main_v123, val_main_v122, val_main_v121, val_main_v106, val_main_v91, val_main_v76, val_main_v61, val_main_v46, val_main_v31, val_main_v16, val_main_v1, val_main_cst]
  rfl

end Cert.MoeCtxRefIdeal.Value
-- ==== Proof.MoeCtxClaim.lean ====
module

public import proofs.«01_k».proof.Proof.MoeCtxPre
public import proofs.«01_k».proof.Proof.MoeCtxRef
public import Idealize.ShloMosaic.Lib.Claim
public import Idealize.ShloMosaic.Lib.Quiescent

@[expose] public section

set_option maxRecDepth 16384

noncomputable section

/-! For the context's tokens. The claim about the expert feed-forward: kernel and reference leave the same array. -/

namespace Cert.MoeCtxRefIdeal

open Cert.MoeCtxRefIdeal.Gen Idealize.ShloMosaic Idealize.ShloMosaic.TcCoe Idealize.SL.Sem Idealize.ShloMosaic.StableHlo

/-- The reference's run: its result is its operations' composed value over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (Value.run (F := Ideal) m ρ).mono fun r h c => ⟨(h c).1.trans (Read.val_main_v124_eq (launchContents m c)), (h c).2⟩

end Cert.MoeCtxRefIdeal

namespace Cert.MoeCtxClaim

open Idealize.ShloMosaic Idealize.ShloMosaic.TcCoe Idealize.SL.Sem

set_option maxHeartbeats 1600000 in
/-- Over exact arithmetic the expert feed-forward kernel and its reference, run on the same arguments whose expert
    weights are non-negative and finite, end with the same result. -/
theorem algebraic : Cert.algebraic_MoeCtxIdeal_MoeCtxRefIdeal_pre_gates_ctx := by
  pair_intro
  · run_from Cert.MoeCtxIdeal.Gen.run_main m g
  · run_from Cert.MoeCtxRefIdeal.run m' g'
    have hp := fun b n e => Cert.MoeCtxPre.fn_iff _ _ _ _ _ _ _ (hpre c) b n e
    rw [Cert.MoeCtxIdeal.Step.final m c (fun b n e => (hp b n e).1) (fun b n e => (hp b n e).2)]
    funext i
    rw [eq_ix3 i]
    exact Cert.MoeCtxRefIdeal.Value.ref_apply _ _ _ _ _ _ _ _ _ _

end Cert.MoeCtxClaim
-- ==== Proof.FfnCtxSpec.lean ====
module

public import proofs.«01_k».proof.Proof.FfnSpec
public import proofs.«01_k».proof.Proof.Gen.FfnCtxIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! For the context's tokens. The output projection and the dense feed-forward of one token, and the array they make. -/

namespace Cert.FfnCtxIdeal.Step

open Cert.FfnIdeal.Step (resid modulated token halves)
open Cert.FfnCtxIdeal Cert.FfnCtxIdeal.Gen Idealize.ShloMosaic Idealize.ShloMosaic.TcCoe Idealize.SL.Sem

/-- The residual stream at the arguments' coordinates. -/
def residAt (x : FVec Ideal S8x256x1024 .f32) (o : FVec Ideal S8x256x1024 .bf16) (g1 : FVec Ideal S8x1x1024 .f32) (wo : FVec Ideal S1024x1024 .f32)
    (b : Fin 8) (n : Fin 256) : Fin 1024 → EReal :=
  resid (fun j => x (ix3 b n j)) (fun k => o (ix3 b n k)) (fun j => g1 (ix3 b 0 j)) (fun k j => wo (ix2 k j))

/-- The result at the arguments' coordinates. -/
def ffnAt (x : FVec Ideal S8x256x1024 .f32) (o : FVec Ideal S8x256x1024 .bf16) (g1 sh sc g2 : FVec Ideal S8x1x1024 .f32) (ng : FVec Ideal S1024 .f32)
    (wo : FVec Ideal S1024x1024 .f32) (w1 w3 : FVec Ideal S1024x2816 .f32) (w2 : FVec Ideal S2816x1024 .f32) (b : Fin 8) (n : Fin 256) (j : Fin 1024) : EReal :=
  token (residAt x o g1 wo b n) (fun j => ng (ix1 j)) (fun j => sc (ix3 b 0 j)) (fun j => sh (ix3 b 0 j)) (fun j => g2 (ix3 b 0 j))
    (fun k f => w1 (ix2 k f)) (fun k f => w3 (ix2 k f)) (fun f j => w2 (ix2 f j)) j

/-- The same as an array. -/
def ffn (x : FVec Ideal S8x256x1024 .f32) (o : FVec Ideal S8x256x1024 .bf16) (g1 sh sc g2 : FVec Ideal S8x1x1024 .f32) (ng : FVec Ideal S1024 .f32)
    (wo : FVec Ideal S1024x1024 .f32) (w1 w3 : FVec Ideal S1024x2816 .f32) (w2 : FVec Ideal S2816x1024 .f32) : FVec Ideal S8x256x1024 .f32 :=
  fun i => ffnAt x o g1 sh sc g2 ng wo w1 w3 w2 (i 0) (i 1) (i 2)

end Cert.FfnCtxIdeal.Step
-- ==== Proof.FfnCtxBlock.lean ====
module

public import proofs.«01_k».proof.Proof.FfnCtxSpec

@[expose] public section

set_option maxRecDepth 16384

noncomputable section

/-! For the context's tokens. One block of the output projection and feed-forward kernel, in terms of the loads' contents. -/

namespace Cert.FfnCtxIdeal.Step

open Cert.FfnIdeal.Step (resid modulated token halves)
open Cert.FfnCtxIdeal Cert.FfnCtxIdeal.Gen Idealize.ShloMosaic Idealize.ShloMosaic.TcCoe Idealize.SL.Sem

/-- The residual payload at an index. -/
theorem pay2_apply (x : Vec Ideal S1x256x1024 .f32) (g : Vec Ideal S1x1x1024 .f32) (o : Vec Ideal S1x256x1024 .bf16) (w : Vec Ideal S1024x1024 .bf16) (r : Fin 256) (j : Fin 1024) :
    k0_pay2 (F := Ideal) x g o w (ix2 r j)
      = resid (fun j => x (ix3 0 r j)) (fun k => o (ix3 0 r k)) (fun j => g (ix3 0 0 j)) (fun k j => w (ix2 k j)) j := by
  unfold resid
  pointwise [k0_pay2]

/-- The normalised payload, shifted, at an index. -/
theorem pay4_apply (x : Vec Ideal S1x256x1024 .f32) (g : Vec Ideal S1x1x1024 .f32) (o : Vec Ideal S1x256x1024 .bf16) (w : Vec Ideal S1024x1024 .bf16)
    (ng : Vec Ideal S1x1024 .f32) (sc sh : Vec Ideal S1x1x1024 .f32) (r : Fin 256) (j : Fin 1024) :
    k0_pay4 (F := Ideal) x g o w ng sc (ix2 r j) + k0_pay3 (F := Ideal) sh (ix2 0 j)
      = modulated (fun j => k0_pay2 (F := Ideal) x g o w (ix2 r j)) (fun j => ng (ix2 0 j)) (fun j => sc (ix3 0 0 j)) (fun j => sh (ix3 0 0 j)) j := by
  unfold modulated
  pointwise [k0_pay4, k0_pay3]

/-- The body's last payload at an index, the two halves of the hidden width apart. -/
theorem pay5_apply (x : FVec Ideal S256x1024 .f32) (sh : FVec Ideal S1x1024 .f32) (h : FVec Ideal S256x1024 .f32)
    (a1 a3 : Vec Ideal S1024x1408 .bf16) (a2 : Vec Ideal S1408x1024 .bf16) (b1 b3 : Vec Ideal S1024x1408 .bf16) (b2 : Vec Ideal S1408x1024 .bf16)
    (g : Vec Ideal S1x1x1024 .f32) (r : Fin 256) (j : Fin 1024) (w1 w3 : Fin 1024 → Fin 2816 → EReal) (w2 : Fin 2816 → Fin 1024 → EReal)
    (ha1 : ∀ k f, a1 (ix2 k f) = w1 k ⟨f.val, by omega⟩) (ha3 : ∀ k f, a3 (ix2 k f) = w3 k ⟨f.val, by omega⟩) (ha2 : ∀ f k, a2 (ix2 f k) = w2 ⟨f.val, by omega⟩ k)
    (hb1 : ∀ k f, b1 (ix2 k f) = w1 k ⟨1408 + f.val, by omega⟩) (hb3 : ∀ k f, b3 (ix2 k f) = w3 k ⟨1408 + f.val, by omega⟩)
    (hb2 : ∀ f k, b2 (ix2 f k) = w2 ⟨1408 + f.val, by omega⟩ k) :
    k0_pay5 (F := Ideal) x sh h a1 a3 a2 b1 b3 b2 g (ix2 r j)
      = x (ix2 r j) + g (ix3 0 0 j) * ∑ f : Fin 2816, Cert.FfnIdeal.Step.hidden (fun k => h (ix2 r k) + sh (ix2 0 k)) w1 w3 f * w2 f j := by
  rw [halves]
  unfold Cert.FfnIdeal.Step.hidden
  simp only [← ha1, ← ha3, ← ha2, ← hb1, ← hb3, ← hb2]
  pointwise [k0_pay5]

/-- Two coordinates with the values of an index make that index. -/
theorem idx2 (n0 n1 : Nat) (i : (⟨2, ![n0, n1]⟩ : Shape).Idx) (a : Fin n0) (b : Fin n1) (h0 : (i 0).val = a.val) (h1 : (i 1).val = b.val) : i = ix2 a b := by
  funext k
  match k with
  | ⟨0, _⟩ => exact Fin.ext h0
  | ⟨1, _⟩ => exact Fin.ext h1

/-- The stored block at an index, from the contents of the input blocks. -/
theorem block_apply (x : Vec Ideal S1x256x1024 .f32) (o : Vec Ideal S1x256x1024 .bf16) (g1 sh sc g2 : Vec Ideal S1x1x1024 .f32) (ng : Vec Ideal S1x1024 .f32)
    (wo : Vec Ideal S1024x1024 .bf16) (w1 w3 : Vec Ideal S1024x2816 .bf16) (w2 : Vec Ideal S2816x1024 .bf16) (z : Fin 1) (r : Fin 256) (j : Fin 1024) :
    out0_11 (F := Ideal) x o g1 sh sc g2 ng wo w1 w3 w2 (ix3 z r j)
      = token (resid (fun j => x (ix3 0 r j)) (fun k => o (ix3 0 r k)) (fun j => g1 (ix3 0 0 j)) (fun k j => wo (ix2 k j)))
        (fun j => ng (ix2 0 j)) (fun j => sc (ix3 0 0 j)) (fun j => sh (ix3 0 0 j)) (fun j => g2 (ix3 0 0 j))
        (fun k f => w1 (ix2 k f)) (fun k f => w3 (ix2 k f)) (fun f j => w2 (ix2 f j)) j := by
  unfold out0_11
  frame_out
  have h1 : ∀ v : FVec Ideal S256x1024 .f32, k0_pay1 (F := Ideal) v (ix3 z r j) = v (ix2 r j) := fun v => by pointwise [k0_pay1]
  rw [h1]
  refine (pay5_apply _ _ _ _ _ _ _ _ _ _ r j (fun k f => w1 (ix2 k f)) (fun k f => w3 (ix2 k f)) (fun f j => w2 (ix2 f j)) ?_ ?_ ?_ ?_ ?_ ?_).trans ?_
  · intro a b
    exact congrArg w1 (idx2 _ _ _ _ _ (by show 0 + 1 * a.val = a.val; omega) (by show 0 + 1 * b.val = b.val; omega))
  · intro a b
    exact congrArg w3 (idx2 _ _ _ _ _ (by show 0 + 1 * a.val = a.val; omega) (by show 0 + 1 * b.val = b.val; omega))
  · intro a b
    exact congrArg w2 (idx2 _ _ _ _ _ (by show 0 + 1 * a.val = a.val; omega) (by show 0 + 1 * b.val = b.val; omega))
  · intro a b
    exact congrArg w1 (idx2 _ _ _ _ _ (by show 0 + 1 * a.val = a.val; omega) (by show 1408 + 1 * b.val = 1408 + b.val; omega))
  · intro a b
    exact congrArg w3 (idx2 _ _ _ _ _ (by show 0 + 1 * a.val = a.val; omega) (by show 1408 + 1 * b.val = 1408 + b.val; omega))
  · intro a b
    exact congrArg w2 (idx2 _ _ _ _ _ (by show 1408 + 1 * a.val = 1408 + a.val; omega) (by show 0 + 1 * b.val = b.val; omega))
  unfold token
  simp only [pay4_apply, pay2_apply]

end Cert.FfnCtxIdeal.Step
-- ==== Proof.FfnCtxKernel.lean ====
module

public import proofs.«01_k».proof.Proof.FfnCtxBlock
public import Idealize.ShloMosaic.Lib.Pipeline.Covers

@[expose] public section

set_option maxRecDepth 16384

noncomputable section

/-! For the context's tokens. The array that the output projection and feed-forward kernel leaves, at every coordinate. -/

namespace Cert.FfnCtxIdeal.Step

open Cert.FfnIdeal.Step (resid modulated token halves)
open Cert.FfnCtxIdeal Cert.FfnCtxIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![0, 0] ∧ win0_7.index t = ![0, 0] ∧ win0_8.index t = ![0, 0]
    ∧ win0_9.index t = ![0, 0] ∧ win0_10.index t = ![0, 0] ∧ win0_11.index t = ![t.val, 0, 0] :=
  (by decide +kernel : ∀ t : Fin grid0.N, _)

/-- The blocks written back tile the result. -/
theorem covers : (cfg0.win 11).Covers := by
  refine (cfg0.win 11).covers_of_indexMap_surj rfl (by decide) fun β => ?_
  have h0 : (β ⟨0, by decide⟩).val < 8 := lt_of_lt_of_eq (β ⟨0, by decide⟩).isLt (by decide : (cfg0.win 11).nblk ⟨0, by decide⟩ = 8)
  have h1 : (β ⟨1, by decide⟩).val < 1 := lt_of_lt_of_eq (β ⟨1, by decide⟩).isLt (by decide : (cfg0.win 11).nblk ⟨1, by decide⟩ = 1)
  have h2 : (β ⟨2, by decide⟩).val < 1 := lt_of_lt_of_eq (β ⟨2, by decide⟩).isLt (by decide : (cfg0.win 11).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 1), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- The result array after the run. -/
theorem final (c : Dev nD) :
    (dats m 0 c).arrAt 11 cfg0.N = ffn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  refine (dats m 0 c).arrAt_eq_of_covers 11 _ covers fun t hf y => ?_
  have hN : t.val < 8 := lt_of_lt_of_eq t.isLt (show cfg0.N = 8 from N_0)
  blk_simp
  rw [after0_11]
  idx_vars y
  rw [block_apply]
  have hb : t.val < 8 := by omega
  have hn : y1.val < 256 := by have := y1.isLt; omega
  have he : ((View.whole main_v5).slice (win0_11.rect t)).emb (ix3 y0 y1 y2) = (ix3 ⟨t.val, hb⟩ ⟨_, hn⟩ y2 : S8x256x1024.Idx) := by
    blk_ext [idx t]
  rw [he]
  show _ = ffnAt _ _ _ _ _ _ _ _ _ _ _ ⟨t.val, hb⟩ ⟨_, hn⟩ y2
  have e0 : ∀ j, (show FVec Ideal S1x256x1024 .f32 from iblk m c 0 t) (ix3 0 y1 j) = (show FVec Ideal S8x256x1024 .f32 from m ((c : Thread nD τ).loc main_arg0)) (ix3 ⟨t.val, hb⟩ ⟨_, hn⟩ j) := fun j => by
    blk_point [iblk, V, idx t]
  have e1 : ∀ j, (show FVec Ideal S1x256x1024 .bf16 from iblk m c 1 t) (ix3 0 y1 j) = (show FVec Ideal S8x256x1024 .bf16 from m ((c : Thread nD τ).loc main_arg1)) (ix3 ⟨t.val, hb⟩ ⟨_, hn⟩ j) := fun j => by
    blk_point [iblk, V, idx t]
  have e2 : ∀ j, (show FVec Ideal S1x1x1024 .f32 from iblk m c 2 t) (ix3 0 0 j) = (show FVec Ideal S8x1x1024 .f32 from m ((c : Thread nD τ).loc main_arg2)) (ix3 ⟨t.val, hb⟩ 0 j) := fun j => by
    blk_point [iblk, V, idx t]
  have e3 : ∀ j, (show FVec Ideal S1x1x1024 .f32 from iblk m c 3 t) (ix3 0 0 j) = (show FVec Ideal S8x1x1024 .f32 from m ((c : Thread nD τ).loc main_arg3)) (ix3 ⟨t.val, hb⟩ 0 j) := fun j => by
    blk_point [iblk, V, idx t]
  have e4 : ∀ j, (show FVec Ideal S1x1x1024 .f32 from iblk m c 4 t) (ix3 0 0 j) = (show FVec Ideal S8x1x1024 .f32 from m ((c : Thread nD τ).loc main_arg4)) (ix3 ⟨t.val, hb⟩ 0 j) := fun j => by
    blk_point [iblk, V, idx t]
  have e5 : ∀ j, (show FVec Ideal S1x1x1024 .f32 from iblk m c 5 t) (ix3 0 0 j) = (show FVec Ideal S8x1x1024 .f32 from m ((c : Thread nD τ).loc main_arg5)) (ix3 ⟨t.val, hb⟩ 0 j) := fun j => by
    blk_point [iblk, V, idx t]
  have e6 : ∀ j, (show FVec Ideal S1x1024 .f32 from iblk m c 6 t) (ix2 0 j) = (show FVec Ideal S1024 .f32 from m ((c : Thread nD τ).loc main_arg6)) (ix1 j) := fun j => by
    blk_point [iblk, V, idx t]
  have e7 : ∀ k j, (show FVec Ideal S1024x1024 .bf16 from iblk m c 7 t) (ix2 k j) = (show FVec Ideal S1024x1024 .f32 from m ((c : Thread nD τ).loc main_arg7)) (ix2 k j) := fun k j => by
    blk_point [iblk, V, idx t]
  have e8 : ∀ k j, (show FVec Ideal S1024x2816 .bf16 from iblk m c 8 t) (ix2 k j) = (show FVec Ideal S1024x2816 .f32 from m ((c : Thread nD τ).loc main_arg8)) (ix2 k j) := fun k j => by
    blk_point [iblk, V, idx t]
  have e9 : ∀ k j, (show FVec Ideal S1024x2816 .bf16 from iblk m c 9 t) (ix2 k j) = (show FVec Ideal S1024x2816 .f32 from m ((c : Thread nD τ).loc main_arg9)) (ix2 k j) := fun k j => by
    blk_point [iblk, V, idx t]
  have e10 : ∀ k j, (show FVec Ideal S2816x1024 .bf16 from iblk m c 10 t) (ix2 k j) = (show FVec Ideal S2816x1024 .f32 from m ((c : Thread nD τ).loc main_arg10)) (ix2 k j) := fun k j => by
    blk_point [iblk, V, idx t]
  unfold ffnAt residAt
  exact congr (congr (congr (congr (congr (congr (congr (congr (congrArg token
    (congr (congr (congr (congrArg resid (funext e0)) (funext e1)) (funext e2)) (funext fun k => funext (e7 k)))) (funext e6)) (funext e4)) (funext e3)) (funext e5))
    (funext fun k => funext (e8 k))) (funext fun k => funext (e9 k))) (funext fun k => funext (e10 k))) rfl

end Cert.FfnCtxIdeal.Step
-- ==== Proof.FfnCtxRef.lean ====
module

public import proofs.«01_k».proof.Proof.FfnCtxSpec
public import proofs.«01_k».proof.Proof.Gen.FfnCtxRefIdeal.Read

@[expose] public section

set_option maxRecDepth 16384

noncomputable section

/-! For the context's tokens. The reference's output projection and feed-forward, read at every coordinate. -/

namespace Cert.FfnCtxRefIdeal.Value

open Cert.FfnCtxRefIdeal Cert.FfnCtxRefIdeal.Gen Cert.FfnCtxRefIdeal.Read Idealize.ShloMosaic Idealize.ShloMosaic.TcCoe Idealize.SL.Sem
open Idealize.ShloMosaic.StableHlo Cert.FfnCtxIdeal.Step
open Cert.FfnIdeal.Step (resid modulated token)

variable (x0 : FVec Ideal S8x256x1024 .f32) (x1 : FVec Ideal S8x256x1024 .bf16) (x2 x3 x4 x5 : FVec Ideal S8x1x1024 .f32) (x6 : FVec Ideal S1024 .f32)
    (x7 : FVec Ideal S1024x1024 .f32) (x8 x9 : FVec Ideal S1024x2816 .f32) (x10 : FVec Ideal S2816x1024 .f32)

/-- The residual stream at an index. -/
theorem v4 (b : Fin 8) (n : Fin 256) (j : Fin 1024) : val_main_v4 (F := Ideal) x0 x1 x2 x7 (ix3 b n j) = residAt x0 x1 x2 x7 b n j := by
  unfold residAt resid
  pointwise [val_main_v4, val_main_v3, val_main_v2, val_main_v1, val_main_v0]

/-- The modulated stream at an index. -/
theorem v23 (b : Fin 8) (n : Fin 256) (j : Fin 1024) : val_main_v23 (F := Ideal) x0 x1 x2 x3 x4 x6 x7 (ix3 b n j)
    = modulated (residAt x0 x1 x2 x7 b n) (fun j => x6 (ix1 j)) (fun j => x4 (ix3 b 0 j)) (fun j => x3 (ix3 b 0 j)) j := by
  unfold modulated
  pointwise [val_main_v23, val_main_v22, val_main_v21, val_main_v20, val_main_v19, val_main_v18, val_main_cst_2, val_main_v17, val_main_v16, val_main_v15,
    val_main_v14, val_main_v13, val_main_v12, val_main_v11, val_main_v10, val_main_cst_1, val_main_v9, val_main_v8, val_main_cst_0, val_main_v7, val_main_v6,
    val_main_cst, val_main_v5, v4]

/-- The gated hidden value at an index. -/
theorem v27 (b : Fin 8) (n : Fin 256) (f : Fin 2816) : val_main_v27 (F := Ideal) x0 x1 x2 x3 x4 x6 x7 x8 x9 (ix3 b n f)
    = Cert.FfnIdeal.Step.hidden (modulated (residAt x0 x1 x2 x7 b n) (fun j => x6 (ix1 j)) (fun j => x4 (ix3 b 0 j)) (fun j => x3 (ix3 b 0 j)))
        (fun k f => x8 (ix2 k f)) (fun k f => x9 (ix2 k f)) f := by
  unfold Cert.FfnIdeal.Step.hidden
  pointwise [val_main_v27, val_main_v26, val_main_v25, val_main_call0_v5, val_main_call0_v4, val_main_call0_cst_0, val_main_call0_v3, val_main_call0_v2,
    val_main_call0_cst, val_main_call0_v1, val_main_call0_v0, val_main_v24, v23]
  rfl

/-- The reference's result at an index. -/
theorem ref_apply (b : Fin 8) (n : Fin 256) (j : Fin 1024) : val_main_v31 (F := Ideal) x0 x1 x2 x3 x4 x5 x6 x7 x8 x9 x10 (ix3 b n j)
    = ffnAt x0 x1 x2 x3 x4 x5 x6 x7 x8 x9 x10 b n j := by
  unfold ffnAt token
  pointwise [val_main_v31, val_main_v30, val_main_v29, val_main_v28, v27, v4]

end Cert.FfnCtxRefIdeal.Value
-- ==== Proof.FfnCtxClaim.lean ====
module

public import proofs.«01_k».proof.Defs
public import proofs.«01_k».proof.Proof.FfnCtxKernel
public import proofs.«01_k».proof.Proof.FfnCtxRef
public import Idealize.ShloMosaic.Lib.Claim
public import Idealize.ShloMosaic.Lib.Quiescent

@[expose] public section

set_option maxRecDepth 16384

noncomputable section

/-! For the context's tokens. The claim about the output projection and the dense feed-forward: kernel and reference leave the same array. -/

namespace Cert.FfnCtxRefIdeal

open Cert.FfnCtxRefIdeal.Gen Idealize.ShloMosaic Idealize.ShloMosaic.TcCoe Idealize.SL.Sem Idealize.ShloMosaic.StableHlo

/-- The reference's run: its result is its operations' composed value over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (Value.run (F := Ideal) m ρ).mono fun r h c => ⟨(h c).1.trans (Read.val_main_v31_eq m c), (h c).2⟩

end Cert.FfnCtxRefIdeal

namespace Cert.FfnCtxClaim

open Idealize.ShloMosaic Idealize.ShloMosaic.TcCoe Idealize.SL.Sem

set_option maxHeartbeats 1600000 in
/-- Over exact arithmetic the output projection and feed-forward kernel and its reference, run on the same arguments,
    end with the same result. -/
theorem algebraic : Cert.algebraic_FfnCtxIdeal_FfnCtxRefIdeal := by
  pair_intro
  · run_from Cert.FfnCtxIdeal.Gen.run_main m g
  · run_from Cert.FfnCtxRefIdeal.run m' g'
    rw [Cert.FfnCtxIdeal.Step.final m c]
    funext i
    rw [eq_ix3 i]
    exact Cert.FfnCtxRefIdeal.Value.ref_apply _ _ _ _ _ _ _ _ _ _ _ _ _ _

end Cert.FfnCtxClaim
-- ==== Proof.RgOutCtxSpec.lean ====
module

public import proofs.«01_k».proof.Proof.FfnSpec
public import proofs.«01_k».proof.Proof.Gen.RgOutCtxIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! For the context's tokens. The recurrent block's output projection of a token and the norm after it, and the arrays they make. -/

namespace Cert.RgOutCtxIdeal.Step

open Cert.RgOutCtxIdeal Cert.RgOutCtxIdeal.Gen Idealize.ShloMosaic Idealize.ShloMosaic.TcCoe Idealize.SL.Sem
open Cert.FfnIdeal.Step (resid modulated)

/-- The residual stream at the arguments' coordinates: the two directions' states, summed and gated, are projected. -/
def residAt (x : FVec Ideal S8x256x1024 .f32) (hf hb gl : FVec Ideal S8x256x1024 .bf16) (g1 : FVec Ideal S8x1x1024 .f32)
    (w : FVec Ideal S1024x1024 .f32) (b : Fin 8) (n : Fin 256) : Fin 1024 → EReal :=
  resid (fun j => x (ix3 b n j)) (fun k => (hf (ix3 b n k) + hb (ix3 b n k)) * gl (ix3 b n k)) (fun j => g1 (ix3 b 0 j)) (fun k j => w (ix2 k j))

/-- The modulated stream at the arguments' coordinates. -/
def normAt (x : FVec Ideal S8x256x1024 .f32) (hf hb gl : FVec Ideal S8x256x1024 .bf16) (g1 : FVec Ideal S8x1x1024 .f32)
    (sh sc : FVec Ideal S8x1x1024 .f32) (ng : FVec Ideal S1024 .f32) (w : FVec Ideal S1024x1024 .f32) (b : Fin 8) (n : Fin 256) : Fin 1024 → EReal :=
  modulated (residAt x hf hb gl g1 w b n) (fun j => ng (ix1 j)) (fun j => sc (ix3 b 0 j)) (fun j => sh (ix3 b 0 j))

/-- The residual stream as an array. -/
def stream (x : FVec Ideal S8x256x1024 .f32) (hf hb gl : FVec Ideal S8x256x1024 .bf16) (g1 : FVec Ideal S8x1x1024 .f32)
    (w : FVec Ideal S1024x1024 .f32) : FVec Ideal S8x256x1024 .f32 :=
  fun i => residAt x hf hb gl g1 w (i 0) (i 1) (i 2)

/-- The modulated stream as an array. -/
def norm (x : FVec Ideal S8x256x1024 .f32) (hf hb gl : FVec Ideal S8x256x1024 .bf16) (g1 : FVec Ideal S8x1x1024 .f32)
    (sh sc : FVec Ideal S8x1x1024 .f32) (ng : FVec Ideal S1024 .f32) (w : FVec Ideal S1024x1024 .f32) : FVec Ideal S8x256x1024 .bf16 :=
  fun i => normAt x hf hb gl g1 sh sc ng w (i 0) (i 1) (i 2)

end Cert.RgOutCtxIdeal.Step
-- ==== Proof.RgOutCtxBlock.lean ====
module

public import proofs.«01_k».proof.Proof.RgOutCtxSpec

@[expose] public section

set_option maxRecDepth 16384

noncomputable section

/-! For the context's tokens. One block of the recurrent block's output kernel, in terms of the input blocks' contents. -/

namespace Cert.RgOutCtxIdeal.Step

open Cert.RgOutCtxIdeal Cert.RgOutCtxIdeal.Gen Idealize.ShloMosaic Idealize.ShloMosaic.TcCoe Idealize.SL.Sem
open Cert.FfnIdeal.Step (resid modulated)

/-- The residual payload at an index. -/
theorem pay2_apply (hf hb gl : Vec Ideal S1x256x1024 .bf16) (x : Vec Ideal S1x256x1024 .f32) (g : Vec Ideal S1x1x1024 .f32) (w : Vec Ideal S1024x1024 .bf16)
    (r : Fin 256) (j : Fin 1024) : k0_pay2 (F := Ideal) hf hb gl x g w (ix2 r j)
      = resid (fun j => x (ix3 0 r j)) (fun k => (hf (ix3 0 r k) + hb (ix3 0 r k)) * gl (ix3 0 r k)) (fun j => g (ix3 0 0 j)) (fun k j => w (ix2 k j)) j := by
  unfold resid
  pointwise [k0_pay2]

/-- The modulated payload at an index. -/
theorem pay6_apply (v : FVec Ideal S256x1024 .f32) (ng : Vec Ideal S1x1024 .f32) (sh sc : Vec Ideal S1x1x1024 .f32) (r : Fin 256) (j : Fin 1024) :
    k0_pay6 (F := Ideal) v (k0_pay4 (F := Ideal) ng) (k0_pay5 (F := Ideal) sh) sc (ix2 r j)
      = modulated (fun j => v (ix2 r j)) (fun j => ng (ix2 0 j)) (fun j => sc (ix3 0 0 j)) (fun j => sh (ix3 0 0 j)) j := by
  unfold modulated
  pointwise [k0_pay6, k0_pay5, k0_pay4]

variable (x0 : Vec Ideal S1x256x1024 .f32) (x1 x2 x3 : Vec Ideal S1x256x1024 .bf16) (x4 x5 x6 : Vec Ideal S1x1x1024 .f32) (x7 : Vec Ideal S1x1024 .f32)
    (x8 : Vec Ideal S1024x1024 .bf16) (x9 : Vec Ideal S1024x128 .f32)

/-- A row of the block's residual stream, from the input blocks. -/
def rrow (r : Fin 256) : Fin 1024 → EReal :=
  resid (fun j => x0 (ix3 0 r j)) (fun k => (x1 (ix3 0 r k) + x2 (ix3 0 r k)) * x3 (ix3 0 r k)) (fun j => x4 (ix3 0 0 j)) (fun k j => x8 (ix2 k j))

/-- The stored block of the residual stream at an index. -/
theorem stream_block (z : Fin 1) (r : Fin 256) (j : Fin 1024) :
    out0_10 (F := Ideal) x0 x1 x2 x3 x4 x5 x6 x7 x8 x9 (ix3 z r j) = rrow x0 x1 x2 x3 x4 x8 r j := by
  unfold out0_10
  frame_out
  have h3 : k0_pay3 (F := Ideal) x1 x2 x3 x0 x4 x8 (ix3 z r j) = k0_pay2 (F := Ideal) x1 x2 x3 x0 x4 x8 (ix2 r j) := by pointwise [k0_pay3]
  rw [h3, pay2_apply]
  rfl

/-- The stored block of the modulated stream at an index. -/
theorem norm_block (z : Fin 1) (r : Fin 256) (j : Fin 1024) :
    out0_11 (F := Ideal) x0 x1 x2 x3 x4 x5 x6 x7 x8 x9 (ix3 z r j)
      = modulated (rrow x0 x1 x2 x3 x4 x8 r) (fun j => x7 (ix2 0 j)) (fun j => x6 (ix3 0 0 j)) (fun j => x5 (ix3 0 0 j)) j := by
  unfold_out out0_11
  frame_out
  have h7 : ∀ v a b c, k0_pay7 (F := Ideal) v a b c (ix3 z r j) = k0_pay6 (F := Ideal) v a b c (ix2 r j) := fun v a b c => by pointwise [k0_pay7]
  rw [h7, pay6_apply]
  exact congrFun (congrArg (fun f => modulated f _ _ _) (funext fun k => pay2_apply x1 x2 x3 x0 x4 x8 r k)) j

end Cert.RgOutCtxIdeal.Step
-- ==== Proof.RgOutCtxKernel.lean ====
module

public import proofs.«01_k».proof.Proof.RgOutCtxBlock
public import Idealize.ShloMosaic.Lib.Pipeline.Covers

@[expose] public section

set_option maxRecDepth 16384

noncomputable section

/-! For the context's tokens. The arrays that the recurrent block's output kernel leaves, at every coordinate. -/

namespace Cert.RgOutCtxIdeal.Step

open Cert.RgOutCtxIdeal Cert.RgOutCtxIdeal.Gen Idealize.ShloMosaic Idealize.ShloMosaic.TcCoe Idealize.SL.Sem
open Cert.FfnIdeal.Step (resid modulated)

variable (m : (ℓ : Loc nD τ sig) → Buf (Elt Ideal) ℓ)

/-- Which block of each array a grid point reads or writes. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![0, 0] ∧ win0_8.index t = ![0, 0]
    ∧ win0_9.index t = ![0, 0] ∧ win0_10.index t = ![t.val, 0, 0] ∧ win0_11.index t = ![t.val, 0, 0] :=
  (by decide +kernel : ∀ t : Fin grid0.N, _)

/-- The blocks written back tile each result. -/
theorem covers10 : (cfg0.win 10).Covers := by
  refine (cfg0.win 10).covers_of_indexMap_surj rfl (by decide) fun β => ?_
  have h0 : (β ⟨0, by decide⟩).val < 8 := lt_of_lt_of_eq (β ⟨0, by decide⟩).isLt (by decide : (cfg0.win 10).nblk ⟨0, by decide⟩ = 8)
  have h1 : (β ⟨1, by decide⟩).val < 1 := lt_of_lt_of_eq (β ⟨1, by decide⟩).isLt (by decide : (cfg0.win 10).nblk ⟨1, by decide⟩ = 1)
  have h2 : (β ⟨2, by decide⟩).val < 1 := lt_of_lt_of_eq (β ⟨2, by decide⟩).isLt (by decide : (cfg0.win 10).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 1), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

@[inherit_doc covers10]
theorem covers11 : (cfg0.win 11).Covers := by
  refine (cfg0.win 11).covers_of_indexMap_surj rfl (by decide) fun β => ?_
  have h0 : (β ⟨0, by decide⟩).val < 8 := lt_of_lt_of_eq (β ⟨0, by decide⟩).isLt (by decide : (cfg0.win 11).nblk ⟨0, by decide⟩ = 8)
  have h1 : (β ⟨1, by decide⟩).val < 1 := lt_of_lt_of_eq (β ⟨1, by decide⟩).isLt (by decide : (cfg0.win 11).nblk ⟨1, by decide⟩ = 1)
  have h2 : (β ⟨2, by decide⟩).val < 1 := lt_of_lt_of_eq (β ⟨2, by decide⟩).isLt (by decide : (cfg0.win 11).nblk ⟨2, by decide⟩ = 1)
  refine ⟨fun a => match a with
      | ⟨0, _⟩ => (⟨(β ⟨0, by decide⟩).val, h0⟩ : Fin 8)
      | ⟨1, _⟩ => (⟨(β ⟨1, by decide⟩).val, h1⟩ : Fin 1), fun a => ?_⟩
  match a with
  | ⟨0, _⟩ =>
    show (BitVec.ofNat 32 (β ⟨0, by decide⟩).val).toNat = (β ⟨0, by decide⟩).val
    rw [BitVec.toNat_ofNat]; exact Nat.mod_eq_of_lt (by omega)
  | ⟨1, _⟩ =>
    show (BitVec.ofNat 32 (β ⟨1, by decide⟩).val).toNat = (β ⟨1, by decide⟩).val
    rw [BitVec.toNat_ofNat]; exact Nat.mod_eq_of_lt (by omega)
  | ⟨2, _⟩ =>
    show 0 = (β ⟨2, by decide⟩).val
    omega

/-- A row of a grid point's residual stream is its token's. -/
theorem rrow_eq (c : Dev nD) (t : Fin cfg0.N) (r : Fin 256) (b : Fin 8) (n : Fin 256) (hb : t.val = b.val) (hn : r.val = n.val) :
    rrow (iblk m c 0 t) (iblk m c 1 t) (iblk m c 2 t) (iblk m c 3 t) (iblk m c 4 t) (iblk m c 8 t) r
      = residAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) b n := by
  have hN : t.val < 8 := lt_of_lt_of_eq t.isLt (show cfg0.N = 8 from N_0)
  have hr := r.isLt
  have e0 : ∀ j, (show FVec Ideal S1x256x1024 .f32 from iblk m c 0 t) (ix3 0 r j) = (show FVec Ideal S8x256x1024 .f32 from m ((c : Thread nD τ).loc main_arg0)) (ix3 b n j) := fun j => by
    blk_point [iblk, V, idx t]
  have e1 : ∀ j, (show FVec Ideal S1x256x1024 .bf16 from iblk m c 1 t) (ix3 0 r j) = (show FVec Ideal S8x256x1024 .bf16 from m ((c : Thread nD τ).loc main_arg1)) (ix3 b n j) := fun j => by
    blk_point [iblk, V, idx t]
  have e2 : ∀ j, (show FVec Ideal S1x256x1024 .bf16 from iblk m c 2 t) (ix3 0 r j) = (show FVec Ideal S8x256x1024 .bf16 from m ((c : Thread nD τ).loc main_arg2)) (ix3 b n j) := fun j => by
    blk_point [iblk, V, idx t]
  have e3 : ∀ j, (show FVec Ideal S1x256x1024 .bf16 from iblk m c 3 t) (ix3 0 r j) = (show FVec Ideal S8x256x1024 .bf16 from m ((c : Thread nD τ).loc main_arg3)) (ix3 b n j) := fun j => by
    blk_point [iblk, V, idx t]
  have e4 : ∀ j, (show FVec Ideal S1x1x1024 .f32 from iblk m c 4 t) (ix3 0 0 j) = (show FVec Ideal S8x1x1024 .f32 from m ((c : Thread nD τ).loc main_arg4)) (ix3 b 0 j) := fun j => by
    blk_point [iblk, V, idx t]
  have e8 : ∀ k j, (show FVec Ideal S1024x1024 .bf16 from iblk m c 8 t) (ix2 k j) = (show FVec Ideal S1024x1024 .f32 from m ((c : Thread nD τ).loc main_arg8)) (ix2 k j) := fun k j => by
    blk_point [iblk, V, idx t]
  unfold rrow residAt
  exact congr (congr (congr (congrArg resid (funext e0)) (funext fun k => congr (congrArg _ (congr (congrArg _ (e1 k)) (e2 k))) (e3 k))) (funext e4)) (funext fun k => funext (e8 k))

/-- The residual stream's array after the run. -/
theorem final_stream (c : Dev nD) : (dats m 0 c).arrAt 10 cfg0.N = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 10 _ covers10 fun t hf y => ?_
  have hN : t.val < 8 := lt_of_lt_of_eq t.isLt (show cfg0.N = 8 from N_0)
  blk_simp
  rw [after0_10]
  idx_vars y
  rw [stream_block]
  have hb : t.val < 8 := by omega
  have hn : y1.val < 256 := by have := y1.isLt; omega
  have he : ((View.whole main_v4_0).slice (win0_10.rect t)).emb (ix3 y0 y1 y2) = (ix3 ⟨t.val, hb⟩ ⟨_, hn⟩ y2 : S8x256x1024.Idx) := by
    blk_ext [idx t]
  rw [he]
  exact congrFun (rrow_eq m c t y1 ⟨t.val, hb⟩ ⟨_, hn⟩ rfl rfl) y2

/-- The modulated stream's array after the run. -/
theorem final_norm (c : Dev nD) : (dats m 0 c).arrAt 11 cfg0.N = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ covers11 fun t hf y => ?_
  have hN : t.val < 8 := lt_of_lt_of_eq t.isLt (show cfg0.N = 8 from N_0)
  blk_simp
  rw [after0_11]
  idx_vars y
  rw [norm_block]
  have hb : t.val < 8 := by omega
  have hn : y1.val < 256 := by have := y1.isLt; omega
  have he : ((View.whole main_v4_1).slice (win0_11.rect t)).emb (ix3 y0 y1 y2) = (ix3 ⟨t.val, hb⟩ ⟨_, hn⟩ y2 : S8x256x1024.Idx) := by
    blk_ext [idx t]
  rw [he]
  show _ = normAt _ _ _ _ _ _ _ _ _ ⟨t.val, hb⟩ ⟨_, hn⟩ y2
  have e5 : ∀ j, (show FVec Ideal S1x1x1024 .f32 from iblk m c 5 t) (ix3 0 0 j) = (show FVec Ideal S8x1x1024 .f32 from m ((c : Thread nD τ).loc main_arg5)) (ix3 ⟨t.val, hb⟩ 0 j) := fun j => by
    blk_point [iblk, V, idx t]
  have e6 : ∀ j, (show FVec Ideal S1x1x1024 .f32 from iblk m c 6 t) (ix3 0 0 j) = (show FVec Ideal S8x1x1024 .f32 from m ((c : Thread nD τ).loc main_arg6)) (ix3 ⟨t.val, hb⟩ 0 j) := fun j => by
    blk_point [iblk, V, idx t]
  have e7 : ∀ j, (show FVec Ideal S1x1024 .f32 from iblk m c 7 t) (ix2 0 j) = (show FVec Ideal S1024 .f32 from m ((c : Thread nD τ).loc main_arg7)) (ix1 j) := fun j => by
    blk_point [iblk, V, idx t]
  unfold normAt
  exact congr (congr (congr (congr (congrArg modulated (rrow_eq m c t y1 ⟨t.val, hb⟩ ⟨_, hn⟩ rfl rfl)) (funext e7)) (funext e6)) (funext e5)) rfl

end Cert.RgOutCtxIdeal.Step
-- ==== Proof.RgOutCtxRef.lean ====
module

public import proofs.«01_k».proof.Proof.RgOutCtxSpec
public import proofs.«01_k».proof.Proof.Gen.RgOutCtxRefIdeal.Read

@[expose] public section

set_option maxRecDepth 16384

noncomputable section

/-! For the context's tokens. The reference's output projection of the recurrent block and the norm after it, read at every coordinate. -/

namespace Cert.RgOutCtxRefIdeal.Value

open Cert.RgOutCtxRefIdeal Cert.RgOutCtxRefIdeal.Gen Cert.RgOutCtxRefIdeal.Read Idealize.ShloMosaic Idealize.ShloMosaic.TcCoe Idealize.SL.Sem
open Idealize.ShloMosaic.StableHlo Cert.RgOutCtxIdeal.Step
open Cert.FfnIdeal.Step (resid modulated)

variable (x0 : FVec Ideal S8x256x1024 .f32) (x1 x2 x3 : FVec Ideal S8x256x1024 .bf16) (x4 x5 x6 : FVec Ideal S8x1x1024 .f32) (x7 : FVec Ideal S1024 .f32)
    (x8 : FVec Ideal S1024x1024 .f32)

/-- The residual stream at an index. -/
theorem stream_apply (b : Fin 8) (n : Fin 256) (j : Fin 1024) : val_main_v8 (F := Ideal) x0 x1 x2 x3 x4 x8 (ix3 b n j) = residAt x0 x1 x2 x3 x4 x8 b n j := by
  unfold residAt resid
  pointwise [val_main_v8, val_main_v7, val_main_v6, val_main_v5, val_main_v4, val_main_v3, val_main_v2, val_main_v1, val_main_v0]

/-- The modulated stream at an index. -/
theorem norm_apply (b : Fin 8) (n : Fin 256) (j : Fin 1024) : val_main_v28 (F := Ideal) x0 x1 x2 x3 x4 x5 x6 x7 x8 (ix3 b n j)
    = normAt x0 x1 x2 x3 x4 x5 x6 x7 x8 b n j := by
  unfold normAt modulated
  pointwise [val_main_v28, val_main_v27, val_main_v26, val_main_v25, val_main_v24, val_main_v23, val_main_v22, val_main_cst_2, val_main_v21, val_main_v20,
    val_main_v19, val_main_v18, val_main_v17, val_main_v16, val_main_v15, val_main_v14, val_main_cst_1, val_main_v13, val_main_v12, val_main_cst_0, val_main_v11,
    val_main_v10, val_main_cst, val_main_v9, stream_apply]

end Cert.RgOutCtxRefIdeal.Value
-- ==== Proof.RgOutCtxClaim.lean ====
module

public import proofs.«01_k».proof.Defs
public import proofs.«01_k».proof.Proof.RgOutCtxKernel
public import proofs.«01_k».proof.Proof.RgOutCtxRef
public import Idealize.ShloMosaic.Lib.Claim
public import Idealize.ShloMosaic.Lib.Quiescent

@[expose] public section

set_option maxRecDepth 16384

noncomputable section

/-! For the context's tokens. The claim about the recurrent block's output projection and the norm after it: kernel and reference leave the same two arrays. -/

namespace Cert.RgOutCtxRefIdeal

open Cert.RgOutCtxRefIdeal.Gen Idealize.ShloMosaic Idealize.ShloMosaic.TcCoe Idealize.SL.Sem Idealize.ShloMosaic.StableHlo

/-- The reference's run: its results are its operations' composed values over the arguments, which stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = Read.val_main_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v28) = Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (Value.run (F := Ideal) m ρ).mono fun r h c => ⟨(h c).1.trans (Read.val_main_v8_eq _ _ _ _ _ _), (h c).2.1.trans (Read.val_main_v28_eq _ _ _ _ _ _ _ _ _), (h c).2.2⟩

end Cert.RgOutCtxRefIdeal

namespace Cert.RgOutCtxClaim

open Idealize.ShloMosaic Idealize.ShloMosaic.TcCoe Idealize.SL.Sem

set_option maxHeartbeats 1600000 in
/-- Over exact arithmetic the recurrent block's output kernel and its reference, run on the same arguments, end with the
    same two results. -/
theorem algebraic : Cert.algebraic_RgOutCtxIdeal_RgOutCtxRefIdeal := by
  pair_intro
  · run_from Cert.RgOutCtxIdeal.Gen.run_main m g
  · run_from Cert.RgOutCtxRefIdeal.run m' g'
    · rw [Cert.RgOutCtxIdeal.Step.final_stream m c]
      funext i
      rw [eq_ix3 i]
      exact Cert.RgOutCtxRefIdeal.Value.stream_apply _ _ _ _ _ _ _ _ _
    · rw [Cert.RgOutCtxIdeal.Step.final_norm m c]
      funext i
      rw [eq_ix3 i]
      exact Cert.RgOutCtxRefIdeal.Value.norm_apply _ _ _ _ _ _ _ _ _ _ _ _

end Cert.RgOutCtxClaim
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.RgIn
public import proofs.«01_k».proof.Proof.Gen.RgIn.Skeleton
public import proofs.«01_k».proof.Proof.Gen.RgIn.Launch
public import proofs.«01_k».proof.Proof.Gen.RgIn.Points
public import proofs.«01_k».proof.Proof.Gen.RgIn.Frame
public import proofs.«01_k».proof.Proof.Gen.RgInIdeal
public import proofs.«01_k».proof.Proof.Gen.RgInIdeal.Skeleton
public import proofs.«01_k».proof.Proof.Gen.RgInIdeal.Launch
public import proofs.«01_k».proof.Proof.Gen.RgInIdeal.Points
public import proofs.«01_k».proof.Proof.Gen.RgInIdeal.Frame
public import proofs.«01_k».proof.Proof.Gen.RgInIdeal.Value
public import proofs.«01_k».proof.Proof.Gen.RgInRefIdeal
public import proofs.«01_k».proof.Proof.Gen.RgInRefIdeal.Run
public import proofs.«01_k».proof.Proof.Gen.RgInRefIdeal.Read
public import proofs.«01_k».proof.Proof.Gen.RgOut
public import proofs.«01_k».proof.Proof.Gen.RgOut.Skeleton
public import proofs.«01_k».proof.Proof.Gen.RgOut.Launch
public import proofs.«01_k».proof.Proof.Gen.RgOut.Points
public import proofs.«01_k».proof.Proof.Gen.RgOut.Frame
public import proofs.«01_k».proof.Proof.Gen.RgOutIdeal
public import proofs.«01_k».proof.Proof.Gen.RgOutIdeal.Skeleton
public import proofs.«01_k».proof.Proof.Gen.RgOutIdeal.Launch
public import proofs.«01_k».proof.Proof.Gen.RgOutIdeal.Points
public import proofs.«01_k».proof.Proof.Gen.RgOutIdeal.Frame
public import proofs.«01_k».proof.Proof.Gen.RgOutIdeal.Value
public import proofs.«01_k».proof.Proof.Gen.RgOutRefIdeal
public import proofs.«01_k».proof.Proof.Gen.RgOutRefIdeal.Run
public import proofs.«01_k».proof.Proof.Gen.RgOutRefIdeal.Read
public import proofs.«01_k».proof.Proof.Gen.Pre_finite_qk
public import proofs.«01_k».proof.Proof.Gen.Pre_gates
public import proofs.«01_k».proof.Proof.Gen.AttnIdeal.Value
public import proofs.«01_k».proof.Proof.Gen.MoeIdeal.Value
public import proofs.«01_k».proof.Proof.Gen.AttnRefIdeal.Run
public import proofs.«01_k».proof.Proof.Gen.AttnRefIdeal.Read
public import proofs.«01_k».proof.Proof.Gen.MoeRefIdeal.Run
public import proofs.«01_k».proof.Proof.Gen.MoeRefIdeal.Read
public import proofs.«01_k».proof.Proof.Gen.MoeCtx
public import proofs.«01_k».proof.Proof.Gen.MoeCtx.Skeleton
public import proofs.«01_k».proof.Proof.Gen.MoeCtx.Launch
public import proofs.«01_k».proof.Proof.Gen.MoeCtx.Points
public import proofs.«01_k».proof.Proof.Gen.MoeCtx.Frame
public import proofs.«01_k».proof.Proof.Gen.MoeCtxIdeal
public import proofs.«01_k».proof.Proof.Gen.MoeCtxIdeal.Skeleton
public import proofs.«01_k».proof.Proof.Gen.MoeCtxIdeal.Launch
public import proofs.«01_k».proof.Proof.Gen.MoeCtxIdeal.Points
public import proofs.«01_k».proof.Proof.Gen.MoeCtxIdeal.Frame
public import proofs.«01_k».proof.Proof.Gen.MoeCtxRefIdeal
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxRefIdeal
public import proofs.«01_k».proof.Proof.Gen.FfnCtxIdeal.Value
public import proofs.«01_k».proof.Proof.Gen.FfnCtxRefIdeal.Run
public import proofs.«01_k».proof.Proof.Gen.FfnCtxRefIdeal.Read
public import proofs.«01_k».proof.Proof.Gen.RgOutCtx
public import proofs.«01_k».proof.Proof.Gen.RgOutCtx.Skeleton
public import proofs.«01_k».proof.Proof.Gen.RgOutCtx.Launch
public import proofs.«01_k».proof.Proof.Gen.RgOutCtx.Points
public import proofs.«01_k».proof.Proof.Gen.RgOutCtx.Frame
public import proofs.«01_k».proof.Proof.Gen.RgOutCtxIdeal
public import proofs.«01_k».proof.Proof.Gen.RgOutCtxIdeal.Skeleton
public import proofs.«01_k».proof.Proof.Gen.RgOutCtxIdeal.Launch
public import proofs.«01_k».proof.Proof.Gen.RgOutCtxIdeal.Points
public import proofs.«01_k».proof.Proof.Gen.RgOutCtxIdeal.Frame
public import proofs.«01_k».proof.Proof.Gen.RgOutCtxIdeal.Value
public import proofs.«01_k».proof.Proof.Gen.RgOutCtxRefIdeal
public import proofs.«01_k».proof.Proof.Gen.RgOutCtxRefIdeal.Run
public import proofs.«01_k».proof.Proof.Gen.RgOutCtxRefIdeal.Read
public import proofs.«01_k».proof.Proof.Gen.MoeCtxIdeal.Value
public import proofs.«01_k».proof.Proof.Gen.MoeCtxRefIdeal.Run
public import proofs.«01_k».proof.Proof.Gen.MoeCtxRefIdeal.Read
public import proofs.«01_k».proof.Proof.Gen.Pre_gates_ctx
public import proofs.«01_k».proof.Proof.AttnClaim
public import proofs.«01_k».proof.Proof.MoeClaim
public import proofs.«01_k».proof.Proof.FfnClaim
public import proofs.«01_k».proof.Proof.RgInClaim
public import proofs.«01_k».proof.Proof.RgOutClaim
public import proofs.«01_k».proof.Proof.MoeCtxClaim
public import proofs.«01_k».proof.Proof.FfnCtxClaim
public import proofs.«01_k».proof.Proof.RgOutCtxClaim
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The references run, keep their arguments and leave every semaphore counter at zero: they hold no semaphores. -/
theorem attnRef : Cert.quiescent_AttnRefIdeal :=
  fun m ρ _ => (θ_run Cert.AttnRefIdeal.defs _ _).mono
    (fun r h => ⟨fun c => (h c).2, Idealize.ShloMosaic.sem_eq_zero_of_no_sems (by decide) r.2⟩) (Cert.AttnRefIdeal.Value.run (F := Ideal) m ρ)

@[inherit_doc attnRef]
theorem moeRef : Cert.quiescent_MoeRefIdeal :=
  fun m ρ _ => (θ_run Cert.MoeRefIdeal.defs _ _).mono
    (fun r h => ⟨fun c => (h c).2, Idealize.ShloMosaic.sem_eq_zero_of_no_sems (by decide) r.2⟩) (Cert.MoeRefIdeal.Value.run (F := Ideal) m ρ)

@[inherit_doc attnRef]
theorem ffnRef : Cert.quiescent_FfnRefIdeal :=
  fun m ρ _ => (θ_run Cert.FfnRefIdeal.defs _ _).mono
    (fun r h => ⟨fun c => (h c).2, Idealize.ShloMosaic.sem_eq_zero_of_no_sems (by decide) r.2⟩) (Cert.FfnRefIdeal.Value.run (F := Ideal) m ρ)

@[inherit_doc attnRef]
theorem rgInRef : Cert.quiescent_RgInRefIdeal :=
  fun m ρ _ => (θ_run Cert.RgInRefIdeal.defs _ _).mono
    (fun r h => ⟨fun c => (h c).2.2, Idealize.ShloMosaic.sem_eq_zero_of_no_sems (by decide) r.2⟩) (Cert.RgInRefIdeal.Value.run (F := Ideal) m ρ)

@[inherit_doc attnRef]
theorem rgOutRef : Cert.quiescent_RgOutRefIdeal :=
  fun m ρ _ => (θ_run Cert.RgOutRefIdeal.defs _ _).mono
    (fun r h => ⟨fun c => (h c).2.2, Idealize.ShloMosaic.sem_eq_zero_of_no_sems (by decide) r.2⟩) (Cert.RgOutRefIdeal.Value.run (F := Ideal) m ρ)

@[inherit_doc attnRef]
theorem moeCtxRef : Cert.quiescent_MoeCtxRefIdeal :=
  fun m ρ _ => (θ_run Cert.MoeCtxRefIdeal.defs _ _).mono
    (fun r h => ⟨fun c => (h c).2, Idealize.ShloMosaic.sem_eq_zero_of_no_sems (by decide) r.2⟩) (Cert.MoeCtxRefIdeal.Value.run (F := Ideal) m ρ)

@[inherit_doc attnRef]
theorem ffnCtxRef : Cert.quiescent_FfnCtxRefIdeal :=
  fun m ρ _ => (θ_run Cert.FfnCtxRefIdeal.defs _ _).mono
    (fun r h => ⟨fun c => (h c).2, Idealize.ShloMosaic.sem_eq_zero_of_no_sems (by decide) r.2⟩) (Cert.FfnCtxRefIdeal.Value.run (F := Ideal) m ρ)

@[inherit_doc attnRef]
theorem rgOutCtxRef : Cert.quiescent_RgOutCtxRefIdeal :=
  fun m ρ _ => (θ_run Cert.RgOutCtxRefIdeal.defs _ _).mono
    (fun r h => ⟨fun c => (h c).2.2, Idealize.ShloMosaic.sem_eq_zero_of_no_sems (by decide) r.2⟩) (Cert.RgOutCtxRefIdeal.Value.run (F := Ideal) m ρ)

/-- Every claim: the frames, the eight readings over the extended reals, and the eight equations. -/
theorem claim : Cert.Claim := ⟨Cert.Attn.Gen.facts, Cert.AttnIdeal.Gen.facts, Cert.AttnRefIdeal.Gen.facts, Cert.Moe.Gen.facts, Cert.MoeIdeal.Gen.facts, Cert.MoeRefIdeal.Gen.facts, Cert.Ffn.Gen.facts, Cert.FfnIdeal.Gen.facts, Cert.FfnRefIdeal.Gen.facts, Cert.RgIn.Gen.facts, Cert.RgInIdeal.Gen.facts, Cert.RgInRefIdeal.Gen.facts, Cert.RgOut.Gen.facts, Cert.RgOutIdeal.Gen.facts, Cert.RgOutRefIdeal.Gen.facts, Cert.MoeCtx.Gen.facts, Cert.MoeCtxIdeal.Gen.facts, Cert.MoeCtxRefIdeal.Gen.facts, Cert.FfnCtx.Gen.facts, Cert.FfnCtxIdeal.Gen.facts, Cert.FfnCtxRefIdeal.Gen.facts, Cert.RgOutCtx.Gen.facts, Cert.RgOutCtxIdeal.Gen.facts, Cert.RgOutCtxRefIdeal.Gen.facts, Cert.Pre_finite_qk.Gen.facts, Cert.Pre_gates.Gen.facts, Cert.Pre_gates_ctx.Gen.facts,
  fun m ρ _ => Cert.Attn.Gen.frame m ρ,
  fun m ρ _ => Cert.AttnIdeal.Gen.frame m ρ,
  fun m ρ _ => Cert.AttnIdeal.Gen.frame m ρ,
  attnRef,
  fun m ρ _ => attnRef m ρ trivial,
  fun m ρ _ => Cert.Moe.Gen.frame m ρ,
  fun m ρ _ => Cert.MoeIdeal.Gen.frame m ρ,
  fun m ρ _ => Cert.MoeIdeal.Gen.frame m ρ,
  moeRef,
  fun m ρ _ => moeRef m ρ trivial,
  fun m ρ _ => Cert.Ffn.Gen.frame m ρ,
  fun m ρ _ => Cert.FfnIdeal.Gen.frame m ρ,
  ffnRef,
  fun m ρ _ => Cert.RgIn.Gen.frame m ρ,
  fun m ρ _ => Cert.RgInIdeal.Gen.frame m ρ,
  rgInRef,
  fun m ρ _ => Cert.RgOut.Gen.frame m ρ,
  fun m ρ _ => Cert.RgOutIdeal.Gen.frame m ρ,
  rgOutRef,
  fun m ρ _ => Cert.MoeCtx.Gen.frame m ρ,
  fun m ρ _ => Cert.MoeCtxIdeal.Gen.frame m ρ,
  fun m ρ _ => Cert.MoeCtxIdeal.Gen.frame m ρ,
  moeCtxRef,
  fun m ρ _ => moeCtxRef m ρ trivial,
  fun m ρ _ => Cert.FfnCtx.Gen.frame m ρ,
  fun m ρ _ => Cert.FfnCtxIdeal.Gen.frame m ρ,
  ffnCtxRef,
  fun m ρ _ => Cert.RgOutCtx.Gen.frame m ρ,
  fun m ρ _ => Cert.RgOutCtxIdeal.Gen.frame m ρ,
  rgOutCtxRef,
  IdealRules.named_const.statement Cert.AttnIdeal.κ "qscale" .f32 0x3DD53B95#32 (((Real.sqrt 192)⁻¹ * (Real.log 2)⁻¹ : ℝ) : EReal) rfl,
  Cert.AttnClaim.algebraic,
  trivial,
  Cert.MoeClaim.algebraic,
  trivial,
  Cert.FfnClaim.algebraic,
  trivial,
  Cert.RgInClaim.algebraic,
  trivial,
  Cert.RgOutClaim.algebraic,
  trivial,
  Cert.MoeCtxClaim.algebraic,
  trivial,
  Cert.FfnCtxClaim.algebraic,
  trivial,
  Cert.RgOutCtxClaim.algebraic⟩

end Cert.Proof

end
